-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v226_0)) (v1 : (c : Dev Cert.KernelIdeal.nD) → Buf (Elt Ideal) ((c.tc : Thread Cert.KernelIdeal.nD Cert.KernelIdeal.τ).loc Cert.KernelIdeal.main_v226_1)) (v2 : (c : Dev Cert.KernelIdeal.nD) → Buf (Elt Ideal) ((c.tc : Thread Cert.KernelIdeal.nD Cert.KernelIdeal.τ).loc Cert.KernelIdeal.main_v227)) (v3 : (c : Dev Cert.KernelIdeal.nD) → Buf (Elt Ideal) ((c.tc : Thread Cert.KernelIdeal.nD Cert.KernelIdeal.τ).loc Cert.KernelIdeal.main_v226_3)) (v4 : (c : Dev Cert.KernelIdeal.nD) → Buf (Elt Ideal) ((c.tc : Thread Cert.KernelIdeal.nD Cert.KernelIdeal.τ).loc Cert.KernelIdeal.main_v226_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v226_0) = v0 c
          ∧ r.2.mem ((c.tc : Thread Cert.KernelIdeal.nD Cert.KernelIdeal.τ).loc Cert.KernelIdeal.main_v226_1) = v1 c
          ∧ r.2.mem ((c.tc : Thread Cert.KernelIdeal.nD Cert.KernelIdeal.τ).loc Cert.KernelIdeal.main_v227) = v2 c
          ∧ r.2.mem ((c.tc : Thread Cert.KernelIdeal.nD Cert.KernelIdeal.τ).loc Cert.KernelIdeal.main_v226_3) = v3 c
          ∧ r.2.mem ((c.tc : Thread Cert.KernelIdeal.nD Cert.KernelIdeal.τ).loc Cert.KernelIdeal.main_v226_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)

variable [Facts]

def fn {F : FTy → Type} [FloatOps F] (main_arg0 : FVec F S16x3x512x512 .f32) : IVec S16x3x512x512 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  main_v2
-- ==== Kernel.lean ====
abbrev S16x3x512x512 : Shape := ⟨4, ![16, 3, 512, 512]⟩
abbrev S512 : Shape := ⟨1, ![512]⟩
abbrev S_ : Shape := ⟨0, ![]⟩
abbrev S512x512 : Shape := ⟨2, ![512, 512]⟩
abbrev S100 : Shape := ⟨1, ![100]⟩
abbrev S1 : Shape := ⟨1, ![1]⟩
abbrev S101 : Shape := ⟨1, ![101]⟩
abbrev S28 : Shape := ⟨1, ![28]⟩
abbrev S128 : Shape := ⟨1, ![128]⟩
abbrev S1x1x128 : Shape := ⟨3, ![1, 1, 128]⟩
abbrev S512x1 : Shape := ⟨2, ![512, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x768 : Shape := ⟨2, ![256, 768]⟩
abbrev S768x256 : Shape := ⟨2, ![768, 256]⟩
abbrev S16x1x1 : Shape := ⟨3, ![16, 1, 1]⟩
abbrev S16x1x512x512 : Shape := ⟨4, ![16, 1, 512, 512]⟩
abbrev S1x2x512x512 : Shape := ⟨4, ![1, 2, 512, 512]⟩
abbrev S1x1x1 : Shape := ⟨3, ![1, 1, 1]⟩
abbrev S1x1x512x512 : Shape := ⟨4, ![1, 1, 512, 512]⟩
abbrev S2x512x512 : Shape := ⟨3, ![2, 512, 512]⟩
abbrev S512x256 : Shape := ⟨2, ![512, 256]⟩
abbrev S512x768 : Shape := ⟨2, ![512, 768]⟩
abbrev S256x512 : Shape := ⟨2, ![256, 512]⟩
abbrev S768x512 : Shape := ⟨2, ![768, 512]⟩
abbrev S1x512x512 : Shape := ⟨3, ![1, 512, 512]⟩
abbrev S1x128 : Shape := ⟨2, ![1, 128]⟩
abbrev S16 : Shape := ⟨1, ![16]⟩

abbrev nBuf : Space → Nat
  | .hbm => 288
  | .vmem => 43
  | .smem => 0
  | _ => 0

abbrev hbmTy0_0 (i : Nat) : BufTy := match i % 128 with
  | 0 => ⟨S16x3x512x512, .f32⟩
  | 1 => ⟨S512, .i32⟩
  | 2 => ⟨S512, .i1⟩
  | 3 => ⟨S512, .i1⟩
  | 4 => ⟨S512, .i1⟩
  | 5 => ⟨S512, .i1⟩
  | 6 => ⟨S512, .f32⟩
  | 7 => ⟨S_, .f32⟩
  | 8 => ⟨S512, .f32⟩
  | 9 => ⟨S512, .f32⟩
  | 10 => ⟨S512, .f32⟩
  | 11 => ⟨S_, .f32⟩
  | 12 => ⟨S512, .f32⟩
  | 13 => ⟨S512, .f32⟩
  | 14 => ⟨S_, .f32⟩
  | 15 => ⟨S512, .f32⟩
  | 16 => ⟨S512, .f32⟩
  | 17 => ⟨S_, .f32⟩
  | 18 => ⟨S512, .f32⟩
  | 19 => ⟨S512, .f32⟩
  | 20 => ⟨S512x512, .f32⟩
  | 21 => ⟨S512x512, .f32⟩
  | 22 => ⟨S512x512, .f32⟩
  | 23 => ⟨S512x512, .f32⟩
  | 24 => ⟨S512x512, .f32⟩
  | 25 => ⟨S512x512, .f32⟩
  | 26 => ⟨S_, .f32⟩
  | 27 => ⟨S_, .f32⟩
  | 28 => ⟨S512x512, .f32⟩
  | 29 => ⟨S512x512, .f32⟩
  | 30 => ⟨S_, .f32⟩
  | 31 => ⟨S512x512, .f32⟩
  | 32 => ⟨S512x512, .f32⟩
  | 33 => ⟨S512x512, .f32⟩
  | 34 => ⟨S512x512, .i32⟩
  | 35 => ⟨S_, .i32⟩
  | 36 => ⟨S512x512, .i32⟩
  | 37 => ⟨S512x512, .i1⟩
  | 38 => ⟨S_, .i32⟩
  | 39 => ⟨S_, .i32⟩
  | 40 => ⟨S_, .i32⟩
  | 41 => ⟨S512x512, .i32⟩
  | 42 => ⟨S512x512, .i32⟩
  | 43 => ⟨S_, .i32⟩
  | 44 => ⟨S512x512, .i32⟩
  | 45 => ⟨S512x512, .i32⟩
  | 46 => ⟨S_, .i32⟩
  | 47 => ⟨S_, .i32⟩
  | 48 => ⟨S512x512, .i32⟩
  | 49 => ⟨S512x512, .i32⟩
  | 50 => ⟨S512x512, .f32⟩
  | 51 => ⟨S_, .f32⟩
  | 52 => ⟨S_, .f32⟩
  | 53 => ⟨S_, .f32⟩
  | 54 => ⟨S_, .f32⟩
  | 55 => ⟨S_, .f32⟩
  | 56 => ⟨S100, .f32⟩
  | 57 => ⟨S_, .f32⟩
  | 58 => ⟨S100, .f32⟩
  | 59 => ⟨S100, .f32⟩
  | 60 => ⟨S1, .f32⟩
  | 61 => ⟨S_, .f32⟩
  | 62 => ⟨S100, .f32⟩
  | 63 => ⟨S100, .f32⟩
  | 64 => ⟨S100, .f32⟩
  | 65 => ⟨S100, .f32⟩
  | 66 => ⟨S1, .f32⟩
  | 67 => ⟨S100, .f32⟩
  | 68 => ⟨S100, .f32⟩
  | 69 => ⟨S100, .f32⟩
  | 70 => ⟨S1, .f32⟩
  | 71 => ⟨S101, .f32⟩
  | 72 => ⟨S100, .f32⟩
  | 73 => ⟨S100, .f32⟩
  | 74 => ⟨S100, .f32⟩
  | 75 => ⟨S_, .f32⟩
  | 76 => ⟨S100, .f32⟩
  | 77 => ⟨S100, .f32⟩
  | 78 => ⟨S1, .f32⟩
  | 79 => ⟨S_, .f32⟩
  | 80 => ⟨S28, .f32⟩
  | 81 => ⟨S128, .f32⟩
  | 82 => ⟨S1x1x128, .f32⟩
  | 83 => ⟨S_, .i32⟩
  | 84 => ⟨S512, .i32⟩
  | 85 => ⟨S512, .i32⟩
  | 86 => ⟨S512, .i32⟩
  | 87 => ⟨S512x1, .i32⟩
  | 88 => ⟨S512x512, .f32⟩
  | 89 => ⟨S_, .i32⟩
  | 90 => ⟨S512, .i32⟩
  | 91 => ⟨S512, .i32⟩
  | 92 => ⟨S512, .i32⟩
  | 93 => ⟨S512x1, .i32⟩
  | 94 => ⟨S512x512, .f32⟩
  | 95 => ⟨S_, .i32⟩
  | 96 => ⟨S512, .i32⟩
  | 97 => ⟨S512, .i32⟩
  | 98 => ⟨S512, .i32⟩
  | 99 => ⟨S512x1, .i32⟩
  | 100 => ⟨S512x512, .f32⟩
  | 101 => ⟨S_, .i32⟩
  | 102 => ⟨S512, .i32⟩
  | 103 => ⟨S512, .i32⟩
  | 104 => ⟨S512, .i32⟩
  | 105 => ⟨S512x1, .i32⟩
  | 106 => ⟨S512x512, .f32⟩
  | 107 => ⟨S256, .f32⟩
  | 108 => ⟨S_, .f32⟩
  | 109 => ⟨S256, .f32⟩
  | 110 => ⟨S256, .f32⟩
  | 111 => ⟨S256, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S256x1, .f32⟩
  | 119 => ⟨S1x256, .f32⟩
  | 120 => ⟨S256x256, .f32⟩
  | 121 => ⟨S256x256, .f32⟩
  | 122 => ⟨S256x256, .f32⟩
  | 123 => ⟨S256x256, .f32⟩
  | 124 => ⟨S256x256, .f32⟩
  | 125 => ⟨S256x256, .f32⟩
  | 126 => ⟨S256x256, .f32⟩
  | 127 => ⟨S_, .f32⟩
  | _ => ⟨S16x3x512x512, .f32⟩

abbrev hbmTy0_1 (i : Nat) : BufTy := match i % 128 with
  | 0 => ⟨S_, .f32⟩
  | 1 => ⟨S256, .f32⟩
  | 2 => ⟨S256, .f32⟩
  | 3 => ⟨S_, .f32⟩
  | 4 => ⟨S256, .f32⟩
  | 5 => ⟨S256, .f32⟩
  | 6 => ⟨S256, .f32⟩
  | 7 => ⟨S_, .f32⟩
  | 8 => ⟨S_, .f32⟩
  | 9 => ⟨S256, .f32⟩
  | 10 => ⟨S256, .f32⟩
  | 11 => ⟨S_, .f32⟩
  | 12 => ⟨S256, .f32⟩
  | 13 => ⟨S256, .f32⟩
  | 14 => ⟨S256, .f32⟩
  | 15 => ⟨S1x256, .f32⟩
  | 16 => ⟨S256x256, .f32⟩
  | 17 => ⟨S256x256, .f32⟩
  | 18 => ⟨S1x256, .f32⟩
  | 19 => ⟨S256x256, .f32⟩
  | 20 => ⟨S256x256, .f32⟩
  | 21 => ⟨S256x256, .f32⟩
  | 22 => ⟨S1x256, .f32⟩
  | 23 => ⟨S256x256, .f32⟩
  | 24 => ⟨S256x256, .f32⟩
  | 25 => ⟨S1x256, .f32⟩
  | 26 => ⟨S256x256, .f32⟩
  | 27 => ⟨S256x256, .f32⟩
  | 28 => ⟨S256x256, .f32⟩
  | 29 => ⟨S256x256, .f32⟩
  | 30 => ⟨S256x256, .f32⟩
  | 31 => ⟨S256x256, .f32⟩
  | 32 => ⟨S256x256, .f32⟩
  | 33 => ⟨S256x256, .f32⟩
  | 34 => ⟨S256x256, .bf16⟩
  | 35 => ⟨S256x256, .f32⟩
  | 36 => ⟨S256x256, .f32⟩
  | 37 => ⟨S256x256, .bf16⟩
  | 38 => ⟨S256x768, .bf16⟩
  | 39 => ⟨S256x256, .bf16⟩
  | 40 => ⟨S256x256, .f32⟩
  | 41 => ⟨S256x256, .f32⟩
  | 42 => ⟨S256x256, .bf16⟩
  | 43 => ⟨S256x768, .bf16⟩
  | 44 => ⟨S256x256, .bf16⟩
  | 45 => ⟨S256x256, .f32⟩
  | 46 => ⟨S256x256, .f32⟩
  | 47 => ⟨S256x256, .bf16⟩
  | 48 => ⟨S256x768, .bf16⟩
  | 49 => ⟨S256x256, .bf16⟩
  | 50 => ⟨S256x256, .f32⟩
  | 51 => ⟨S256x256, .f32⟩
  | 52 => ⟨S256x256, .bf16⟩
  | 53 => ⟨S256x768, .bf16⟩
  | 54 => ⟨S256x256, .bf16⟩
  | 55 => ⟨S256x256, .f32⟩
  | 56 => ⟨S256x256, .f32⟩
  | 57 => ⟨S256x256, .bf16⟩
  | 58 => ⟨S256x768, .bf16⟩
  | 59 => ⟨S256x256, .bf16⟩
  | 60 => ⟨S256x256, .f32⟩
  | 61 => ⟨S256x256, .f32⟩
  | 62 => ⟨S256x256, .bf16⟩
  | 63 => ⟨S256x768, .bf16⟩
  | 64 => ⟨S256x256, .bf16⟩
  | 65 => ⟨S256x256, .f32⟩
  | 66 => ⟨S256x256, .f32⟩
  | 67 => ⟨S256x256, .bf16⟩
  | 68 => ⟨S256x768, .bf16⟩
  | 69 => ⟨S256x256, .bf16⟩
  | 70 => ⟨S256x256, .f32⟩
  | 71 => ⟨S256x256, .f32⟩
  | 72 => ⟨S256x256, .bf16⟩
  | 73 => ⟨S256x768, .bf16⟩
  | 74 => ⟨S256x256, .bf16⟩
  | 75 => ⟨S256x256, .f32⟩
  | 76 => ⟨S256x256, .f32⟩
  | 77 => ⟨S256x256, .bf16⟩
  | 78 => ⟨S256x768, .bf16⟩
  | 79 => ⟨S256x256, .bf16⟩
  | 80 => ⟨S256x256, .f32⟩
  | 81 => ⟨S256x256, .f32⟩
  | 82 => ⟨S256x256, .bf16⟩
  | 83 => ⟨S256x768, .bf16⟩
  | 84 => ⟨S256x256, .bf16⟩
  | 85 => ⟨S256x256, .f32⟩
  | 86 => ⟨S256x256, .f32⟩
  | 87 => ⟨S256x256, .bf16⟩
  | 88 => ⟨S256x768, .bf16⟩
  | 89 => ⟨S256x256, .bf16⟩
  | 90 => ⟨S256x256, .f32⟩
  | 91 => ⟨S256x256, .f32⟩
  | 92 => ⟨S256x256, .bf16⟩
  | 93 => ⟨S256x768, .bf16⟩
  | 94 => ⟨S256x256, .bf16⟩
  | 95 => ⟨S256x256, .f32⟩
  | 96 => ⟨S256x256, .f32⟩
  | 97 => ⟨S256x256, .bf16⟩
  | 98 => ⟨S768x256, .bf16⟩
  | 99 => ⟨S256x256, .bf16⟩
  | 100 => ⟨S256x256, .f32⟩
  | 101 => ⟨S256x256, .f32⟩
  | 102 => ⟨S256x256, .bf16⟩
  | 103 => ⟨S768x256, .bf16⟩
  | 104 => ⟨S256x256, .bf16⟩
  | 105 => ⟨S256x256, .f32⟩
  | 106 => ⟨S256x256, .f32⟩
  | 107 => ⟨S256x256, .bf16⟩
  | 108 => ⟨S768x256, .bf16⟩
  | 109 => ⟨S256x256, .bf16⟩
  | 110 => ⟨S256x256, .f32⟩
  | 111 => ⟨S256x256, .f32⟩
  | 112 => ⟨S256x256, .bf16⟩
  | 113 => ⟨S768x256, .bf16⟩
  | 114 => ⟨S256x256, .bf16⟩
  | 115 => ⟨S256x256, .f32⟩
  | 116 => ⟨S256x256, .f32⟩
  | 117 => ⟨S256x256, .bf16⟩
  | 118 => ⟨S768x256, .bf16⟩
  | 119 => ⟨S256x256, .bf16⟩
  | 120 => ⟨S256x256, .f32⟩
  | 121 => ⟨S256x256, .f32⟩
  | 122 => ⟨S256x256, .bf16⟩
  | 123 => ⟨S768x256, .bf16⟩
  | 124 => ⟨S256x256, .bf16⟩
  | 125 => ⟨S256x256, .f32⟩
  | 126 => ⟨S256x256, .f32⟩
  | 127 => ⟨S256x256, .bf16⟩
  | _ => ⟨S16x3x512x512, .f32⟩

abbrev hbmTy0_2 (i : Nat) : BufTy := match i % 128 with
  | 0 => ⟨S768x256, .bf16⟩
  | 1 => ⟨S256x256, .bf16⟩
  | 2 => ⟨S256x256, .f32⟩
  | 3 => ⟨S256x256, .f32⟩
  | 4 => ⟨S256x256, .bf16⟩
  | 5 => ⟨S768x256, .bf16⟩
  | 6 => ⟨S256x256, .bf16⟩
  | 7 => ⟨S256x256, .f32⟩
  | 8 => ⟨S256x256, .f32⟩
  | 9 => ⟨S256x256, .bf16⟩
  | 10 => ⟨S768x256, .bf16⟩
  | 11 => ⟨S256x256, .bf16⟩
  | 12 => ⟨S256x256, .f32⟩
  | 13 => ⟨S256x256, .f32⟩
  | 14 => ⟨S256x256, .bf16⟩
  | 15 => ⟨S768x256, .bf16⟩
  | 16 => ⟨S256x256, .bf16⟩
  | 17 => ⟨S256x256, .f32⟩
  | 18 => ⟨S256x256, .f32⟩
  | 19 => ⟨S256x256, .bf16⟩
  | 20 => ⟨S768x256, .bf16⟩
  | 21 => ⟨S256x256, .bf16⟩
  | 22 => ⟨S256x256, .f32⟩
  | 23 => ⟨S256x256, .f32⟩
  | 24 => ⟨S256x256, .bf16⟩
  | 25 => ⟨S768x256, .bf16⟩
  | 26 => ⟨S16x3x512x512, .f32⟩
  | 27 => ⟨S16x3x512x512, .f32⟩
  | 28 => ⟨S16x1x1, .f32⟩
  | 29 => ⟨S16x1x512x512, .f32⟩
  | 30 => ⟨S16x1x512x512, .f32⟩
  | 31 => ⟨S16, .f32⟩
  | _ => ⟨S16x3x512x512, .f32⟩

abbrev hbmTy (i : Nat) : BufTy := match i / 128 with
  | 0 => hbmTy0_0 i
  | 1 => hbmTy0_1 i
  | 2 => hbmTy0_2 i
  | _ => ⟨S16x3x512x512, .f32⟩

abbrev bufTy : (tb : Table) → Fin (tcTables nBuf tb) → BufTy
  | .hbm, ⟨i, _⟩ => hbmTy i
  | .local _ .vmem, ⟨0, _⟩ => ⟨S1x2x512x512, .f32⟩
  | .local _ .vmem, ⟨1, _⟩ => ⟨S1x2x512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S1x1x128, .f32⟩
  | .local _ .vmem, ⟨6, _⟩ => ⟨S256x768, .bf16⟩
  | .local _ .vmem, ⟨7, _⟩ => ⟨S256x768, .bf16⟩
  | .local _ .vmem, ⟨8, _⟩ => ⟨S256x768, .bf16⟩
  | .local _ .vmem, ⟨9, _⟩ => ⟨S256x768, .bf16⟩
  | .local _ .vmem, ⟨10, _⟩ => ⟨S256x768, .bf16⟩
  | .local _ .vmem, ⟨11, _⟩ => ⟨S256x768, .bf16⟩
  | .local _ .vmem, ⟨12, _⟩ => ⟨S256x768, .bf16⟩
  | .local _ .vmem, ⟨13, _⟩ => ⟨S256x768, .bf16⟩
  | .local _ .vmem, ⟨14, _⟩ => ⟨S256x768, .bf16⟩
  | .local _ .vmem, ⟨15, _⟩ => ⟨S256x768, .bf16⟩
  | .local _ .vmem, ⟨16, _⟩ => ⟨S256x768, .bf16⟩
  | .local _ .vmem, ⟨17, _⟩ => ⟨S256x768, .bf16⟩
  | .local _ .vmem, ⟨18, _⟩ => ⟨S768x256, .bf16⟩
  | .local _ .vmem, ⟨19, _⟩ => ⟨S768x256, .bf16⟩
  | .local _ .vmem, ⟨20, _⟩ => ⟨S768x256, .bf16⟩
  | .local _ .vmem, ⟨21, _⟩ => ⟨S768x256, .bf16⟩
  | .local _ .vmem, ⟨22, _⟩ => ⟨S768x256, .bf16⟩
  | .local _ .vmem, ⟨23, _⟩ => ⟨S768x256, .bf16⟩
  | .local _ .vmem, ⟨24, _⟩ => ⟨S768x256, .bf16⟩
  | .local _ .vmem, ⟨25, _⟩ => ⟨S768x256, .bf16⟩
  | .local _ .vmem, ⟨26, _⟩ => ⟨S768x256, .bf16⟩
  | .local _ .vmem, ⟨27, _⟩ => ⟨S768x256, .bf16⟩
  | .local _ .vmem, ⟨28, _⟩ => ⟨S768x256, .bf16⟩
  | .local _ .vmem, ⟨29, _⟩ => ⟨S768x256, .bf16⟩
  | .local _ .vmem, ⟨30, _⟩ => ⟨S1x2x512x512, .f32⟩
  | .local _ .vmem, ⟨31, _⟩ => ⟨S1x2x512x512, .f32⟩
  | .local _ .vmem, ⟨32, _⟩ => ⟨S1x2x512x512, .f32⟩
  | .local _ .vmem, ⟨33, _⟩ => ⟨S1x2x512x512, .f32⟩
  | .local _ .vmem, ⟨34, _⟩ => ⟨S1x1x1, .f32⟩
  | .local _ .vmem, ⟨35, _⟩ => ⟨S1x1x1, .f32⟩
  | .local _ .vmem, ⟨36, _⟩ => ⟨S1x1x512x512, .f32⟩
  | .local _ .vmem, ⟨37, _⟩ => ⟨S1x1x512x512, .f32⟩
  | .local _ .vmem, ⟨38, _⟩ => ⟨S1x1x512x512, .f32⟩
  | .local _ .vmem, ⟨39, _⟩ => ⟨S1x1x512x512, .f32⟩
  | .local _ .vmem, ⟨40, _⟩ => ⟨S2x512x512, .f32⟩
  | .local _ .vmem, ⟨41, _⟩ => ⟨S2x512x512, .f32⟩
  | .local _ .vmem, ⟨42, _⟩ => ⟨S512x512, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_4 : Ref sig .tc := ⟨.hbm, 11, rfl⟩
abbrev main_v4 : Ref sig .tc := ⟨.hbm, 12, rfl⟩
abbrev main_v5 : Ref sig .tc := ⟨.hbm, 13, rfl⟩
abbrev main_cst_5 : Ref sig .tc := ⟨.hbm, 14, rfl⟩
abbrev main_v6 : Ref sig .tc := ⟨.hbm, 15, rfl⟩
abbrev main_v7 : Ref sig .tc := ⟨.hbm, 16, rfl⟩
abbrev main_cst_6 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_9 : Ref sig .tc := ⟨.hbm, 35, rfl⟩
abbrev main_v23 : Ref sig .tc := ⟨.hbm, 36, rfl⟩
abbrev main_v24 : Ref sig .tc := ⟨.hbm, 37, rfl⟩
abbrev main_c_10 : Ref sig .tc := ⟨.hbm, 38, rfl⟩
abbrev main_c_11 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_c_12 : Ref sig .tc := ⟨.hbm, 46, rfl⟩
abbrev main_call1_v0 : Ref sig .tc := ⟨.hbm, 47, rfl⟩
abbrev main_call1_v1 : Ref sig .tc := ⟨.hbm, 48, rfl⟩
abbrev main_v26 : Ref sig .tc := ⟨.hbm, 49, rfl⟩
abbrev main_v27 : Ref sig .tc := ⟨.hbm, 50, rfl⟩
abbrev main_cst_13 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_1 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_v15 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_14 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_c_15 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_16 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_c_17 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_18 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_19 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_20 : Ref sig .tc := ⟨.hbm, 112, rfl⟩
abbrev main_v63 : Ref sig .tc := ⟨.hbm, 113, rfl⟩
abbrev main_cst_21 : Ref sig .tc := ⟨.hbm, 114, rfl⟩
abbrev main_v64 : Ref sig .tc := ⟨.hbm, 115, rfl⟩
abbrev main_cst_22 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_23 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_24 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_25 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_26 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226_0 : Ref sig .tc := ⟨.hbm, 282, rfl⟩
abbrev main_v226_1 : Ref sig .tc := ⟨.hbm, 283, rfl⟩
abbrev main_v226_2 : Ref sig .tc := ⟨.hbm, 284, rfl⟩
abbrev main_v226_3 : Ref sig .tc := ⟨.hbm, 285, rfl⟩
abbrev main_v226_4 : Ref sig .tc := ⟨.hbm, 286, rfl⟩
abbrev main_v227 : Ref sig .tc := ⟨.hbm, 287, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg29_1 : Ref sig .tc := ⟨.vmem, 31, rfl⟩
abbrev cc0_stg30_0 : Ref sig .tc := ⟨.vmem, 32, rfl⟩
abbrev cc0_stg30_1 : Ref sig .tc := ⟨.vmem, 33, rfl⟩
abbrev cc0_stg31_0 : Ref sig .tc := ⟨.vmem, 34, rfl⟩
abbrev cc0_stg31_1 : Ref sig .tc := ⟨.vmem, 35, rfl⟩
abbrev cc0_stg32_0 : Ref sig .tc := ⟨.vmem, 36, rfl⟩
abbrev cc0_stg32_1 : Ref sig .tc := ⟨.vmem, 37, rfl⟩
abbrev cc0_stg33_0 : Ref sig .tc := ⟨.vmem, 38, rfl⟩
abbrev cc0_stg33_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem29_1 : DmaSem sig := 31
abbrev cc0_sem30_0 : DmaSem sig := 32
abbrev cc0_sem30_1 : DmaSem sig := 33
abbrev cc0_sem31_0 : DmaSem sig := 34
abbrev cc0_sem31_1 : DmaSem sig := 35
abbrev cc0_sem32_0 : DmaSem sig := 36
abbrev cc0_sem32_1 : DmaSem sig := 37
abbrev cc0_sem33_0 : DmaSem sig := 38
abbrev cc0_sem33_1 : DmaSem sig := 39

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_48 : BitVec 32 := 0#32
  let c7_i32 : BitVec 32 := 7#32
  let v133 : BitVec 32 := Scalar.addi c0_i32_48 c7_i32
  let c1_i32_49 : BitVec 32 := 1#32
  ⟨c0_i32_48, v133, c1_i32_49⟩
def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c0_i32 : BitVec 32 := 0#32
  let c0_i32_1 : BitVec 32 := 0#32
  let c0_i32_2 : BitVec 32 := 0#32
  ![arg0.toNat, v2.toNat, c0_i32.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let c0_i32 : BitVec 32 := 0#32
  let v2 : BitVec 32 := Scalar.select v0 c0_i32 v1
  let c0_i32_1 : BitVec 32 := 0#32
  let c0_i32_2 : BitVec 32 := 0#32
  let c0_i32_3 : BitVec 32 := 0#32
  ![arg0.toNat, v2.toNat, c0_i32_1.toNat, c0_i32_2.toNat]

def cc0_transform_30 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let c0_i32 : BitVec 32 := 0#32
  let v2 : BitVec 32 := Scalar.select v0 c0_i32 v1
  let c0_i32_1 : BitVec 32 := 0#32
  let c0_i32_2 : BitVec 32 := 0#32
  let c0_i32_3 : BitVec 32 := 0#32
  ![arg0.toNat, v2.toNat, c0_i32_1.toNat, c0_i32_2.toNat]

def cc0_transform_31 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_32 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_33 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x768 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x768 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S768x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S768x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S768x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S768x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S768x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S768x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S768x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S768x256 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S768x256 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S768x256 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S768x256 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S768x256 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 2 → Memref sig .tc .vmem S1x2x512x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x2x512x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x1x1 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, false]

abbrev stage0_32 : Fin 2 → Memref sig .tc .vmem S1x1x512x512 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, false]

abbrev stage0_33 : Fin 2 → Memref sig .tc .vmem S1x1x512x512 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, false]
-- ==== ReferenceIdeal.lean ====
abbrev S16x3x512x512 : Shape := ⟨4, ![16, 3, 512, 512]⟩
abbrev S512 : Shape := ⟨1, ![512]⟩
abbrev S_ : Shape := ⟨0, ![]⟩
abbrev S512x512 : Shape := ⟨2, ![512, 512]⟩
abbrev S512x1 : Shape := ⟨2, ![512, 1]⟩
abbrev S1x512 : Shape := ⟨2, ![1, 512]⟩
abbrev S512x16x3x512 : Shape := ⟨4, ![512, 16, 3, 512]⟩
abbrev S16x512x512 : Shape := ⟨3, ![16, 512, 512]⟩
abbrev S100 : Shape := ⟨1, ![100]⟩
abbrev S1 : Shape := ⟨1, ![1]⟩
abbrev S101 : Shape := ⟨1, ![101]⟩
abbrev S1x512x512 : Shape := ⟨3, ![1, 512, 512]⟩
abbrev S100x1x1 : Shape := ⟨3, ![100, 1, 1]⟩
abbrev S100x512x512 : Shape := ⟨3, ![100, 512, 512]⟩
abbrev S1x100x512x512 : Shape := ⟨4, ![1, 100, 512, 512]⟩
abbrev S16x1x512x512 : Shape := ⟨4, ![16, 1, 512, 512]⟩
abbrev S16x100x512x512 : Shape := ⟨4, ![16, 100, 512, 512]⟩
abbrev S16x100 : Shape := ⟨2, ![16, 100]⟩
abbrev S16 : Shape := ⟨1, ![16]⟩
abbrev S16x1 : Shape := ⟨2, ![16, 1]⟩
abbrev S16x1x1 : Shape := ⟨3, ![16, 1, 1]⟩

abbrev nBuf : Space → Nat
  | .hbm => 184
  | .vmem => 0
  | .smem => 0
  | _ => 0

abbrev hbmTy0_0 (i : Nat) : BufTy := match i % 128 with
  | 0 => ⟨S16x3x512x512, .f32⟩
  | 1 => ⟨S512, .f32⟩
  | 2 => ⟨S_, .f32⟩
  | 3 => ⟨S512, .f32⟩
  | 4 => ⟨S512, .f32⟩
  | 5 => ⟨S512, .f32⟩
  | 6 => ⟨S_, .f32⟩
  | 7 => ⟨S512, .f32⟩
  | 8 => ⟨S512, .f32⟩
  | 9 => ⟨S_, .f32⟩
  | 10 => ⟨S512, .f32⟩
  | 11 => ⟨S512, .f32⟩
  | 12 => ⟨S_, .f32⟩
  | 13 => ⟨S512, .f32⟩
  | 14 => ⟨S512, .f32⟩
  | 15 => ⟨S512x512, .f32⟩
  | 16 => ⟨S512x512, .f32⟩
  | 17 => ⟨S512x512, .f32⟩
  | 18 => ⟨S512x512, .f32⟩
  | 19 => ⟨S512x512, .f32⟩
  | 20 => ⟨S512x512, .f32⟩
  | 21 => ⟨S512, .f32⟩
  | 22 => ⟨S_, .f32⟩
  | 23 => ⟨S512, .f32⟩
  | 24 => ⟨S512, .f32⟩
  | 25 => ⟨S512, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S512x1, .f32⟩
  | 33 => ⟨S1x512, .f32⟩
  | 34 => ⟨S512x512, .f32⟩
  | 35 => ⟨S512x512, .f32⟩
  | 36 => ⟨S512x512, .f32⟩
  | 37 => ⟨S512x512, .f32⟩
  | 38 => ⟨S512x512, .f32⟩
  | 39 => ⟨S512x512, .f32⟩
  | 40 => ⟨S512x512, .f32⟩
  | 41 => ⟨S16x3x512x512, .f32⟩
  | 42 => ⟨S16x3x512x512, .f32⟩
  | 43 => ⟨S16x3x512x512, .f32⟩
  | 44 => ⟨S512x16x3x512, .f32⟩
  | 45 => ⟨S16x3x512x512, .f32⟩
  | 46 => ⟨S512x16x3x512, .f32⟩
  | 47 => ⟨S16x3x512x512, .f32⟩
  | 48 => ⟨S16x3x512x512, .f32⟩
  | 49 => ⟨S512x16x3x512, .f32⟩
  | 50 => ⟨S16x3x512x512, .f32⟩
  | 51 => ⟨S512x16x3x512, .f32⟩
  | 52 => ⟨S16x3x512x512, .f32⟩
  | 53 => ⟨S16x3x512x512, .f32⟩
  | 54 => ⟨S16x3x512x512, .f32⟩
  | 55 => ⟨S16x3x512x512, .f32⟩
  | 56 => ⟨S16x3x512x512, .f32⟩
  | 57 => ⟨S_, .f32⟩
  | 58 => ⟨S16x512x512, .f32⟩
  | 59 => ⟨S_, .f32⟩
  | 60 => ⟨S_, .f32⟩
  | 61 => ⟨S512x512, .f32⟩
  | 62 => ⟨S512x512, .f32⟩
  | 63 => ⟨S_, .f32⟩
  | 64 => ⟨S512x512, .f32⟩
  | 65 => ⟨S512x512, .f32⟩
  | 66 => ⟨S512x512, .f32⟩
  | 67 => ⟨S512x512, .i32⟩
  | 68 => ⟨S_, .f32⟩
  | 69 => ⟨S_, .f32⟩
  | 70 => ⟨S_, .f32⟩
  | 71 => ⟨S_, .f32⟩
  | 72 => ⟨S_, .f32⟩
  | 73 => ⟨S100, .f32⟩
  | 74 => ⟨S_, .f32⟩
  | 75 => ⟨S100, .f32⟩
  | 76 => ⟨S100, .f32⟩
  | 77 => ⟨S1, .f32⟩
  | 78 => ⟨S_, .f32⟩
  | 79 => ⟨S100, .f32⟩
  | 80 => ⟨S100, .f32⟩
  | 81 => ⟨S100, .f32⟩
  | 82 => ⟨S100, .f32⟩
  | 83 => ⟨S1, .f32⟩
  | 84 => ⟨S100, .f32⟩
  | 85 => ⟨S100, .f32⟩
  | 86 => ⟨S100, .f32⟩
  | 87 => ⟨S1, .f32⟩
  | 88 => ⟨S101, .f32⟩
  | 89 => ⟨S100, .f32⟩
  | 90 => ⟨S100, .f32⟩
  | 91 => ⟨S100, .f32⟩
  | 92 => ⟨S_, .f32⟩
  | 93 => ⟨S100, .f32⟩
  | 94 => ⟨S100, .f32⟩
  | 95 => ⟨S100, .i32⟩
  | 96 => ⟨S1x512x512, .i32⟩
  | 97 => ⟨S100x1x1, .i32⟩
  | 98 => ⟨S100x512x512, .i32⟩
  | 99 => ⟨S100x512x512, .i32⟩
  | 100 => ⟨S100x512x512, .i1⟩
  | 101 => ⟨S1x100x512x512, .i1⟩
  | 102 => ⟨S16x1x512x512, .f32⟩
  | 103 => ⟨S_, .f32⟩
  | 104 => ⟨S_, .f32⟩
  | 105 => ⟨S16x100x512x512, .i1⟩
  | 106 => ⟨S16x100x512x512, .f32⟩
  | 107 => ⟨S16x100x512x512, .f32⟩
  | 108 => ⟨S16x100x512x512, .f32⟩
  | 109 => ⟨S_, .f32⟩
  | 110 => ⟨S16x100, .f32⟩
  | 111 => ⟨S_, .f32⟩
  | 112 => ⟨S16, .f32⟩
  | 113 => ⟨S_, .f32⟩
  | 114 => ⟨S16, .f32⟩
  | 115 => ⟨S16, .f32⟩
  | 116 => ⟨S16x1, .f32⟩
  | 117 => ⟨S_, .f32⟩
  | 118 => ⟨S16x1, .f32⟩
  | 119 => ⟨S16x1, .f32⟩
  | 120 => ⟨S16x100, .f32⟩
  | 121 => ⟨S16x100, .i1⟩
  | 122 => ⟨S_, .i32⟩
  | 123 => ⟨S_, .i32⟩
  | 124 => ⟨S16x100, .i32⟩
  | 125 => ⟨S16x100, .i32⟩
  | 126 => ⟨S16x100, .i32⟩
  | 127 => ⟨S_, .i32⟩
  | _ => ⟨S16x3x512x512, .f32⟩

abbrev hbmTy0_1 (i : Nat) : BufTy := match i % 128 with
  | 0 => ⟨S16, .i32⟩
  | 1 => ⟨S_, .i32⟩
  | 2 => ⟨S16, .i32⟩
  | 3 => ⟨S16, .i1⟩
  | 4 => ⟨S_, .i32⟩
  | 5 => ⟨S16, .i32⟩
  | 6 => ⟨S16, .i32⟩
  | 7 => ⟨S16, .i32⟩
  | 8 => ⟨S16x1, .i32⟩
  | 9 => ⟨S16, .f32⟩
  | 10 => ⟨S1x512x512, .f32⟩
  | 11 => ⟨S16x1x1, .f32⟩
  | 12 => ⟨S16x512x512, .f32⟩
  | 13 => ⟨S16x512x512, .f32⟩
  | 14 => ⟨S16x512x512, .i1⟩
  | 15 => ⟨S16x512x512, .f32⟩
  | 16 => ⟨S16x1x512x512, .f32⟩
  | 17 => ⟨S_, .f32⟩
  | 18 => ⟨S16x1x512x512, .f32⟩
  | 19 => ⟨S16x1x512x512, .f32⟩
  | 20 => ⟨S16x3x512x512, .f32⟩
  | 21 => ⟨S16x3x512x512, .f32⟩
  | 22 => ⟨S16x3x512x512, .f32⟩
  | 23 => ⟨S16x3x512x512, .f32⟩
  | 24 => ⟨S16x3x512x512, .f32⟩
  | 25 => ⟨S16x3x512x512, .f32⟩
  | 26 => ⟨S16x3x512x512, .f32⟩
  | 27 => ⟨S16x3x512x512, .f32⟩
  | 28 => ⟨S16x3x512x512, .f32⟩
  | 29 => ⟨S16x3x512x512, .f32⟩
  | 30 => ⟨S512x16x3x512, .f32⟩
  | 31 => ⟨S16x3x512x512, .f32⟩
  | 32 => ⟨S512x16x3x512, .f32⟩
  | 33 => ⟨S16x3x512x512, .f32⟩
  | 34 => ⟨S16x3x512x512, .f32⟩
  | 35 => ⟨S_, .f32⟩
  | 36 => ⟨S16x3x512x512, .f32⟩
  | 37 => ⟨S16x3x512x512, .f32⟩
  | 38 => ⟨S16x3x512x512, .f32⟩
  | 39 => ⟨S16x3x512x512, .f32⟩
  | 40 => ⟨S16x3x512x512, .f32⟩
  | 41 => ⟨S16x3x512x512, .f32⟩
  | 42 => ⟨S16x3x512x512, .f32⟩
  | 43 => ⟨S16x3x512x512, .f32⟩
  | 44 => ⟨S16x3x512x512, .f32⟩
  | 45 => ⟨S16x3x512x512, .f32⟩
  | 46 => ⟨S16x3x512x512, .f32⟩
  | 47 => ⟨S16x3x512x512, .f32⟩
  | 48 => ⟨S512x16x3x512, .f32⟩
  | 49 => ⟨S16x3x512x512, .f32⟩
  | 50 => ⟨S512x16x3x512, .f32⟩
  | 51 => ⟨S16x3x512x512, .f32⟩
  | 52 => ⟨S16x3x512x512, .f32⟩
  | 53 => ⟨S_, .f32⟩
  | 54 => ⟨S16x3x512x512, .f32⟩
  | 55 => ⟨S16x3x512x512, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_7 : Ref sig .tc := ⟨.hbm, 57, rfl⟩
abbrev main_v48 : Ref sig .tc := ⟨.hbm, 58, rfl⟩
abbrev main_cst_8 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_9 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_10 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_cst_1 : Ref sig .tc := ⟨.hbm, 78, rfl⟩
abbrev main_call0_v7 : Ref sig .tc := ⟨.hbm, 79, rfl⟩
abbrev main_call0_v8 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_v12 : Ref sig .tc := ⟨.hbm, 84, rfl⟩
abbrev main_call0_v13 : Ref sig .tc := ⟨.hbm, 85, rfl⟩
abbrev main_call0_v14 : Ref sig .tc := ⟨.hbm, 86, rfl⟩
abbrev main_call0_v15 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_cst_14 : Ref sig .tc := ⟨.hbm, 111, rfl⟩
abbrev main_v72 : Ref sig .tc := ⟨.hbm, 112, rfl⟩
abbrev main_cst_15 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_16 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_c : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v80 : Ref sig .tc := ⟨.hbm, 126, rfl⟩
abbrev main_c_17 : Ref sig .tc := ⟨.hbm, 127, rfl⟩
abbrev main_v81 : Ref sig .tc := ⟨.hbm, 128, rfl⟩
abbrev main_c_18 : Ref sig .tc := ⟨.hbm, 129, rfl⟩
abbrev main_v82 : Ref sig .tc := ⟨.hbm, 130, rfl⟩
abbrev main_v83 : Ref sig .tc := ⟨.hbm, 131, rfl⟩
abbrev main_c_19 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_20 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_21 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_22 : Ref sig .tc := ⟨.hbm, 181, rfl⟩
abbrev main_v130 : Ref sig .tc := ⟨.hbm, 182, rfl⟩
abbrev main_v131 : Ref sig .tc := ⟨.hbm, 183, rfl⟩

abbrev nD : Nat := 1
abbrev τ : Topo := Topo.v7x

variable {F : FTy → Type} [FloatOps F]
-- ==== Proof.Values.lean ====
/-
  What one grid point of the kernel computes, as functions of what its staging and scratch buffers hold. Each
  function composes the printed payloads of one step: the transform of the two packed channels, the transform of
  the third channel with the search for the cut-off bin, and the two masked inverse transforms.
-/
module

public import proofs.«01_k».proof.Proof.Gen.KernelIdeal.Frame
public import proofs.«01_k».proof.Proof.Gen.KernelIdeal.Skeleton
public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe

variable {F : FTy → Type} [FloatOps F]

/-- The first and the second channel of a staged block of two. -/
abbrev chan0 (x : Vec F S1x2x512x512 .f32) : Vec F S1x1x512x512 .f32 :=
  View.ld x (Rect.unit (s := S1x2x512x512) ![0, 0, 0, 0] S1x1x512x512.size inb_S1x2x512x512_S1x1x512x512_0_0_0_0)
abbrev chan1 (x : Vec F S1x2x512x512 .f32) : Vec F S1x1x512x512 .f32 :=
  View.ld x (Rect.unit (s := S1x2x512x512) ![0, 1, 0, 0] S1x1x512x512.size inb_S1x2x512x512_S1x1x512x512_0_1_0_0)
/-- The two slabs of a spectrum buffer: the packed pair's and the third channel's. -/
abbrev slab0 (f : Vec F S2x512x512 .f32) : Vec F S1x512x512 .f32 :=
  View.ld f (Rect.unit (s := S2x512x512) ![0, 0, 0] S1x512x512.size inb_S2x512x512_S1x512x512_0_0_0)
abbrev slab1 (f : Vec F S2x512x512 .f32) : Vec F S1x512x512 .f32 :=
  View.ld f (Rect.unit (s := S2x512x512) ![1, 0, 0] S1x512x512.size inb_S2x512x512_S1x512x512_1_0_0)

/-- The six products of the forward transform of a packed pair: three for the even row frequencies, three for the
    odd ones. -/
def pairProds (v12 v14 : Vec F S1x1x512x512 .f32) (E : Fin 12 → Vec F S256x768 .bf16) : Fin 6 → FVec F S256x512 .f32 :=
  let v24 := k0_pay16 v12
  let v27 := k0_pay17 v14
  let v35 := k0_pay18 v12 (E 0)
  let v43 := k0_pay19 v14 (E 1)
  let v52 := k0_pay20 v12 v14 (E 2)
  let v53 := k0_pay21 v12
  let v54 := k0_pay22 v12
  let v88 := k0_pay27 v24 v27 v35 v43 v53 v54 (E 3) (E 4)
  let v91 := k0_pay28 v24 v27 v35 v43 v52 v53 v54 (E 3) (E 4) (E 5)
  let v94 := k0_pay29 v24 v27 v35 v43 v53 v54 (E 3) (E 4)
  let v97 := k0_pay30 v24 v27 v35 v43 v52 v53 v54 (E 3) (E 4) (E 5)
  let v99 := k0_pay31 (E 6)
  let v100 := k0_pay32 v24 v27 v35 v43 v53 v54 (E 3) (E 4)
  let v103 := k0_pay33 v24 v27 v35 v43 v53 v54 (E 3) (E 4)
  ![k0_pay34 v99 v100 v103, k0_pay35 v91 (E 7), k0_pay36 v88 v91 (E 8), k0_pay37 v94 (E 9), k0_pay38 v97 (E 10),
    k0_pay39 v94 v97 (E 11)]

/-- The packed pair's spectrum, real and imaginary parts, and its power. -/
def pairRe (x : Vec F S1x2x512x512 .f32) (E : Fin 12 → Vec F S256x768 .bf16) : Vec F S1x512x512 .f32 :=
  let p := pairProds (chan0 x) (chan1 x) E
  k0_pay3 (p 0) (p 1) (p 3) (p 4)
def pairIm (x : Vec F S1x2x512x512 .f32) (E : Fin 12 → Vec F S256x768 .bf16) : Vec F S1x512x512 .f32 :=
  let p := pairProds (chan0 x) (chan1 x) E
  k0_pay4 (p 0) (p 1) (p 2) (p 3) (p 4) (p 5)
def pairPow (x : Vec F S1x2x512x512 .f32) (E : Fin 12 → Vec F S256x768 .bf16) : Vec F S512x512 .f32 :=
  let p := pairProds (chan0 x) (chan1 x) E
  k0_pay5 (p 0) (p 1) (p 2) (p 3) (p 4) (p 5)

/-- The parts of the third channel's forward transform. -/
structure Third (F : FTy → Type) where
  v52 : FVec F S256x512 .f32
  v55 : FVec F S256x512 .f32
  v63 : FVec F S256x512 .f32
  v71 : FVec F S256x512 .f32
  v80 : FVec F S256x512 .f32
  v88 : FVec F S256x512 .f32
  v96 : FVec F S256x512 .f32
  v98 : FVec F S256x768 .bf16

def third (v12 : Vec F S1x1x512x512 .f32) (E : Fin 12 → Vec F S256x768 .bf16) : Third F :=
  let v46 := k0_pay45 v12 (E 0) (E 3)
  let v49 := k0_pay46 v12 (E 1) (E 4)
  let v52 := k0_pay47 v12 (E 0) (E 3)
  let v55 := k0_pay48 v12 (E 1) (E 4)
  ⟨v52, v55, k0_pay49 v46 (E 6), k0_pay50 v49 (E 7), k0_pay51 v46 v49 (E 8), k0_pay52 v52 (E 9), k0_pay53 v55 (E 10),
    k0_pay54 (E 11)⟩

/-- The third channel's spectrum. -/
def thirdRe (x : Vec F S1x2x512x512 .f32) (E : Fin 12 → Vec F S256x768 .bf16) : Vec F S1x512x512 .f32 :=
  let p := third (chan0 x) E
  k0_pay57 p.v63 p.v71 p.v88 p.v96
def thirdIm (x : Vec F S1x2x512x512 .f32) (E : Fin 12 → Vec F S256x768 .bf16) : Vec F S1x512x512 .f32 :=
  let p := third (chan0 x) E
  k0_pay58 p.v52 p.v55 p.v63 p.v71 p.v80 p.v88 p.v96 p.v98

/-- The parts of a masked inverse transform: the cut-off radius, the column transform's two halves, and the parts
    of the row transform. -/
structure Inv (F : FTy → Type) where
  v89 : FVec F S512x512 .f32
  v92 : FVec F S512x512 .f32
  v98 : FVec F S512x768 .bf16
  v100 : FVec F S768x256 .bf16

def invPair (v12 : Vec F S1x1x1 .f32) (v15 : Vec F S512x512 .f32) (v21 v24 : Vec F S1x512x512 .f32)
    (G : Fin 12 → Vec F S768x256 .bf16) : Inv F :=
  let v29 := k0_pay69 v12 v15 v21
  let v30 := k0_pay70 v12 v15 v24
  let v38 := k0_pay71 v12 v15 v21 (G 0)
  let v46 := k0_pay72 v12 v15 v24 (G 1)
  let v48 := k0_pay73 (G 2)
  let v50 := k0_pay75 v12 v15 v21 v24
  let v52 := k0_pay76 v12 v15 v21 v24
  ⟨k0_pay79 v29 v30 v38 v46 (G 3) (G 4), k0_pay80 v29 v30 v38 v46 v48 v50 v52 (G 3) (G 4) (G 5),
    k0_pay81 v29 v30 v38 v46 (G 3) (G 4), k0_pay82 (G 6)⟩

def invThird (v12 : Vec F S1x1x1 .f32) (v15 : Vec F S512x512 .f32) (v21 v24 : Vec F S1x512x512 .f32)
    (G : Fin 12 → Vec F S768x256 .bf16) : Inv F :=
  let v29 := k0_pay102 v12 v15 v21
  let v30 := k0_pay103 v12 v15 v24
  let v38 := k0_pay104 v12 v15 v21 (G 0)
  let v46 := k0_pay105 v12 v15 v24 (G 1)
  let v48 := k0_pay106 (G 2)
  let v50 := k0_pay108 v12 v15 v21 v24
  let v52 := k0_pay109 v12 v15 v21 v24
  ⟨k0_pay112 v29 v30 v38 v46 (G 3) (G 4), k0_pay113 v29 v30 v38 v46 v48 v50 v52 (G 3) (G 4) (G 5),
    k0_pay114 v29 v30 v38 v46 (G 3) (G 4), k0_pay115 (G 6)⟩

/-- The four blocks the pair's inverse transform stores: the low images of the two channels, -/
def low0 (p : Inv F) (G : Fin 12 → Vec F S768x256 .bf16) : Vec F S1x1x512x512 .f32 :=
  k0_pay94 (k0_pay85 p.v92 p.v98 p.v100 (G 7)) (k0_pay87 p.v89 (G 9)) (k0_pay88 p.v92 (G 10))
def low1 (p : Inv F) (G : Fin 12 → Vec F S768x256 .bf16) : Vec F S1x1x512x512 .f32 :=
  k0_pay95 (k0_pay86 p.v89 p.v92 p.v98 p.v100 (G 7) (G 8)) (k0_pay87 p.v89 (G 9)) (k0_pay88 p.v92 (G 10))
    (k0_pay89 p.v89 p.v92) (k0_pay90 p.v89 p.v92) (k0_pay91 p.v89 p.v92) (G 11)
/-- and the high images. -/
def high0 (p : Inv F) (G : Fin 12 → Vec F S768x256 .bf16) (x0 : Vec F S1x1x512x512 .f32) : Vec F S1x1x512x512 .f32 :=
  k0_pay96 (k0_pay85 p.v92 p.v98 p.v100 (G 7)) (k0_pay87 p.v89 (G 9)) (k0_pay88 p.v92 (G 10)) x0
def high1 (p : Inv F) (G : Fin 12 → Vec F S768x256 .bf16) (x1 : Vec F S1x1x512x512 .f32) : Vec F S1x1x512x512 .f32 :=
  k0_pay7 (k0_pay93 (k0_pay86 p.v89 p.v92 p.v98 p.v100 (G 7) (G 8)) (k0_pay87 p.v89 (G 9)) (k0_pay88 p.v92 (G 10))
    (k0_pay89 p.v89 p.v92) (k0_pay90 p.v89 p.v92) (k0_pay91 p.v89 p.v92) (G 11)) x1

/-- The third channel's low and high images. -/
def low2 (p : Inv F) (G : Fin 12 → Vec F S768x256 .bf16) : Vec F S1x1x512x512 .f32 :=
  k0_pay117 p.v89 p.v92 p.v98 p.v100 (G 7) (G 9) (G 10)
def high2 (p : Inv F) (G : Fin 12 → Vec F S768x256 .bf16) (x0 : Vec F S1x1x512x512 .f32) : Vec F S1x1x512x512 .f32 :=
  k0_pay11 (k0_pay116 p.v89 p.v92 p.v98 p.v100 (G 7) (G 9) (G 10)) (k0_pay118 x0)

/-- The two masks. -/
def maskLow (d0 : Vec F S1x1x1 .f32) (rr : Vec F S512x512 .f32) : Vec F S1x1x512x512 .f32 := k0_pay9 (k0_pay63 d0) rr
def maskHigh (d0 : Vec F S1x1x1 .f32) (rr : Vec F S512x512 .f32) : Vec F S1x1x512x512 .f32 := k0_pay10 (k0_pay63 d0) rr

/-- One step of the search: the middle bin of the interval, and the half of the interval that holds the first bin
    whose cumulative power reaches the threshold. -/
def middle (l h : BitVec 32) : BitVec 32 :=
  let s := Scalar.addi l h
  let q := Scalar.divsi s 2#32
  let sg := Scalar.subi (Scalar.extui (Scalar.cmpi .sgt s 0#32)) (Scalar.extui (Scalar.cmpi .slt s 0#32))
  let sg2 := Scalar.subi (Scalar.extui (Scalar.cmpi .sgt 2#32 0#32)) (Scalar.extui (Scalar.cmpi .slt 2#32 0#32))
  Scalar.select (Scalar.andi (Scalar.cmpi .ne sg sg2) (Scalar.cmpi .ne (Scalar.remsi s 2#32) 0#32)) (Scalar.subi q 1#32) q

def halve (p : Third F) (pw bins : Vec F S512x512 .f32) (lh : BitVec 32 × BitVec 32) : BitVec 32 × BitVec 32 :=
  let hit := Scalar.cmpf .oge (k0_pay61 p.v52 p.v55 p.v63 p.v71 p.v80 p.v88 p.v96 p.v98 pw bins lh.1 lh.2)
    (k0_pay60 p.v52 p.v55 p.v63 p.v71 p.v80 p.v88 p.v96 p.v98 pw)
  (Scalar.select hit lh.1 (middle lh.1 lh.2), Scalar.select hit (middle lh.1 lh.2) lh.2)

/-- The cut-off radius: seven steps of the search from the interval (-1, 100], and the radius at the bin found. -/
def cutoff (x : Vec F S1x2x512x512 .f32) (E : Fin 12 → Vec F S256x768 .bf16) (pw bins : Vec F S512x512 .f32)
    (radii : Vec F S1x1x128 .f32) : Vec F S1x1x1 .f32 :=
  let lh := Scf.fold (n := Scf.trips k0_t1_loop.lb k0_t1_loop.ub k0_t1_loop.st)
    (fun _ lh => halve (third (chan0 x) E) pw bins lh) (4294967295#32, 100#32)
  k0_pay6 (k0_pay62 (F := F) lh.2) radii

end Cert.KernelIdeal.Hand
-- ==== Proof.RunBase.lean ====
/-
  What the four runs of the kernel body share: the body's branch conditions at a grid point, the bundles of tables
  the runs hold, and what a buffer reads after the stores of a run.
-/
module
public import proofs.«01_k».proof.Proof.Values
public import Idealize.ShloMosaic.Lib.WritesUnit
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The conditions of the body's four branches. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1
abbrev cond0_2 (i : grid0.Coords) : Prop := k0_cond3 i = 1#1
abbrev cond0_3 (i : grid0.Coords) : Prop := k0_cond4 i = 1#1

/-- Branch `s` is taken at the points whose second coordinate is `s`. -/
theorem hcond0_0 (t : Fin cfg0.N) : cond0_0 (grid0.coords t) ↔ t.val % 4 = 0 := by
  have ht : t.val < 64 := Nat.lt_of_lt_of_eq t.isLt N_0
  have e1 : (grid0.coords t 1).val = t.val / 1 % 4 := Pipeline.Grid.coords_val t 1 (by decide) rfl
  simp only [cond0_0, e1]
  word_cmp
theorem hcond0_1 (t : Fin cfg0.N) : cond0_1 (grid0.coords t) ↔ t.val % 4 = 1 := by
  have ht : t.val < 64 := Nat.lt_of_lt_of_eq t.isLt N_0
  have e1 : (grid0.coords t 1).val = t.val / 1 % 4 := Pipeline.Grid.coords_val t 1 (by decide) rfl
  simp only [cond0_1, k0_cond2, e1]
  word_cmp
theorem hcond0_2 (t : Fin cfg0.N) : cond0_2 (grid0.coords t) ↔ t.val % 4 = 2 := by
  have ht : t.val < 64 := Nat.lt_of_lt_of_eq t.isLt N_0
  have e1 : (grid0.coords t 1).val = t.val / 1 % 4 := Pipeline.Grid.coords_val t 1 (by decide) rfl
  simp only [cond0_2, k0_cond3, e1]
  word_cmp
theorem hcond0_3 (t : Fin cfg0.N) : cond0_3 (grid0.coords t) ↔ t.val % 4 = 3 := by
  have ht : t.val < 64 := Nat.lt_of_lt_of_eq t.isLt N_0
  have e1 : (grid0.coords t 1).val = t.val / 1 % 4 := Pipeline.Grid.coords_val t 1 (by decide) rfl
  simp only [cond0_3, k0_cond4, e1]
  word_cmp

/-! ## What a buffer reads after stores -/

section Reads
variable {κ : Kind} {sp : Space} {s : Shape} {e : EltTy} {Val : EltTy → Type} {sg : RefSig}

/-- The newest store read back over its own rectangle. -/
theorem ld_newest (v : View sg κ sp s e) (f : v.ty.Contents Val) (R : Rect s) (w : R.shape.Idx → Val e)
    (L : List (View.Piece Val s e)) : View.ld (v.read Val (v.writes Val f (⟨R, w⟩ :: L))) R = w :=
  funext fun x => View.read_writes_cons_emb v f R w L x

/-- A unit-stride rectangle that an axis keeps apart from the newest store reads what the earlier stores left. -/
theorem ld_older (v : View sg κ sp s e) (f : v.ty.Contents Val) {off off' size size' : Fin s.rank → ℕ}
    (inb : ∀ a, off a + size a ≤ s.size a) (inb' : ∀ a, off' a + size' a ≤ s.size a)
    (w : (Rect.unit off size inb).shape.Idx → Val e) (L : List (View.Piece Val s e)) (a : Fin s.rank)
    (ha : off' a + size' a ≤ off a ∨ off a + size a ≤ off' a) :
    View.ld (v.read Val (v.writes Val f (⟨Rect.unit off size inb, w⟩ :: L))) (Rect.unit off' size' inb')
      = View.ld (v.read Val (v.writes Val f L)) (Rect.unit off' size' inb') := by
  funext x
  refine View.read_writes_cons_unit_of_not_mem v f inb w L _ rfl a ?_
  have h1 : ((Rect.unit off' size' inb').idx x a).val = off' a + 1 * (x a).val := rfl
  have h2 : (x a).val < size' a := (x a).isLt
  rw [h1]; omega

/-- The load of a whole buffer. -/
theorem ld_full {s : Shape} (X : s.Idx → Val e) {off : Fin s.rank → ℕ} (h : ∀ a, off a = 0) (inb : ∀ a, off a + s.size a ≤ s.size a) :
    View.ld X (Rect.unit off s.size inb) = X := by
  funext x
  refine congrArg X (funext fun a => Fin.ext ?_)
  show off a + 1 * (x a).val = (x a).val
  rw [h a]; omega

/-- A store over a whole buffer leaves the stored value. -/
theorem read_full {s : Shape} {κ : Kind} (v : View sg κ sp s e) (f : v.ty.Contents Val) {off : Fin s.rank → ℕ} (h : ∀ a, off a = 0)
    (inb : ∀ a, off a + s.size a ≤ s.size a) (w : s.Idx → Val e) (L : List (View.Piece Val s e)) :
    v.read Val (v.writes Val f (⟨Rect.unit off s.size inb, w⟩ :: L)) = w :=
  (ld_full _ h inb).symm.trans (ld_newest v f (Rect.unit off s.size inb) w L)

end Reads

/-- A whole load of a table, of a plane. -/
abbrev wt (X : Vec F S256x768 .bf16) : Vec F S256x768 .bf16 :=
  View.ld X (Rect.unit (s := S256x768) ![0, 0] S256x768.size inb_S256x768_S256x768_0_0)
abbrev wg (X : Vec F S768x256 .bf16) : Vec F S768x256 .bf16 :=
  View.ld X (Rect.unit (s := S768x256) ![0, 0] S768x256.size inb_S768x256_S768x256_0_0)
abbrev wpl (X : Vec F S512x512 .f32) : Vec F S512x512 .f32 :=
  View.ld X (Rect.unit (s := S512x512) ![0, 0] S512x512.size inb_S512x512_S512x512_0_0)

theorem zero2 : ∀ a, (![0, 0] : Fin 2 → ℕ) a = 0 := fun a => by fin_cases a <;> rfl
theorem zero3 : ∀ a, (![0, 0, 0] : Fin 3 → ℕ) a = 0 := fun a => by fin_cases a <;> rfl
theorem zero4 : ∀ a, (![0, 0, 0, 0] : Fin 4 → ℕ) a = 0 := fun a => by fin_cases a <;> rfl

theorem wt_eq (T : Fin 12 → Vec F S256x768 .bf16) : (fun k => wt (T k)) = T :=
  funext fun k => ld_full (T k) zero2 inb_S256x768_S256x768_0_0
theorem wg_eq (T : Fin 12 → Vec F S768x256 .bf16) : (fun k => wg (T k)) = T :=
  funext fun k => ld_full (T k) zero2 inb_S768x256_S768x256_0_0
theorem wpl_eq (X : Vec F S512x512 .f32) : wpl X = X := ld_full X zero2 inb_S512x512_S512x512_0_0

/-- A family of twelve from its members. -/
theorem family12 {α : Type} (T : Fin 12 → α) {a0 a1 a2 a3 a4 a5 a6 a7 a8 a9 a10 a11 : α} (h0 : a0 = T 0) (h1 : a1 = T 1)
    (h2 : a2 = T 2) (h3 : a3 = T 3) (h4 : a4 = T 4) (h5 : a5 = T 5) (h6 : a6 = T 6) (h7 : a7 = T 7) (h8 : a8 = T 8)
    (h9 : a9 = T 9) (h10 : a10 = T 10) (h11 : a11 = T 11) : T = ![a0, a1, a2, a3, a4, a5, a6, a7, a8, a9, a10, a11] := by
  subst h0 h1 h2 h3 h4 h5 h6 h7 h8 h9 h10 h11
  funext k; fin_cases k <;> rfl

/-- The twelve tables of the forward transform, held whole. -/
def ownF (c : Dev nD) (a0 : Memref sig .tc .vmem S256x768 .bf16) (a1 : Memref sig .tc .vmem S256x768 .bf16) (a2 : Memref sig .tc .vmem S256x768 .bf16) (a3 : Memref sig .tc .vmem S256x768 .bf16) (a4 : Memref sig .tc .vmem S256x768 .bf16) (a5 : Memref sig .tc .vmem S256x768 .bf16) (a6 : Memref sig .tc .vmem S256x768 .bf16) (a7 : Memref sig .tc .vmem S256x768 .bf16) (a8 : Memref sig .tc .vmem S256x768 .bf16) (a9 : Memref sig .tc .vmem S256x768 .bf16) (a10 : Memref sig .tc .vmem S256x768 .bf16) (a11 : Memref sig .tc .vmem S256x768 .bf16) (T : Fin 12 → Vec F S256x768 .bf16) : sProp 𝕄 :=
  iprop(owns (c : Thread nD τ) a0 fullShare (T 0) ∗ owns (c : Thread nD τ) a1 fullShare (T 1) ∗ owns (c : Thread nD τ) a2 fullShare (T 2) ∗ owns (c : Thread nD τ) a3 fullShare (T 3) ∗ owns (c : Thread nD τ) a4 fullShare (T 4) ∗ owns (c : Thread nD τ) a5 fullShare (T 5) ∗ owns (c : Thread nD τ) a6 fullShare (T 6) ∗ owns (c : Thread nD τ) a7 fullShare (T 7) ∗ owns (c : Thread nD τ) a8 fullShare (T 8) ∗ owns (c : Thread nD τ) a9 fullShare (T 9) ∗ owns (c : Thread nD τ) a10 fullShare (T 10) ∗ owns (c : Thread nD τ) a11 fullShare (T 11))

/-- The twelve tables of the inverse transform, held whole. -/
def ownG (c : Dev nD) (a0 : Memref sig .tc .vmem S768x256 .bf16) (a1 : Memref sig .tc .vmem S768x256 .bf16) (a2 : Memref sig .tc .vmem S768x256 .bf16) (a3 : Memref sig .tc .vmem S768x256 .bf16) (a4 : Memref sig .tc .vmem S768x256 .bf16) (a5 : Memref sig .tc .vmem S768x256 .bf16) (a6 : Memref sig .tc .vmem S768x256 .bf16) (a7 : Memref sig .tc .vmem S768x256 .bf16) (a8 : Memref sig .tc .vmem S768x256 .bf16) (a9 : Memref sig .tc .vmem S768x256 .bf16) (a10 : Memref sig .tc .vmem S768x256 .bf16) (a11 : Memref sig .tc .vmem S768x256 .bf16) (T : Fin 12 → Vec F S768x256 .bf16) : sProp 𝕄 :=
  iprop(owns (c : Thread nD τ) a0 fullShare (T 0) ∗ owns (c : Thread nD τ) a1 fullShare (T 1) ∗ owns (c : Thread nD τ) a2 fullShare (T 2) ∗ owns (c : Thread nD τ) a3 fullShare (T 3) ∗ owns (c : Thread nD τ) a4 fullShare (T 4) ∗ owns (c : Thread nD τ) a5 fullShare (T 5) ∗ owns (c : Thread nD τ) a6 fullShare (T 6) ∗ owns (c : Thread nD τ) a7 fullShare (T 7) ∗ owns (c : Thread nD τ) a8 fullShare (T 8) ∗ owns (c : Thread nD τ) a9 fullShare (T 9) ∗ owns (c : Thread nD τ) a10 fullShare (T 10) ∗ owns (c : Thread nD τ) a11 fullShare (T 11))

end Cert.KernelIdeal.Hand
-- ==== Proof.RunA.lean ====
/-
  The body's first step: the packed pair's spectrum goes to the first slab of the two spectrum buffers, its power to the power buffer.
-/
module
public import proofs.«01_k».proof.Proof.RunBase
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg2 : Memref sig .tc .vmem S1x2x512x512 .f32) (harg2 : arg2.IsWhole)
variable (arg3 : Memref sig .tc .vmem S512x512 .f32) (harg3 : arg3.IsWhole)
variable (arg4 : Memref sig .tc .vmem S512x512 .f32) (harg4 : arg4.IsWhole)
variable (arg5 : Memref sig .tc .vmem S512x512 .f32) (harg5 : arg5.IsWhole)
variable (arg6 : Memref sig .tc .vmem S1x1x128 .f32) (harg6 : arg6.IsWhole)
variable (arg7 : Memref sig .tc .vmem S256x768 .bf16) (harg7 : arg7.IsWhole)
variable (arg8 : Memref sig .tc .vmem S256x768 .bf16) (harg8 : arg8.IsWhole)
variable (arg9 : Memref sig .tc .vmem S256x768 .bf16) (harg9 : arg9.IsWhole)
variable (arg10 : Memref sig .tc .vmem S256x768 .bf16) (harg10 : arg10.IsWhole)
variable (arg11 : Memref sig .tc .vmem S256x768 .bf16) (harg11 : arg11.IsWhole)
variable (arg12 : Memref sig .tc .vmem S256x768 .bf16) (harg12 : arg12.IsWhole)
variable (arg13 : Memref sig .tc .vmem S256x768 .bf16) (harg13 : arg13.IsWhole)
variable (arg14 : Memref sig .tc .vmem S256x768 .bf16) (harg14 : arg14.IsWhole)
variable (arg15 : Memref sig .tc .vmem S256x768 .bf16) (harg15 : arg15.IsWhole)
variable (arg16 : Memref sig .tc .vmem S256x768 .bf16) (harg16 : arg16.IsWhole)
variable (arg17 : Memref sig .tc .vmem S256x768 .bf16) (harg17 : arg17.IsWhole)
variable (arg18 : Memref sig .tc .vmem S256x768 .bf16) (harg18 : arg18.IsWhole)
variable (arg19 : Memref sig .tc .vmem S768x256 .bf16) (harg19 : arg19.IsWhole)
variable (arg20 : Memref sig .tc .vmem S768x256 .bf16) (harg20 : arg20.IsWhole)
variable (arg21 : Memref sig .tc .vmem S768x256 .bf16) (harg21 : arg21.IsWhole)
variable (arg22 : Memref sig .tc .vmem S768x256 .bf16) (harg22 : arg22.IsWhole)
variable (arg23 : Memref sig .tc .vmem S768x256 .bf16) (harg23 : arg23.IsWhole)
variable (arg24 : Memref sig .tc .vmem S768x256 .bf16) (harg24 : arg24.IsWhole)
variable (arg25 : Memref sig .tc .vmem S768x256 .bf16) (harg25 : arg25.IsWhole)
variable (arg26 : Memref sig .tc .vmem S768x256 .bf16) (harg26 : arg26.IsWhole)
variable (arg27 : Memref sig .tc .vmem S768x256 .bf16) (harg27 : arg27.IsWhole)
variable (arg28 : Memref sig .tc .vmem S768x256 .bf16) (harg28 : arg28.IsWhole)
variable (arg29 : Memref sig .tc .vmem S768x256 .bf16) (harg29 : arg29.IsWhole)
variable (arg30 : Memref sig .tc .vmem S768x256 .bf16) (harg30 : arg30.IsWhole)
variable (arg31 : Memref sig .tc .vmem S1x2x512x512 .f32) (harg31 : arg31.IsWhole)
variable (arg32 : Memref sig .tc .vmem S1x2x512x512 .f32) (harg32 : arg32.IsWhole)
variable (arg33 : Memref sig .tc .vmem S1x1x1 .f32) (harg33 : arg33.IsWhole)
variable (arg34 : Memref sig .tc .vmem S1x1x512x512 .f32) (harg34 : arg34.IsWhole)
variable (arg35 : Memref sig .tc .vmem S1x1x512x512 .f32) (harg35 : arg35.IsWhole)
variable (arg36 : Memref sig .tc .vmem S2x512x512 .f32) (harg36 : arg36.IsWhole)
variable (arg37 : Memref sig .tc .vmem S2x512x512 .f32) (harg37 : arg37.IsWhole)
variable (arg38 : Memref sig .tc .vmem S512x512 .f32) (harg38 : arg38.IsWhole)

set_option maxHeartbeats 1000000 in
/-- The body's first step: the packed pair's spectrum goes to the first slab of the two spectrum buffers, its power to the power buffer. -/
theorem runA (x : Vec F S1x2x512x512 .f32) (T : Fin 12 → Vec F S256x768 .bf16) (hc0 : cond0_0 i) (hc1 : ¬cond0_1 i) (hc2 : ¬cond0_2 i) (hc3 : ¬cond0_3 i)
    (E : Set ℕ) (K : PUnit → sProp 𝕄) :
    iprop(owns (c : Thread nD τ) arg2 fullShare x ∗ ownF c arg7 arg8 arg9 arg10 arg11 arg12 arg13 arg14 arg15 arg16 arg17 arg18 T ∗ (∃ f, owns (c : Thread nD τ) arg36 fullShare f) ∗ (∃ f, owns (c : Thread nD τ) arg37 fullShare f) ∗ (∃ f, owns (c : Thread nD τ) arg38 fullShare f)
          ∗ (iprop(owns (c : Thread nD τ) arg2 fullShare x ∗ ownF c arg7 arg8 arg9 arg10 arg11 arg12 arg13 arg14 arg15 arg16 arg17 arg18 T ∗ (∃ f, ⌜slab0 f = pairRe x T⌝ ∗ owns (c : Thread nD τ) arg36 fullShare f) ∗ (∃ f, ⌜slab0 f = pairIm x T⌝ ∗ owns (c : Thread nD τ) arg37 fullShare f) ∗ owns (c : Thread nD τ) arg38 fullShare (pairPow x T)) -∗ K ⟨⟩))
      ⊢ wp frame (wpE (defs₀ (F := F)) Variants.none c none) E
          (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K := by
  simp only [cc0_body_eq_skeleton]; unfold cc0_body_skel
  simp only [k0_part1_eq_skeleton, k0_part2_eq_skeleton, k0_part3_eq_skeleton]
  unfold ownF owns
  iintro ⟨⟨%f2, %h2, H2⟩, ⟨⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨%d36, %f36, %h36, H36⟩, ⟨%d37, %f37, %h37, H37⟩, ⟨%d38, %f38, %h38, H38⟩, Hk⟩
  sl_exec (disch := first | sl_exact hc0 | sl_exact hc1 | sl_exact hc2 | sl_exact hc3)
  sl_step
  iapply Hk
  have hT := family12 T h7 h8 h9 h10 h11 h12 h13 h14 h15 h16 h17 h18
  isplitl [H2]
  · iexists _; isplitr; · ipureintro; exact h2
    iexact H2
  isplitl [H7 H8 H9 H10 H11 H12 H13 H14 H15 H16 H17 H18]
  · isplitl [H7]
    · iexists _; isplitr; · ipureintro; exact h7
      iexact H7
    isplitl [H8]
    · iexists _; isplitr; · ipureintro; exact h8
      iexact H8
    isplitl [H9]
    · iexists _; isplitr; · ipureintro; exact h9
      iexact H9
    isplitl [H10]
    · iexists _; isplitr; · ipureintro; exact h10
      iexact H10
    isplitl [H11]
    · iexists _; isplitr; · ipureintro; exact h11
      iexact H11
    isplitl [H12]
    · iexists _; isplitr; · ipureintro; exact h12
      iexact H12
    isplitl [H13]
    · iexists _; isplitr; · ipureintro; exact h13
      iexact H13
    isplitl [H14]
    · iexists _; isplitr; · ipureintro; exact h14
      iexact H14
    isplitl [H15]
    · iexists _; isplitr; · ipureintro; exact h15
      iexact H15
    isplitl [H16]
    · iexists _; isplitr; · ipureintro; exact h16
      iexact H16
    isplitl [H17]
    · iexists _; isplitr; · ipureintro; exact h17
      iexact H17
    · iexists _; isplitr; · ipureintro; exact h18
      iexact H18
  isplitl [H36]
  · iexists _; isplitr; swap
    · iexists _; isplitr; swap; · iexact H36
      ipureintro; rfl
    ipureintro; rw [← wt_eq T, hT, ← h2]; exact ld_newest _ _ _ _ _
  isplitl [H37]
  · iexists _; isplitr; swap
    · iexists _; isplitr; swap; · iexact H37
      ipureintro; rfl
    ipureintro; rw [← wt_eq T, hT, ← h2]; exact ld_newest _ _ _ _ _
  · iexists _; isplitr; swap; · iexact H38
    ipureintro; rw [← wt_eq T, hT, ← h2]; exact read_full _ _ zero2 _ _ _

end Cert.KernelIdeal.Hand
-- ==== Proof.RunB.lean ====
/-
  The body's second step: the third channel's spectrum goes to the second slabs, the cut-off radius to its buffer.
-/
module
public import proofs.«01_k».proof.Proof.RunBase
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg2 : Memref sig .tc .vmem S1x2x512x512 .f32) (harg2 : arg2.IsWhole)
variable (arg3 : Memref sig .tc .vmem S512x512 .f32) (harg3 : arg3.IsWhole)
variable (arg4 : Memref sig .tc .vmem S512x512 .f32) (harg4 : arg4.IsWhole)
variable (arg5 : Memref sig .tc .vmem S512x512 .f32) (harg5 : arg5.IsWhole)
variable (arg6 : Memref sig .tc .vmem S1x1x128 .f32) (harg6 : arg6.IsWhole)
variable (arg7 : Memref sig .tc .vmem S256x768 .bf16) (harg7 : arg7.IsWhole)
variable (arg8 : Memref sig .tc .vmem S256x768 .bf16) (harg8 : arg8.IsWhole)
variable (arg9 : Memref sig .tc .vmem S256x768 .bf16) (harg9 : arg9.IsWhole)
variable (arg10 : Memref sig .tc .vmem S256x768 .bf16) (harg10 : arg10.IsWhole)
variable (arg11 : Memref sig .tc .vmem S256x768 .bf16) (harg11 : arg11.IsWhole)
variable (arg12 : Memref sig .tc .vmem S256x768 .bf16) (harg12 : arg12.IsWhole)
variable (arg13 : Memref sig .tc .vmem S256x768 .bf16) (harg13 : arg13.IsWhole)
variable (arg14 : Memref sig .tc .vmem S256x768 .bf16) (harg14 : arg14.IsWhole)
variable (arg15 : Memref sig .tc .vmem S256x768 .bf16) (harg15 : arg15.IsWhole)
variable (arg16 : Memref sig .tc .vmem S256x768 .bf16) (harg16 : arg16.IsWhole)
variable (arg17 : Memref sig .tc .vmem S256x768 .bf16) (harg17 : arg17.IsWhole)
variable (arg18 : Memref sig .tc .vmem S256x768 .bf16) (harg18 : arg18.IsWhole)
variable (arg19 : Memref sig .tc .vmem S768x256 .bf16) (harg19 : arg19.IsWhole)
variable (arg20 : Memref sig .tc .vmem S768x256 .bf16) (harg20 : arg20.IsWhole)
variable (arg21 : Memref sig .tc .vmem S768x256 .bf16) (harg21 : arg21.IsWhole)
variable (arg22 : Memref sig .tc .vmem S768x256 .bf16) (harg22 : arg22.IsWhole)
variable (arg23 : Memref sig .tc .vmem S768x256 .bf16) (harg23 : arg23.IsWhole)
variable (arg24 : Memref sig .tc .vmem S768x256 .bf16) (harg24 : arg24.IsWhole)
variable (arg25 : Memref sig .tc .vmem S768x256 .bf16) (harg25 : arg25.IsWhole)
variable (arg26 : Memref sig .tc .vmem S768x256 .bf16) (harg26 : arg26.IsWhole)
variable (arg27 : Memref sig .tc .vmem S768x256 .bf16) (harg27 : arg27.IsWhole)
variable (arg28 : Memref sig .tc .vmem S768x256 .bf16) (harg28 : arg28.IsWhole)
variable (arg29 : Memref sig .tc .vmem S768x256 .bf16) (harg29 : arg29.IsWhole)
variable (arg30 : Memref sig .tc .vmem S768x256 .bf16) (harg30 : arg30.IsWhole)
variable (arg31 : Memref sig .tc .vmem S1x2x512x512 .f32) (harg31 : arg31.IsWhole)
variable (arg32 : Memref sig .tc .vmem S1x2x512x512 .f32) (harg32 : arg32.IsWhole)
variable (arg33 : Memref sig .tc .vmem S1x1x1 .f32) (harg33 : arg33.IsWhole)
variable (arg34 : Memref sig .tc .vmem S1x1x512x512 .f32) (harg34 : arg34.IsWhole)
variable (arg35 : Memref sig .tc .vmem S1x1x512x512 .f32) (harg35 : arg35.IsWhole)
variable (arg36 : Memref sig .tc .vmem S2x512x512 .f32) (harg36 : arg36.IsWhole)
variable (arg37 : Memref sig .tc .vmem S2x512x512 .f32) (harg37 : arg37.IsWhole)
variable (arg38 : Memref sig .tc .vmem S512x512 .f32) (harg38 : arg38.IsWhole)

set_option maxHeartbeats 1000000 in
/-- The body's second step: the third channel's spectrum goes to the second slabs, the cut-off radius to its buffer. -/
theorem runB (x : Vec F S1x2x512x512 .f32) (T : Fin 12 → Vec F S256x768 .bf16) (s36 s37 : Vec F S2x512x512 .f32) (s38 bins : Vec F S512x512 .f32) (radii : Vec F S1x1x128 .f32) (hc0 : ¬cond0_0 i) (hc1 : cond0_1 i) (hc2 : ¬cond0_2 i) (hc3 : ¬cond0_3 i)
    (E : Set ℕ) (K : PUnit → sProp 𝕄) :
    iprop(owns (c : Thread nD τ) arg2 fullShare x ∗ ownF c arg7 arg8 arg9 arg10 arg11 arg12 arg13 arg14 arg15 arg16 arg17 arg18 T ∗ owns (c : Thread nD τ) arg36 fullShare s36 ∗ owns (c : Thread nD τ) arg37 fullShare s37 ∗ owns (c : Thread nD τ) arg38 fullShare s38 ∗ owns (c : Thread nD τ) arg5 fullShare bins ∗ owns (c : Thread nD τ) arg6 fullShare radii ∗ (∃ f, owns (c : Thread nD τ) arg33 fullShare f)
          ∗ (iprop(owns (c : Thread nD τ) arg2 fullShare x ∗ ownF c arg7 arg8 arg9 arg10 arg11 arg12 arg13 arg14 arg15 arg16 arg17 arg18 T ∗ (∃ f, ⌜slab0 f = slab0 s36 ∧ slab1 f = thirdRe x T⌝ ∗ owns (c : Thread nD τ) arg36 fullShare f) ∗ (∃ f, ⌜slab0 f = slab0 s37 ∧ slab1 f = thirdIm x T⌝ ∗ owns (c : Thread nD τ) arg37 fullShare f) ∗ owns (c : Thread nD τ) arg38 fullShare s38 ∗ owns (c : Thread nD τ) arg5 fullShare bins ∗ owns (c : Thread nD τ) arg6 fullShare radii ∗ owns (c : Thread nD τ) arg33 fullShare (cutoff x T s38 bins radii)) -∗ K ⟨⟩))
      ⊢ wp frame (wpE (defs₀ (F := F)) Variants.none c none) E
          (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K := by
  simp only [cc0_body_eq_skeleton]; unfold cc0_body_skel
  simp only [k0_part4_eq_skeleton, k0_part5_eq_skeleton, k0_part6_eq_skeleton]
  unfold ownF owns
  iintro ⟨⟨%f2, %h2, H2⟩, ⟨⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨%f36, %h36, H36⟩, ⟨%f37, %h37, H37⟩, ⟨%f38, %h38, H38⟩, ⟨%f5, %h5, H5⟩, ⟨%f6, %h6, H6⟩, ⟨%d33, %f33, %h33, H33⟩, Hk⟩
  sl_exec (disch := first | sl_exact hc0 | sl_exact hc1 | sl_exact hc2 | sl_exact hc3)
  sl_step
  iapply Hk
  have hT := family12 T h7 h8 h9 h10 h11 h12 h13 h14 h15 h16 h17 h18
  isplitl [H2]
  · iexists _; isplitr; · ipureintro; exact h2
    iexact H2
  isplitl [H7 H8 H9 H10 H11 H12 H13 H14 H15 H16 H17 H18]
  · isplitl [H7]
    · iexists _; isplitr; · ipureintro; exact h7
      iexact H7
    isplitl [H8]
    · iexists _; isplitr; · ipureintro; exact h8
      iexact H8
    isplitl [H9]
    · iexists _; isplitr; · ipureintro; exact h9
      iexact H9
    isplitl [H10]
    · iexists _; isplitr; · ipureintro; exact h10
      iexact H10
    isplitl [H11]
    · iexists _; isplitr; · ipureintro; exact h11
      iexact H11
    isplitl [H12]
    · iexists _; isplitr; · ipureintro; exact h12
      iexact H12
    isplitl [H13]
    · iexists _; isplitr; · ipureintro; exact h13
      iexact H13
    isplitl [H14]
    · iexists _; isplitr; · ipureintro; exact h14
      iexact H14
    isplitl [H15]
    · iexists _; isplitr; · ipureintro; exact h15
      iexact H15
    isplitl [H16]
    · iexists _; isplitr; · ipureintro; exact h16
      iexact H16
    isplitl [H17]
    · iexists _; isplitr; · ipureintro; exact h17
      iexact H17
    · iexists _; isplitr; · ipureintro; exact h18
      iexact H18
  isplitl [H36]
  · iexists _; isplitr; swap
    · iexists _; isplitr; swap; · iexact H36
      ipureintro; rfl
    ipureintro
    refine ⟨(ld_older _ _ _ _ _ _ 0 (by decide)).trans (congrArg slab0 h36), ?_⟩
    rw [← wt_eq T, hT, ← h2]; exact ld_newest _ _ _ _ _
  isplitl [H37]
  · iexists _; isplitr; swap
    · iexists _; isplitr; swap; · iexact H37
      ipureintro; rfl
    ipureintro
    refine ⟨(ld_older _ _ _ _ _ _ 0 (by decide)).trans (congrArg slab0 h37), ?_⟩
    rw [← wt_eq T, hT, ← h2]; exact ld_newest _ _ _ _ _
  isplitl [H38]
  · iexists _; isplitr; · ipureintro; exact h38
    iexact H38
  isplitl [H5]
  · iexists _; isplitr; · ipureintro; exact h5
    iexact H5
  isplitl [H6]
  · iexists _; isplitr; · ipureintro; exact h6
    iexact H6
  · iexists _; isplitr; swap; · iexact H33
    ipureintro
    rw [← wt_eq T, hT, ← h2, ← wpl_eq s38, ← wpl_eq bins, ← ld_full radii zero3 inb_S1x1x128_S1x1x128_0_0_0, ← h38, ← h5, ← h6]
    exact read_full _ _ zero3 _ _ _

end Cert.KernelIdeal.Hand
-- ==== Proof.RunC.lean ====
/-
  The body's third step: the packed pair's low and high images and the two masks.
-/
module
public import proofs.«01_k».proof.Proof.RunBase
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg2 : Memref sig .tc .vmem S1x2x512x512 .f32) (harg2 : arg2.IsWhole)
variable (arg3 : Memref sig .tc .vmem S512x512 .f32) (harg3 : arg3.IsWhole)
variable (arg4 : Memref sig .tc .vmem S512x512 .f32) (harg4 : arg4.IsWhole)
variable (arg5 : Memref sig .tc .vmem S512x512 .f32) (harg5 : arg5.IsWhole)
variable (arg6 : Memref sig .tc .vmem S1x1x128 .f32) (harg6 : arg6.IsWhole)
variable (arg7 : Memref sig .tc .vmem S256x768 .bf16) (harg7 : arg7.IsWhole)
variable (arg8 : Memref sig .tc .vmem S256x768 .bf16) (harg8 : arg8.IsWhole)
variable (arg9 : Memref sig .tc .vmem S256x768 .bf16) (harg9 : arg9.IsWhole)
variable (arg10 : Memref sig .tc .vmem S256x768 .bf16) (harg10 : arg10.IsWhole)
variable (arg11 : Memref sig .tc .vmem S256x768 .bf16) (harg11 : arg11.IsWhole)
variable (arg12 : Memref sig .tc .vmem S256x768 .bf16) (harg12 : arg12.IsWhole)
variable (arg13 : Memref sig .tc .vmem S256x768 .bf16) (harg13 : arg13.IsWhole)
variable (arg14 : Memref sig .tc .vmem S256x768 .bf16) (harg14 : arg14.IsWhole)
variable (arg15 : Memref sig .tc .vmem S256x768 .bf16) (harg15 : arg15.IsWhole)
variable (arg16 : Memref sig .tc .vmem S256x768 .bf16) (harg16 : arg16.IsWhole)
variable (arg17 : Memref sig .tc .vmem S256x768 .bf16) (harg17 : arg17.IsWhole)
variable (arg18 : Memref sig .tc .vmem S256x768 .bf16) (harg18 : arg18.IsWhole)
variable (arg19 : Memref sig .tc .vmem S768x256 .bf16) (harg19 : arg19.IsWhole)
variable (arg20 : Memref sig .tc .vmem S768x256 .bf16) (harg20 : arg20.IsWhole)
variable (arg21 : Memref sig .tc .vmem S768x256 .bf16) (harg21 : arg21.IsWhole)
variable (arg22 : Memref sig .tc .vmem S768x256 .bf16) (harg22 : arg22.IsWhole)
variable (arg23 : Memref sig .tc .vmem S768x256 .bf16) (harg23 : arg23.IsWhole)
variable (arg24 : Memref sig .tc .vmem S768x256 .bf16) (harg24 : arg24.IsWhole)
variable (arg25 : Memref sig .tc .vmem S768x256 .bf16) (harg25 : arg25.IsWhole)
variable (arg26 : Memref sig .tc .vmem S768x256 .bf16) (harg26 : arg26.IsWhole)
variable (arg27 : Memref sig .tc .vmem S768x256 .bf16) (harg27 : arg27.IsWhole)
variable (arg28 : Memref sig .tc .vmem S768x256 .bf16) (harg28 : arg28.IsWhole)
variable (arg29 : Memref sig .tc .vmem S768x256 .bf16) (harg29 : arg29.IsWhole)
variable (arg30 : Memref sig .tc .vmem S768x256 .bf16) (harg30 : arg30.IsWhole)
variable (arg31 : Memref sig .tc .vmem S1x2x512x512 .f32) (harg31 : arg31.IsWhole)
variable (arg32 : Memref sig .tc .vmem S1x2x512x512 .f32) (harg32 : arg32.IsWhole)
variable (arg33 : Memref sig .tc .vmem S1x1x1 .f32) (harg33 : arg33.IsWhole)
variable (arg34 : Memref sig .tc .vmem S1x1x512x512 .f32) (harg34 : arg34.IsWhole)
variable (arg35 : Memref sig .tc .vmem S1x1x512x512 .f32) (harg35 : arg35.IsWhole)
variable (arg36 : Memref sig .tc .vmem S2x512x512 .f32) (harg36 : arg36.IsWhole)
variable (arg37 : Memref sig .tc .vmem S2x512x512 .f32) (harg37 : arg37.IsWhole)
variable (arg38 : Memref sig .tc .vmem S512x512 .f32) (harg38 : arg38.IsWhole)

set_option maxHeartbeats 8000000 in
/-- The body's third step: the packed pair's low and high images and the two masks. -/
theorem runC (x : Vec F S1x2x512x512 .f32) (T : Fin 12 → Vec F S768x256 .bf16) (s36 s37 : Vec F S2x512x512 .f32) (rr rrp : Vec F S512x512 .f32) (d0 : Vec F S1x1x1 .f32) (hc0 : ¬cond0_0 i) (hc1 : ¬cond0_1 i) (hc2 : cond0_2 i) (hc3 : ¬cond0_3 i)
    (E : Set ℕ) (K : PUnit → sProp 𝕄) :
    iprop(owns (c : Thread nD τ) arg2 fullShare x ∗ ownG c arg19 arg20 arg21 arg22 arg23 arg24 arg25 arg26 arg27 arg28 arg29 arg30 T ∗ owns (c : Thread nD τ) arg36 fullShare s36 ∗ owns (c : Thread nD τ) arg37 fullShare s37 ∗ owns (c : Thread nD τ) arg33 fullShare d0 ∗ owns (c : Thread nD τ) arg3 fullShare rr ∗ owns (c : Thread nD τ) arg4 fullShare rrp ∗ (∃ f, owns (c : Thread nD τ) arg32 fullShare f) ∗ (∃ f, owns (c : Thread nD τ) arg31 fullShare f) ∗ (∃ f, owns (c : Thread nD τ) arg34 fullShare f) ∗ (∃ f, owns (c : Thread nD τ) arg35 fullShare f)
          ∗ (iprop(owns (c : Thread nD τ) arg2 fullShare x ∗ ownG c arg19 arg20 arg21 arg22 arg23 arg24 arg25 arg26 arg27 arg28 arg29 arg30 T ∗ owns (c : Thread nD τ) arg36 fullShare s36 ∗ owns (c : Thread nD τ) arg37 fullShare s37 ∗ owns (c : Thread nD τ) arg33 fullShare d0 ∗ owns (c : Thread nD τ) arg3 fullShare rr ∗ owns (c : Thread nD τ) arg4 fullShare rrp ∗ (∃ f, ⌜chan0 f = low0 (invPair d0 rrp (slab0 s36) (slab0 s37) T) T ∧ chan1 f = low1 (invPair d0 rrp (slab0 s36) (slab0 s37) T) T⌝ ∗ owns (c : Thread nD τ) arg32 fullShare f) ∗ (∃ f, ⌜chan0 f = high0 (invPair d0 rrp (slab0 s36) (slab0 s37) T) T (chan0 x) ∧ chan1 f = high1 (invPair d0 rrp (slab0 s36) (slab0 s37) T) T (chan1 x)⌝ ∗ owns (c : Thread nD τ) arg31 fullShare f) ∗ owns (c : Thread nD τ) arg34 fullShare (maskLow d0 rr) ∗ owns (c : Thread nD τ) arg35 fullShare (maskHigh d0 rr)) -∗ K ⟨⟩))
      ⊢ wp frame (wpE (defs₀ (F := F)) Variants.none c none) E
          (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K := by
  simp only [cc0_body_eq_skeleton]; unfold cc0_body_skel
  simp only [k0_part7_eq_skeleton, k0_part8_eq_skeleton, k0_part9_eq_skeleton, k0_part10_eq_skeleton]
  unfold ownG owns
  iintro ⟨⟨%f2, %h2, H2⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, ⟨%f36, %h36, H36⟩, ⟨%f37, %h37, H37⟩, ⟨%f33, %h33, H33⟩, ⟨%f3, %h3, H3⟩, ⟨%f4, %h4, H4⟩, ⟨%d32, %f32, %h32, H32⟩, ⟨%d31, %f31, %h31, H31⟩, ⟨%d34, %f34, %h34, H34⟩, ⟨%d35, %f35, %h35, H35⟩, Hk⟩
  sl_exec (disch := first | sl_exact hc0 | sl_exact hc1 | sl_exact hc2 | sl_exact hc3)
  sl_step
  iapply Hk
  have hT := family12 T h19 h20 h21 h22 h23 h24 h25 h26 h27 h28 h29 h30
  isplitl [H2]
  · iexists _; isplitr; · ipureintro; exact h2
    iexact H2
  isplitl [H19 H20 H21 H22 H23 H24 H25 H26 H27 H28 H29 H30]
  · isplitl [H19]
    · iexists _; isplitr; · ipureintro; exact h19
      iexact H19
    isplitl [H20]
    · iexists _; isplitr; · ipureintro; exact h20
      iexact H20
    isplitl [H21]
    · iexists _; isplitr; · ipureintro; exact h21
      iexact H21
    isplitl [H22]
    · iexists _; isplitr; · ipureintro; exact h22
      iexact H22
    isplitl [H23]
    · iexists _; isplitr; · ipureintro; exact h23
      iexact H23
    isplitl [H24]
    · iexists _; isplitr; · ipureintro; exact h24
      iexact H24
    isplitl [H25]
    · iexists _; isplitr; · ipureintro; exact h25
      iexact H25
    isplitl [H26]
    · iexists _; isplitr; · ipureintro; exact h26
      iexact H26
    isplitl [H27]
    · iexists _; isplitr; · ipureintro; exact h27
      iexact H27
    isplitl [H28]
    · iexists _; isplitr; · ipureintro; exact h28
      iexact H28
    isplitl [H29]
    · iexists _; isplitr; · ipureintro; exact h29
      iexact H29
    · iexists _; isplitr; · ipureintro; exact h30
      iexact H30
  isplitl [H36]
  · iexists _; isplitr; · ipureintro; exact h36
    iexact H36
  isplitl [H37]
  · iexists _; isplitr; · ipureintro; exact h37
    iexact H37
  isplitl [H33]
  · iexists _; isplitr; · ipureintro; exact h33
    iexact H33
  isplitl [H3]
  · iexists _; isplitr; · ipureintro; exact h3
    iexact H3
  isplitl [H4]
  · iexists _; isplitr; · ipureintro; exact h4
    iexact H4
  isplitl [H32]
  · iexists _; isplitr; swap
    · iexists _; isplitr; swap; · iexact H32
      ipureintro; rfl
    ipureintro
    rw [← wg_eq T, hT, ← h36, ← h37, ← wpl_eq rrp, ← h4, ← ld_full d0 zero3 inb_S1x1x1_S1x1x1_0_0_0, ← h33]
    exact ⟨(ld_older _ _ _ _ _ _ 1 (by decide)).trans (ld_newest _ _ _ _ _), ld_newest _ _ _ _ _⟩
  isplitl [H31]
  · iexists _; isplitr; swap
    · iexists _; isplitr; swap; · iexact H31
      ipureintro; rfl
    ipureintro
    rw [← wg_eq T, hT, ← h36, ← h37, ← wpl_eq rrp, ← h4, ← ld_full d0 zero3 inb_S1x1x1_S1x1x1_0_0_0, ← h33, ← h2]
    exact ⟨(ld_older _ _ _ _ _ _ 1 (by decide)).trans (ld_newest _ _ _ _ _), ld_newest _ _ _ _ _⟩
  isplitl [H34]
  · iexists _; isplitr; swap; · iexact H34
    ipureintro
    rw [← ld_full d0 zero3 inb_S1x1x1_S1x1x1_0_0_0, ← h33, ← wpl_eq rr, ← h3]
    exact read_full _ _ zero4 _ _ _
  · iexists _; isplitr; swap; · iexact H35
    ipureintro
    rw [← ld_full d0 zero3 inb_S1x1x1_S1x1x1_0_0_0, ← h33, ← wpl_eq rr, ← h3]
    exact read_full _ _ zero4 _ _ _

end Cert.KernelIdeal.Hand
-- ==== Proof.RunD.lean ====
/-
  The body's last step: the third channel's low and high images.
-/
module
public import proofs.«01_k».proof.Proof.RunBase
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg2 : Memref sig .tc .vmem S1x2x512x512 .f32) (harg2 : arg2.IsWhole)
variable (arg3 : Memref sig .tc .vmem S512x512 .f32) (harg3 : arg3.IsWhole)
variable (arg4 : Memref sig .tc .vmem S512x512 .f32) (harg4 : arg4.IsWhole)
variable (arg5 : Memref sig .tc .vmem S512x512 .f32) (harg5 : arg5.IsWhole)
variable (arg6 : Memref sig .tc .vmem S1x1x128 .f32) (harg6 : arg6.IsWhole)
variable (arg7 : Memref sig .tc .vmem S256x768 .bf16) (harg7 : arg7.IsWhole)
variable (arg8 : Memref sig .tc .vmem S256x768 .bf16) (harg8 : arg8.IsWhole)
variable (arg9 : Memref sig .tc .vmem S256x768 .bf16) (harg9 : arg9.IsWhole)
variable (arg10 : Memref sig .tc .vmem S256x768 .bf16) (harg10 : arg10.IsWhole)
variable (arg11 : Memref sig .tc .vmem S256x768 .bf16) (harg11 : arg11.IsWhole)
variable (arg12 : Memref sig .tc .vmem S256x768 .bf16) (harg12 : arg12.IsWhole)
variable (arg13 : Memref sig .tc .vmem S256x768 .bf16) (harg13 : arg13.IsWhole)
variable (arg14 : Memref sig .tc .vmem S256x768 .bf16) (harg14 : arg14.IsWhole)
variable (arg15 : Memref sig .tc .vmem S256x768 .bf16) (harg15 : arg15.IsWhole)
variable (arg16 : Memref sig .tc .vmem S256x768 .bf16) (harg16 : arg16.IsWhole)
variable (arg17 : Memref sig .tc .vmem S256x768 .bf16) (harg17 : arg17.IsWhole)
variable (arg18 : Memref sig .tc .vmem S256x768 .bf16) (harg18 : arg18.IsWhole)
variable (arg19 : Memref sig .tc .vmem S768x256 .bf16) (harg19 : arg19.IsWhole)
variable (arg20 : Memref sig .tc .vmem S768x256 .bf16) (harg20 : arg20.IsWhole)
variable (arg21 : Memref sig .tc .vmem S768x256 .bf16) (harg21 : arg21.IsWhole)
variable (arg22 : Memref sig .tc .vmem S768x256 .bf16) (harg22 : arg22.IsWhole)
variable (arg23 : Memref sig .tc .vmem S768x256 .bf16) (harg23 : arg23.IsWhole)
variable (arg24 : Memref sig .tc .vmem S768x256 .bf16) (harg24 : arg24.IsWhole)
variable (arg25 : Memref sig .tc .vmem S768x256 .bf16) (harg25 : arg25.IsWhole)
variable (arg26 : Memref sig .tc .vmem S768x256 .bf16) (harg26 : arg26.IsWhole)
variable (arg27 : Memref sig .tc .vmem S768x256 .bf16) (harg27 : arg27.IsWhole)
variable (arg28 : Memref sig .tc .vmem S768x256 .bf16) (harg28 : arg28.IsWhole)
variable (arg29 : Memref sig .tc .vmem S768x256 .bf16) (harg29 : arg29.IsWhole)
variable (arg30 : Memref sig .tc .vmem S768x256 .bf16) (harg30 : arg30.IsWhole)
variable (arg31 : Memref sig .tc .vmem S1x2x512x512 .f32) (harg31 : arg31.IsWhole)
variable (arg32 : Memref sig .tc .vmem S1x2x512x512 .f32) (harg32 : arg32.IsWhole)
variable (arg33 : Memref sig .tc .vmem S1x1x1 .f32) (harg33 : arg33.IsWhole)
variable (arg34 : Memref sig .tc .vmem S1x1x512x512 .f32) (harg34 : arg34.IsWhole)
variable (arg35 : Memref sig .tc .vmem S1x1x512x512 .f32) (harg35 : arg35.IsWhole)
variable (arg36 : Memref sig .tc .vmem S2x512x512 .f32) (harg36 : arg36.IsWhole)
variable (arg37 : Memref sig .tc .vmem S2x512x512 .f32) (harg37 : arg37.IsWhole)
variable (arg38 : Memref sig .tc .vmem S512x512 .f32) (harg38 : arg38.IsWhole)

set_option maxHeartbeats 1000000 in
/-- The body's last step: the third channel's low and high images. -/
theorem runD (x : Vec F S1x2x512x512 .f32) (T : Fin 12 → Vec F S768x256 .bf16) (s36 s37 : Vec F S2x512x512 .f32) (rrp : Vec F S512x512 .f32) (d0 : Vec F S1x1x1 .f32) (hc0 : ¬cond0_0 i) (hc1 : ¬cond0_1 i) (hc2 : ¬cond0_2 i) (hc3 : cond0_3 i)
    (E : Set ℕ) (K : PUnit → sProp 𝕄) :
    iprop(owns (c : Thread nD τ) arg2 fullShare x ∗ ownG c arg19 arg20 arg21 arg22 arg23 arg24 arg25 arg26 arg27 arg28 arg29 arg30 T ∗ owns (c : Thread nD τ) arg36 fullShare s36 ∗ owns (c : Thread nD τ) arg37 fullShare s37 ∗ owns (c : Thread nD τ) arg33 fullShare d0 ∗ owns (c : Thread nD τ) arg4 fullShare rrp ∗ (∃ f, owns (c : Thread nD τ) arg32 fullShare f) ∗ (∃ f, owns (c : Thread nD τ) arg31 fullShare f)
          ∗ (iprop(owns (c : Thread nD τ) arg2 fullShare x ∗ ownG c arg19 arg20 arg21 arg22 arg23 arg24 arg25 arg26 arg27 arg28 arg29 arg30 T ∗ owns (c : Thread nD τ) arg36 fullShare s36 ∗ owns (c : Thread nD τ) arg37 fullShare s37 ∗ owns (c : Thread nD τ) arg33 fullShare d0 ∗ owns (c : Thread nD τ) arg4 fullShare rrp ∗ (∃ f, ⌜chan0 f = low2 (invThird d0 rrp (slab1 s36) (slab1 s37) T) T⌝ ∗ owns (c : Thread nD τ) arg32 fullShare f) ∗ (∃ f, ⌜chan0 f = high2 (invThird d0 rrp (slab1 s36) (slab1 s37) T) T (chan0 x)⌝ ∗ owns (c : Thread nD τ) arg31 fullShare f)) -∗ K ⟨⟩))
      ⊢ wp frame (wpE (defs₀ (F := F)) Variants.none c none) E
          (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K := by
  simp only [cc0_body_eq_skeleton]; unfold cc0_body_skel
  simp only [k0_part11_eq_skeleton, k0_part12_eq_skeleton, k0_part13_eq_skeleton]
  unfold ownG owns
  iintro ⟨⟨%f2, %h2, H2⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, ⟨%f36, %h36, H36⟩, ⟨%f37, %h37, H37⟩, ⟨%f33, %h33, H33⟩, ⟨%f4, %h4, H4⟩, ⟨%d32, %f32, %h32, H32⟩, ⟨%d31, %f31, %h31, H31⟩, Hk⟩
  sl_exec (disch := first | sl_exact hc0 | sl_exact hc1 | sl_exact hc2 | sl_exact hc3)
  sl_step
  iapply Hk
  have hT := family12 T h19 h20 h21 h22 h23 h24 h25 h26 h27 h28 h29 h30
  isplitl [H2]
  · iexists _; isplitr; · ipureintro; exact h2
    iexact H2
  isplitl [H19 H20 H21 H22 H23 H24 H25 H26 H27 H28 H29 H30]
  · isplitl [H19]
    · iexists _; isplitr; · ipureintro; exact h19
      iexact H19
    isplitl [H20]
    · iexists _; isplitr; · ipureintro; exact h20
      iexact H20
    isplitl [H21]
    · iexists _; isplitr; · ipureintro; exact h21
      iexact H21
    isplitl [H22]
    · iexists _; isplitr; · ipureintro; exact h22
      iexact H22
    isplitl [H23]
    · iexists _; isplitr; · ipureintro; exact h23
      iexact H23
    isplitl [H24]
    · iexists _; isplitr; · ipureintro; exact h24
      iexact H24
    isplitl [H25]
    · iexists _; isplitr; · ipureintro; exact h25
      iexact H25
    isplitl [H26]
    · iexists _; isplitr; · ipureintro; exact h26
      iexact H26
    isplitl [H27]
    · iexists _; isplitr; · ipureintro; exact h27
      iexact H27
    isplitl [H28]
    · iexists _; isplitr; · ipureintro; exact h28
      iexact H28
    isplitl [H29]
    · iexists _; isplitr; · ipureintro; exact h29
      iexact H29
    · iexists _; isplitr; · ipureintro; exact h30
      iexact H30
  isplitl [H36]
  · iexists _; isplitr; · ipureintro; exact h36
    iexact H36
  isplitl [H37]
  · iexists _; isplitr; · ipureintro; exact h37
    iexact H37
  isplitl [H33]
  · iexists _; isplitr; · ipureintro; exact h33
    iexact H33
  isplitl [H4]
  · iexists _; isplitr; · ipureintro; exact h4
    iexact H4
  isplitl [H32]
  · iexists _; isplitr; swap
    · iexists _; isplitr; swap; · iexact H32
      ipureintro; rfl
    ipureintro
    rw [← wg_eq T, hT, ← h36, ← h37, ← wpl_eq rrp, ← h4, ← ld_full d0 zero3 inb_S1x1x1_S1x1x1_0_0_0, ← h33]
    exact ld_newest _ _ _ _ _
  · iexists _; isplitr; swap
    · iexists _; isplitr; swap; · iexact H31
      ipureintro; rfl
    ipureintro
    rw [← wg_eq T, hT, ← h36, ← h37, ← wpl_eq rrp, ← h4, ← ld_full d0 zero3 inb_S1x1x1_S1x1x1_0_0_0, ← h33, ← h2]
    exact ld_newest _ _ _ _ _

end Cert.KernelIdeal.Hand
-- ==== Proof.Dats.lean ====
/-
  What every staging buffer of the pallas_call holds after every step of the grid, and what the three scratch buffers
  hold between the steps.  The grid's point number n works on image n / 4: its step n % 4 = 0 transforms the image's first
  two channels, 1 the third, 2 inverts the first two, 3 the third.
-/
module

public import proofs.«01_k».proof.Proof.RunA
public import proofs.«01_k».proof.Proof.RunB
public import proofs.«01_k».proof.Proof.RunC
public import proofs.«01_k».proof.Proof.RunD
public import proofs.«01_k».proof.Proof.Gen.KernelIdeal.Frame
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (c : Dev nD)

/-- Point number `n` of the grid. -/
def pt (n : ℕ) : Fin cfg0.N := ⟨n % 64, by rw [show cfg0.N = 64 from N_0]; omega⟩

theorem pt_val (t : Fin cfg0.N) : pt t.val = t := by
  have h : cfg0.N = 64 := N_0
  have := t.isLt
  exact Fin.ext (show t.val % 64 = t.val by omega)

/-! ## The operands -/

/-- The image block of point `t`, filled out with zeros where it overhangs the array. -/
def xblk (t : Fin cfg0.N) : Vec F S1x2x512x512 .f32 :=
  (cfg0.win 0).fill (cfg0.grid.coords t) (fun _ => Scalar.ofBits .f32 0#32) (iblk m c 0 t)

/-- The pair's block and the third channel's of the image of point number `n`. -/
def xpair (n : ℕ) : Vec F S1x2x512x512 .f32 := xblk m c (pt (4 * (n / 4)))
def xthird (n : ℕ) : Vec F S1x2x512x512 .f32 := xblk m c (pt (4 * (n / 4) + 1))

/-- An operand's array as the pallas_call finds it. -/
@[irreducible] def arr (w : Fin 34) : Buf (Elt F) ((c : Thread nD τ).loc (Pipeline.arrRef spec0 w)) := V m c (Pipeline.arrRef spec0 w)

/-- The radii of the frequencies, rows and columns centred, -/
def rrTab : Vec F S512x512 .f32 := arr m c 1
/-- the same with even frequencies first, -/
def rrpTab : Vec F S512x512 .f32 := arr m c 2
/-- the bins of the frequencies in that order, -/
def binTab : Vec F S512x512 .f32 := arr m c 3
/-- and the bins' radii. -/
def radTab : Vec F S1x1x128 .f32 := arr m c 4
/-- The tables of the forward transform and of the inverse one. -/
def tabF : Fin 12 → Vec F S256x768 .bf16 :=
  ![arr m c 5, arr m c 6, arr m c 7, arr m c 8, arr m c 9, arr m c 10, arr m c 11, arr m c 12, arr m c 13, arr m c 14, arr m c 15, arr m c 16]
def tabG : Fin 12 → Vec F S768x256 .bf16 :=
  ![arr m c 17, arr m c 18, arr m c 19, arr m c 20, arr m c 21, arr m c 22, arr m c 23, arr m c 24, arr m c 25, arr m c 26, arr m c 27, arr m c 28]

/-! Every operand but the image is staged whole: its block at any point is its array. -/

/-- A block whose index is zero on every axis of its array reads the array in place. -/
theorem read_whole (w : Fin cfg0.W) (t : Fin cfg0.N) (h : ∀ a, (cfg0.win w).index t a = 0)
    (i : ((cfg0.win w).xblock (cfg0.grid.coords t)).Idx) (a : Fin (cfg0.win w).shape.rank) :
    (((cfg0.win w).rect t).emb i a : ℕ) = i a :=
  (cfg0.win w).rect_emb_val_of_index_zero t a (h a) i

theorem idx_1 (t : Fin cfg0.N) (a) : (cfg0.win 1).index t a = 0 := by fin_cases a <;> rfl
theorem whole_1 (t : Fin cfg0.N) (X : Vec F S512x512 .f32) : ((cfg0.win 1).blk t).view.read (Elt F) X = X :=
  funext fun i => congrArg X (funext fun a => Fin.ext (read_whole 1 t (idx_1 t) i a))
theorem iblk_1 (t : Fin cfg0.N) : iblk m c 1 t = arr m c 1 := by
  unfold arr iblk; exact whole_1 t _
theorem idx_2 (t : Fin cfg0.N) (a) : (cfg0.win 2).index t a = 0 := by fin_cases a <;> rfl
theorem whole_2 (t : Fin cfg0.N) (X : Vec F S512x512 .f32) : ((cfg0.win 2).blk t).view.read (Elt F) X = X :=
  funext fun i => congrArg X (funext fun a => Fin.ext (read_whole 2 t (idx_2 t) i a))
theorem iblk_2 (t : Fin cfg0.N) : iblk m c 2 t = arr m c 2 := by
  unfold arr iblk; exact whole_2 t _
theorem idx_3 (t : Fin cfg0.N) (a) : (cfg0.win 3).index t a = 0 := by fin_cases a <;> rfl
theorem whole_3 (t : Fin cfg0.N) (X : Vec F S512x512 .f32) : ((cfg0.win 3).blk t).view.read (Elt F) X = X :=
  funext fun i => congrArg X (funext fun a => Fin.ext (read_whole 3 t (idx_3 t) i a))
theorem iblk_3 (t : Fin cfg0.N) : iblk m c 3 t = arr m c 3 := by
  unfold arr iblk; exact whole_3 t _
theorem idx_4 (t : Fin cfg0.N) (a) : (cfg0.win 4).index t a = 0 := by fin_cases a <;> rfl
theorem whole_4 (t : Fin cfg0.N) (X : Vec F S1x1x128 .f32) : ((cfg0.win 4).blk t).view.read (Elt F) X = X :=
  funext fun i => congrArg X (funext fun a => Fin.ext (read_whole 4 t (idx_4 t) i a))
theorem iblk_4 (t : Fin cfg0.N) : iblk m c 4 t = arr m c 4 := by
  unfold arr iblk; exact whole_4 t _
theorem idx_5 (t : Fin cfg0.N) (a) : (cfg0.win 5).index t a = 0 := by fin_cases a <;> rfl
theorem whole_5 (t : Fin cfg0.N) (X : Vec F S256x768 .bf16) : ((cfg0.win 5).blk t).view.read (Elt F) X = X :=
  funext fun i => congrArg X (funext fun a => Fin.ext (read_whole 5 t (idx_5 t) i a))
theorem iblk_5 (t : Fin cfg0.N) : iblk m c 5 t = arr m c 5 := by
  unfold arr iblk; exact whole_5 t _
theorem idx_6 (t : Fin cfg0.N) (a) : (cfg0.win 6).index t a = 0 := by fin_cases a <;> rfl
theorem whole_6 (t : Fin cfg0.N) (X : Vec F S256x768 .bf16) : ((cfg0.win 6).blk t).view.read (Elt F) X = X :=
  funext fun i => congrArg X (funext fun a => Fin.ext (read_whole 6 t (idx_6 t) i a))
theorem iblk_6 (t : Fin cfg0.N) : iblk m c 6 t = arr m c 6 := by
  unfold arr iblk; exact whole_6 t _
theorem idx_7 (t : Fin cfg0.N) (a) : (cfg0.win 7).index t a = 0 := by fin_cases a <;> rfl
theorem whole_7 (t : Fin cfg0.N) (X : Vec F S256x768 .bf16) : ((cfg0.win 7).blk t).view.read (Elt F) X = X :=
  funext fun i => congrArg X (funext fun a => Fin.ext (read_whole 7 t (idx_7 t) i a))
theorem iblk_7 (t : Fin cfg0.N) : iblk m c 7 t = arr m c 7 := by
  unfold arr iblk; exact whole_7 t _
theorem idx_8 (t : Fin cfg0.N) (a) : (cfg0.win 8).index t a = 0 := by fin_cases a <;> rfl
theorem whole_8 (t : Fin cfg0.N) (X : Vec F S256x768 .bf16) : ((cfg0.win 8).blk t).view.read (Elt F) X = X :=
  funext fun i => congrArg X (funext fun a => Fin.ext (read_whole 8 t (idx_8 t) i a))
theorem iblk_8 (t : Fin cfg0.N) : iblk m c 8 t = arr m c 8 := by
  unfold arr iblk; exact whole_8 t _
theorem idx_9 (t : Fin cfg0.N) (a) : (cfg0.win 9).index t a = 0 := by fin_cases a <;> rfl
theorem whole_9 (t : Fin cfg0.N) (X : Vec F S256x768 .bf16) : ((cfg0.win 9).blk t).view.read (Elt F) X = X :=
  funext fun i => congrArg X (funext fun a => Fin.ext (read_whole 9 t (idx_9 t) i a))
theorem iblk_9 (t : Fin cfg0.N) : iblk m c 9 t = arr m c 9 := by
  unfold arr iblk; exact whole_9 t _
theorem idx_10 (t : Fin cfg0.N) (a) : (cfg0.win 10).index t a = 0 := by fin_cases a <;> rfl
theorem whole_10 (t : Fin cfg0.N) (X : Vec F S256x768 .bf16) : ((cfg0.win 10).blk t).view.read (Elt F) X = X :=
  funext fun i => congrArg X (funext fun a => Fin.ext (read_whole 10 t (idx_10 t) i a))
theorem iblk_10 (t : Fin cfg0.N) : iblk m c 10 t = arr m c 10 := by
  unfold arr iblk; exact whole_10 t _
theorem idx_11 (t : Fin cfg0.N) (a) : (cfg0.win 11).index t a = 0 := by fin_cases a <;> rfl
theorem whole_11 (t : Fin cfg0.N) (X : Vec F S256x768 .bf16) : ((cfg0.win 11).blk t).view.read (Elt F) X = X :=
  funext fun i => congrArg X (funext fun a => Fin.ext (read_whole 11 t (idx_11 t) i a))
theorem iblk_11 (t : Fin cfg0.N) : iblk m c 11 t = arr m c 11 := by
  unfold arr iblk; exact whole_11 t _
theorem idx_12 (t : Fin cfg0.N) (a) : (cfg0.win 12).index t a = 0 := by fin_cases a <;> rfl
theorem whole_12 (t : Fin cfg0.N) (X : Vec F S256x768 .bf16) : ((cfg0.win 12).blk t).view.read (Elt F) X = X :=
  funext fun i => congrArg X (funext fun a => Fin.ext (read_whole 12 t (idx_12 t) i a))
theorem iblk_12 (t : Fin cfg0.N) : iblk m c 12 t = arr m c 12 := by
  unfold arr iblk; exact whole_12 t _
theorem idx_13 (t : Fin cfg0.N) (a) : (cfg0.win 13).index t a = 0 := by fin_cases a <;> rfl
theorem whole_13 (t : Fin cfg0.N) (X : Vec F S256x768 .bf16) : ((cfg0.win 13).blk t).view.read (Elt F) X = X :=
  funext fun i => congrArg X (funext fun a => Fin.ext (read_whole 13 t (idx_13 t) i a))
theorem iblk_13 (t : Fin cfg0.N) : iblk m c 13 t = arr m c 13 := by
  unfold arr iblk; exact whole_13 t _
theorem idx_14 (t : Fin cfg0.N) (a) : (cfg0.win 14).index t a = 0 := by fin_cases a <;> rfl
theorem whole_14 (t : Fin cfg0.N) (X : Vec F S256x768 .bf16) : ((cfg0.win 14).blk t).view.read (Elt F) X = X :=
  funext fun i => congrArg X (funext fun a => Fin.ext (read_whole 14 t (idx_14 t) i a))
theorem iblk_14 (t : Fin cfg0.N) : iblk m c 14 t = arr m c 14 := by
  unfold arr iblk; exact whole_14 t _
theorem idx_15 (t : Fin cfg0.N) (a) : (cfg0.win 15).index t a = 0 := by fin_cases a <;> rfl
theorem whole_15 (t : Fin cfg0.N) (X : Vec F S256x768 .bf16) : ((cfg0.win 15).blk t).view.read (Elt F) X = X :=
  funext fun i => congrArg X (funext fun a => Fin.ext (read_whole 15 t (idx_15 t) i a))
theorem iblk_15 (t : Fin cfg0.N) : iblk m c 15 t = arr m c 15 := by
  unfold arr iblk; exact whole_15 t _
theorem idx_16 (t : Fin cfg0.N) (a) : (cfg0.win 16).index t a = 0 := by fin_cases a <;> rfl
theorem whole_16 (t : Fin cfg0.N) (X : Vec F S256x768 .bf16) : ((cfg0.win 16).blk t).view.read (Elt F) X = X :=
  funext fun i => congrArg X (funext fun a => Fin.ext (read_whole 16 t (idx_16 t) i a))
theorem iblk_16 (t : Fin cfg0.N) : iblk m c 16 t = arr m c 16 := by
  unfold arr iblk; exact whole_16 t _
theorem idx_17 (t : Fin cfg0.N) (a) : (cfg0.win 17).index t a = 0 := by fin_cases a <;> rfl
theorem whole_17 (t : Fin cfg0.N) (X : Vec F S768x256 .bf16) : ((cfg0.win 17).blk t).view.read (Elt F) X = X :=
  funext fun i => congrArg X (funext fun a => Fin.ext (read_whole 17 t (idx_17 t) i a))
theorem iblk_17 (t : Fin cfg0.N) : iblk m c 17 t = arr m c 17 := by
  unfold arr iblk; exact whole_17 t _
theorem idx_18 (t : Fin cfg0.N) (a) : (cfg0.win 18).index t a = 0 := by fin_cases a <;> rfl
theorem whole_18 (t : Fin cfg0.N) (X : Vec F S768x256 .bf16) : ((cfg0.win 18).blk t).view.read (Elt F) X = X :=
  funext fun i => congrArg X (funext fun a => Fin.ext (read_whole 18 t (idx_18 t) i a))
theorem iblk_18 (t : Fin cfg0.N) : iblk m c 18 t = arr m c 18 := by
  unfold arr iblk; exact whole_18 t _
theorem idx_19 (t : Fin cfg0.N) (a) : (cfg0.win 19).index t a = 0 := by fin_cases a <;> rfl
theorem whole_19 (t : Fin cfg0.N) (X : Vec F S768x256 .bf16) : ((cfg0.win 19).blk t).view.read (Elt F) X = X :=
  funext fun i => congrArg X (funext fun a => Fin.ext (read_whole 19 t (idx_19 t) i a))
theorem iblk_19 (t : Fin cfg0.N) : iblk m c 19 t = arr m c 19 := by
  unfold arr iblk; exact whole_19 t _
theorem idx_20 (t : Fin cfg0.N) (a) : (cfg0.win 20).index t a = 0 := by fin_cases a <;> rfl
theorem whole_20 (t : Fin cfg0.N) (X : Vec F S768x256 .bf16) : ((cfg0.win 20).blk t).view.read (Elt F) X = X :=
  funext fun i => congrArg X (funext fun a => Fin.ext (read_whole 20 t (idx_20 t) i a))
theorem iblk_20 (t : Fin cfg0.N) : iblk m c 20 t = arr m c 20 := by
  unfold arr iblk; exact whole_20 t _
theorem idx_21 (t : Fin cfg0.N) (a) : (cfg0.win 21).index t a = 0 := by fin_cases a <;> rfl
theorem whole_21 (t : Fin cfg0.N) (X : Vec F S768x256 .bf16) : ((cfg0.win 21).blk t).view.read (Elt F) X = X :=
  funext fun i => congrArg X (funext fun a => Fin.ext (read_whole 21 t (idx_21 t) i a))
theorem iblk_21 (t : Fin cfg0.N) : iblk m c 21 t = arr m c 21 := by
  unfold arr iblk; exact whole_21 t _
theorem idx_22 (t : Fin cfg0.N) (a) : (cfg0.win 22).index t a = 0 := by fin_cases a <;> rfl
theorem whole_22 (t : Fin cfg0.N) (X : Vec F S768x256 .bf16) : ((cfg0.win 22).blk t).view.read (Elt F) X = X :=
  funext fun i => congrArg X (funext fun a => Fin.ext (read_whole 22 t (idx_22 t) i a))
theorem iblk_22 (t : Fin cfg0.N) : iblk m c 22 t = arr m c 22 := by
  unfold arr iblk; exact whole_22 t _
theorem idx_23 (t : Fin cfg0.N) (a) : (cfg0.win 23).index t a = 0 := by fin_cases a <;> rfl
theorem whole_23 (t : Fin cfg0.N) (X : Vec F S768x256 .bf16) : ((cfg0.win 23).blk t).view.read (Elt F) X = X :=
  funext fun i => congrArg X (funext fun a => Fin.ext (read_whole 23 t (idx_23 t) i a))
theorem iblk_23 (t : Fin cfg0.N) : iblk m c 23 t = arr m c 23 := by
  unfold arr iblk; exact whole_23 t _
theorem idx_24 (t : Fin cfg0.N) (a) : (cfg0.win 24).index t a = 0 := by fin_cases a <;> rfl
theorem whole_24 (t : Fin cfg0.N) (X : Vec F S768x256 .bf16) : ((cfg0.win 24).blk t).view.read (Elt F) X = X :=
  funext fun i => congrArg X (funext fun a => Fin.ext (read_whole 24 t (idx_24 t) i a))
theorem iblk_24 (t : Fin cfg0.N) : iblk m c 24 t = arr m c 24 := by
  unfold arr iblk; exact whole_24 t _
theorem idx_25 (t : Fin cfg0.N) (a) : (cfg0.win 25).index t a = 0 := by fin_cases a <;> rfl
theorem whole_25 (t : Fin cfg0.N) (X : Vec F S768x256 .bf16) : ((cfg0.win 25).blk t).view.read (Elt F) X = X :=
  funext fun i => congrArg X (funext fun a => Fin.ext (read_whole 25 t (idx_25 t) i a))
theorem iblk_25 (t : Fin cfg0.N) : iblk m c 25 t = arr m c 25 := by
  unfold arr iblk; exact whole_25 t _
theorem idx_26 (t : Fin cfg0.N) (a) : (cfg0.win 26).index t a = 0 := by fin_cases a <;> rfl
theorem whole_26 (t : Fin cfg0.N) (X : Vec F S768x256 .bf16) : ((cfg0.win 26).blk t).view.read (Elt F) X = X :=
  funext fun i => congrArg X (funext fun a => Fin.ext (read_whole 26 t (idx_26 t) i a))
theorem iblk_26 (t : Fin cfg0.N) : iblk m c 26 t = arr m c 26 := by
  unfold arr iblk; exact whole_26 t _
theorem idx_27 (t : Fin cfg0.N) (a) : (cfg0.win 27).index t a = 0 := by fin_cases a <;> rfl
theorem whole_27 (t : Fin cfg0.N) (X : Vec F S768x256 .bf16) : ((cfg0.win 27).blk t).view.read (Elt F) X = X :=
  funext fun i => congrArg X (funext fun a => Fin.ext (read_whole 27 t (idx_27 t) i a))
theorem iblk_27 (t : Fin cfg0.N) : iblk m c 27 t = arr m c 27 := by
  unfold arr iblk; exact whole_27 t _
theorem idx_28 (t : Fin cfg0.N) (a) : (cfg0.win 28).index t a = 0 := by fin_cases a <;> rfl
theorem whole_28 (t : Fin cfg0.N) (X : Vec F S768x256 .bf16) : ((cfg0.win 28).blk t).view.read (Elt F) X = X :=
  funext fun i => congrArg X (funext fun a => Fin.ext (read_whole 28 t (idx_28 t) i a))
theorem iblk_28 (t : Fin cfg0.N) : iblk m c 28 t = arr m c 28 := by
  unfold arr iblk; exact whole_28 t _

/-! ## The results -/

/-- The cut-off radius of the image of point number `n`. -/
def d0Of (n : ℕ) : Vec F S1x1x1 .f32 :=
  cutoff (xthird m c n) (tabF m c) (pairPow (xpair m c n) (tabF m c)) (binTab m c) (radTab m c)
/-- The inverse transforms of its masked spectra. -/
def invP (n : ℕ) : Inv F :=
  invPair (d0Of m c n) (rrpTab m c) (pairRe (xpair m c n) (tabF m c)) (pairIm (xpair m c n) (tabF m c)) (tabG m c)
def invT (n : ℕ) : Inv F :=
  invThird (d0Of m c n) (rrpTab m c) (thirdRe (xthird m c n) (tabF m c)) (thirdIm (xthird m c n) (tabF m c)) (tabG m c)

/-- Two channels as one block. -/
def glue (a b : Vec F S1x1x512x512 .f32) : Vec F S1x2x512x512 .f32 := fun i =>
  if (i 1).val = 0 then a (fun | 0 => i 0 | 1 => (0 : Fin 1) | 2 => i 2 | 3 => i 3)
  else b (fun | 0 => i 0 | 1 => (0 : Fin 1) | 2 => i 2 | 3 => i 3)

/-- The low and the high block point `t` leaves. -/
def lowAt (t : Fin cfg0.N) : Vec F S1x2x512x512 .f32 :=
  if t.val % 4 = 2 then glue (low0 (invP m c t.val) (tabG m c)) (low1 (invP m c t.val) (tabG m c))
  else glue (low2 (invT m c t.val) (tabG m c)) (low2 (invT m c t.val) (tabG m c))
def highAt (t : Fin cfg0.N) : Vec F S1x2x512x512 .f32 :=
  if t.val % 4 = 2 then glue (high0 (invP m c t.val) (tabG m c) (chan0 (xblk m c t))) (high1 (invP m c t.val) (tabG m c) (chan1 (xblk m c t)))
  else glue (high2 (invT m c t.val) (tabG m c) (chan0 (xblk m c t))) (high2 (invT m c t.val) (tabG m c) (chan0 (xblk m c t)))

/-- What the scratch buffers hold before point number `n`: after a first step the pair's spectrum and power, after a
    second the pair's spectrum and the third channel's, after a third the latter. -/
def Held (n : ℕ) (s36 s37 : Vec F S2x512x512 .f32) (s38 : Vec F S512x512 .f32) : Prop :=
  ((n % 4 = 1 ∨ n % 4 = 2) → slab0 s36 = pairRe (xpair m c n) (tabF m c) ∧ slab0 s37 = pairIm (xpair m c n) (tabF m c))
  ∧ (n % 4 = 1 → s38 = pairPow (xpair m c n) (tabF m c))
  ∧ ((n % 4 = 2 ∨ n % 4 = 3) → slab1 s36 = thirdRe (xthird m c n) (tabF m c) ∧ slab1 s37 = thirdIm (xthird m c n) (tabF m c))

/-- The scratch buffers and the generator's register before point number `n`. -/
def scr (n : ℕ) : sProp 𝕄 :=
  iprop((∃ s36 s37 s38, ⌜Held m c n s36 s37 s38⌝ ∗ owns (c : Thread nD τ) (Memref.whole cc0_scratch0) fullShare s36
      ∗ owns (c : Thread nD τ) (Memref.whole cc0_scratch1) fullShare s37
      ∗ owns (c : Thread nD τ) (Memref.whole cc0_scratch2) fullShare s38) ∗ ∃ r, prngReg c r)

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => highAt m c t
    | ⟨30, _⟩ => lowAt m c t
    | ⟨31, _⟩ => d0Of m c t.val
    | ⟨32, _⟩ => maskLow (d0Of m c t.val) (rrTab m c)
    | ⟨33, _⟩ => maskHigh (d0Of m c t.val) (rrTab m c)
    | ⟨_ + 34, h⟩ => absurd h (Nat.not_lt.2 (Nat.le_add_left _ _))
  Φ t := scr m c t.val
  q _ := fullShare
  owed _ := 0

theorem A_eq (w : Fin cfg0.W) : (dats m 0 c).A w = V m c (Pipeline.arrRef spec0 w) := by
  dsimp only [dats]

/-! ## What the body finds -/

theorem before_0 (t : Fin cfg0.N) (d) :
    (dats m 0 c).before 0 t d = (cfg0.win 0).fill (cfg0.grid.coords t) d (iblk m c 0 t) := by
  unfold Dat.before; rw [if_pos (fetch0_0 t)]; unfold Dat.fetched Dat.blockOf iblk; rw [A_eq]
theorem before_1 (t : Fin cfg0.N) (d) : (dats m 0 c).before 1 t d = arr m c 1 :=
  (before0_1_of m (dats m 0 c) (A_eq m c 1) (fun t => by dsimp only [dats]) t d).trans (iblk_1 m c t)
theorem before_2 (t : Fin cfg0.N) (d) : (dats m 0 c).before 2 t d = arr m c 2 :=
  (before0_2_of m (dats m 0 c) (A_eq m c 2) (fun t => by dsimp only [dats]) t d).trans (iblk_2 m c t)
theorem before_3 (t : Fin cfg0.N) (d) : (dats m 0 c).before 3 t d = arr m c 3 :=
  (before0_3_of m (dats m 0 c) (A_eq m c 3) (fun t => by dsimp only [dats]) t d).trans (iblk_3 m c t)
theorem before_4 (t : Fin cfg0.N) (d) : (dats m 0 c).before 4 t d = arr m c 4 :=
  (before0_4_of m (dats m 0 c) (A_eq m c 4) (fun t => by dsimp only [dats]) t d).trans (iblk_4 m c t)
theorem before_5 (t : Fin cfg0.N) (d) : (dats m 0 c).before 5 t d = arr m c 5 :=
  (before0_5_of m (dats m 0 c) (A_eq m c 5) (fun t => by dsimp only [dats]) t d).trans (iblk_5 m c t)
theorem before_6 (t : Fin cfg0.N) (d) : (dats m 0 c).before 6 t d = arr m c 6 :=
  (before0_6_of m (dats m 0 c) (A_eq m c 6) (fun t => by dsimp only [dats]) t d).trans (iblk_6 m c t)
theorem before_7 (t : Fin cfg0.N) (d) : (dats m 0 c).before 7 t d = arr m c 7 :=
  (before0_7_of m (dats m 0 c) (A_eq m c 7) (fun t => by dsimp only [dats]) t d).trans (iblk_7 m c t)
theorem before_8 (t : Fin cfg0.N) (d) : (dats m 0 c).before 8 t d = arr m c 8 :=
  (before0_8_of m (dats m 0 c) (A_eq m c 8) (fun t => by dsimp only [dats]) t d).trans (iblk_8 m c t)
theorem before_9 (t : Fin cfg0.N) (d) : (dats m 0 c).before 9 t d = arr m c 9 :=
  (before0_9_of m (dats m 0 c) (A_eq m c 9) (fun t => by dsimp only [dats]) t d).trans (iblk_9 m c t)
theorem before_10 (t : Fin cfg0.N) (d) : (dats m 0 c).before 10 t d = arr m c 10 :=
  (before0_10_of m (dats m 0 c) (A_eq m c 10) (fun t => by dsimp only [dats]) t d).trans (iblk_10 m c t)
theorem before_11 (t : Fin cfg0.N) (d) : (dats m 0 c).before 11 t d = arr m c 11 :=
  (before0_11_of m (dats m 0 c) (A_eq m c 11) (fun t => by dsimp only [dats]) t d).trans (iblk_11 m c t)
theorem before_12 (t : Fin cfg0.N) (d) : (dats m 0 c).before 12 t d = arr m c 12 :=
  (before0_12_of m (dats m 0 c) (A_eq m c 12) (fun t => by dsimp only [dats]) t d).trans (iblk_12 m c t)
theorem before_13 (t : Fin cfg0.N) (d) : (dats m 0 c).before 13 t d = arr m c 13 :=
  (before0_13_of m (dats m 0 c) (A_eq m c 13) (fun t => by dsimp only [dats]) t d).trans (iblk_13 m c t)
theorem before_14 (t : Fin cfg0.N) (d) : (dats m 0 c).before 14 t d = arr m c 14 :=
  (before0_14_of m (dats m 0 c) (A_eq m c 14) (fun t => by dsimp only [dats]) t d).trans (iblk_14 m c t)
theorem before_15 (t : Fin cfg0.N) (d) : (dats m 0 c).before 15 t d = arr m c 15 :=
  (before0_15_of m (dats m 0 c) (A_eq m c 15) (fun t => by dsimp only [dats]) t d).trans (iblk_15 m c t)
theorem before_16 (t : Fin cfg0.N) (d) : (dats m 0 c).before 16 t d = arr m c 16 :=
  (before0_16_of m (dats m 0 c) (A_eq m c 16) (fun t => by dsimp only [dats]) t d).trans (iblk_16 m c t)
theorem before_17 (t : Fin cfg0.N) (d) : (dats m 0 c).before 17 t d = arr m c 17 :=
  (before0_17_of m (dats m 0 c) (A_eq m c 17) (fun t => by dsimp only [dats]) t d).trans (iblk_17 m c t)
theorem before_18 (t : Fin cfg0.N) (d) : (dats m 0 c).before 18 t d = arr m c 18 :=
  (before0_18_of m (dats m 0 c) (A_eq m c 18) (fun t => by dsimp only [dats]) t d).trans (iblk_18 m c t)
theorem before_19 (t : Fin cfg0.N) (d) : (dats m 0 c).before 19 t d = arr m c 19 :=
  (before0_19_of m (dats m 0 c) (A_eq m c 19) (fun t => by dsimp only [dats]) t d).trans (iblk_19 m c t)
theorem before_20 (t : Fin cfg0.N) (d) : (dats m 0 c).before 20 t d = arr m c 20 :=
  (before0_20_of m (dats m 0 c) (A_eq m c 20) (fun t => by dsimp only [dats]) t d).trans (iblk_20 m c t)
theorem before_21 (t : Fin cfg0.N) (d) : (dats m 0 c).before 21 t d = arr m c 21 :=
  (before0_21_of m (dats m 0 c) (A_eq m c 21) (fun t => by dsimp only [dats]) t d).trans (iblk_21 m c t)
theorem before_22 (t : Fin cfg0.N) (d) : (dats m 0 c).before 22 t d = arr m c 22 :=
  (before0_22_of m (dats m 0 c) (A_eq m c 22) (fun t => by dsimp only [dats]) t d).trans (iblk_22 m c t)
theorem before_23 (t : Fin cfg0.N) (d) : (dats m 0 c).before 23 t d = arr m c 23 :=
  (before0_23_of m (dats m 0 c) (A_eq m c 23) (fun t => by dsimp only [dats]) t d).trans (iblk_23 m c t)
theorem before_24 (t : Fin cfg0.N) (d) : (dats m 0 c).before 24 t d = arr m c 24 :=
  (before0_24_of m (dats m 0 c) (A_eq m c 24) (fun t => by dsimp only [dats]) t d).trans (iblk_24 m c t)
theorem before_25 (t : Fin cfg0.N) (d) : (dats m 0 c).before 25 t d = arr m c 25 :=
  (before0_25_of m (dats m 0 c) (A_eq m c 25) (fun t => by dsimp only [dats]) t d).trans (iblk_25 m c t)
theorem before_26 (t : Fin cfg0.N) (d) : (dats m 0 c).before 26 t d = arr m c 26 :=
  (before0_26_of m (dats m 0 c) (A_eq m c 26) (fun t => by dsimp only [dats]) t d).trans (iblk_26 m c t)
theorem before_27 (t : Fin cfg0.N) (d) : (dats m 0 c).before 27 t d = arr m c 27 :=
  (before0_27_of m (dats m 0 c) (A_eq m c 27) (fun t => by dsimp only [dats]) t d).trans (iblk_27 m c t)
theorem before_28 (t : Fin cfg0.N) (d) : (dats m 0 c).before 28 t d = arr m c 28 :=
  (before0_28_of m (dats m 0 c) (A_eq m c 28) (fun t => by dsimp only [dats]) t d).trans (iblk_28 m c t)

end Cert.KernelIdeal.Hand
-- ==== Proof.BodyBase.lean ====
/-
  The kernel body at every point of the grid, and the whole program: from any memory it ends without fault, its argument as
  it was, every counter at zero, and the pallas_call's arrays holding what the steps of the grid wrote back.
-/
module

public import proofs.«01_k».proof.Proof.Dats

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## Which windows a point leaves alone, writes back, overhangs -/

theorem idle_29 : ∀ t : Fin cfg0.N, cfg0.idle 29 (cfg0.grid.coords t) = decide (t.val % 4 < 2) := by decide +kernel
theorem idle_30 : ∀ t : Fin cfg0.N, cfg0.idle 30 (cfg0.grid.coords t) = decide (t.val % 4 < 2) := by decide +kernel
theorem idle_31 : ∀ t : Fin cfg0.N, cfg0.idle 31 (cfg0.grid.coords t) = decide (t.val % 4 ≠ 1) := by decide +kernel
theorem idle_32 : ∀ t : Fin cfg0.N, cfg0.idle 32 (cfg0.grid.coords t) = decide (t.val % 4 ≠ 2) := by decide +kernel
theorem idle_33 : ∀ t : Fin cfg0.N, cfg0.idle 33 (cfg0.grid.coords t) = decide (t.val % 4 ≠ 2) := by decide +kernel
theorem flush_29 : ∀ t : Fin cfg0.N, (cfg0.win 29).flush t = decide (2 ≤ t.val % 4) := by decide +kernel
theorem flush_30 : ∀ t : Fin cfg0.N, (cfg0.win 30).flush t = decide (2 ≤ t.val % 4) := by decide +kernel
theorem flush_31 (t : Fin cfg0.N) : (cfg0.win 31).flush t = decide (t.val % 4 = 3) := by
  rw [Bool.eq_iff_iff, flush0_31 t, decide_eq_true_iff]
theorem flush_32 (t : Fin cfg0.N) : (cfg0.win 32).flush t = decide (t.val % 4 = 3) := by
  rw [Bool.eq_iff_iff, flush0_32 t, decide_eq_true_iff]
theorem flush_33 (t : Fin cfg0.N) : (cfg0.win 33).flush t = decide (t.val % 4 = 3) := by
  rw [Bool.eq_iff_iff, flush0_33 t, decide_eq_true_iff]

theorem xsize_0 : ∀ (t : Fin cfg0.N) (a : Fin 4), (cfg0.win 0).xsize (cfg0.grid.coords t) a
    = (![1, if t.val % 2 = 0 then 2 else 1, 512, 512] : Fin 4 → ℕ) a := by decide +kernel
theorem xsize_29 : ∀ (t : Fin cfg0.N) (a : Fin 4), (cfg0.win 29).xsize (cfg0.grid.coords t) a
    = (![1, if t.val % 4 = 3 then 1 else 2, 512, 512] : Fin 4 → ℕ) a := by decide +kernel
theorem xsize_30 : ∀ (t : Fin cfg0.N) (a : Fin 4), (cfg0.win 30).xsize (cfg0.grid.coords t) a
    = (![1, if t.val % 4 = 3 then 1 else 2, 512, 512] : Fin 4 → ℕ) a := by decide +kernel

/-- At an even point all of the image block lies inside the array, -/
theorem fill_even (t : Fin cfg0.N) (h : t.val % 2 = 0) (d : S1x2x512x512.Idx → Elt F .f32) :
    (cfg0.win 0).fill (cfg0.grid.coords t) d (iblk m c 0 t) = xblk m c t := by
  have hm : ∀ j, (cfg0.win 0).moved (cfg0.grid.coords t) j = true := fun j =>
    ((cfg0.win 0).moved_iff _ _).mpr fun a => by
      refine lt_of_lt_of_eq (j a).isLt (Eq.trans ?_ (xsize_0 t a).symm)
      rw [if_pos h]
  funext j; unfold xblk Pipeline.Window.fill; rw [dif_pos (hm j), dif_pos (hm j)]

/-- at any point its first channel. -/
theorem fill_chan0 (t : Fin cfg0.N) (d : S1x2x512x512.Idx → Elt F .f32) :
    chan0 (F := F) ((cfg0.win 0).fill (cfg0.grid.coords t) d (iblk m c 0 t)) = chan0 (xblk m c t) := by
  funext i
  set j : S1x2x512x512.Idx := (Rect.unit (s := S1x2x512x512) ![0, 0, 0, 0] S1x1x512x512.size inb_S1x2x512x512_S1x1x512x512_0_0_0_0).emb i with hj
  have hm : (cfg0.win 0).moved (cfg0.grid.coords t) j = true :=
    ((cfg0.win 0).moved_iff _ _).mpr fun a => by
      rw [xsize_0 t a]
      have h0 := (i 0).isLt; have h1 := (i 1).isLt; have h2 := (i 2).isLt; have h3 := (i 3).isLt
      fin_cases a
      · show 0 + 1 * (i 0 : ℕ) < 1; change (i 0 : ℕ) < 1 at h0; omega
      · show 0 + 1 * (i 1 : ℕ) < if t.val % 2 = 0 then 2 else 1; change (i 1 : ℕ) < 1 at h1; split <;> omega
      · show 0 + 1 * (i 2 : ℕ) < 512; change (i 2 : ℕ) < 512 at h2; omega
      · show 0 + 1 * (i 3 : ℕ) < 512; change (i 3 : ℕ) < 512 at h3; omega
  show (cfg0.win 0).fill (cfg0.grid.coords t) d (iblk m c 0 t) j = xblk m c t j
  unfold xblk Pipeline.Window.fill; rw [dif_pos hm, dif_pos hm]

theorem thirdRe_congr {x y : Vec F S1x2x512x512 .f32} (h : chan0 x = chan0 y) (E) : thirdRe x E = thirdRe y E := by
  unfold thirdRe; rw [h]
theorem thirdIm_congr {x y : Vec F S1x2x512x512 .f32} (h : chan0 x = chan0 y) (E) : thirdIm x E = thirdIm y E := by
  unfold thirdIm; rw [h]
theorem cutoff_congr {x y : Vec F S1x2x512x512 .f32} (h : chan0 x = chan0 y) (E p b r) : cutoff x E p b r = cutoff y E p b r := by
  unfold cutoff; rw [h]

/-- The two channels of a block determine it. -/
theorem eq_glue (f : Vec F S1x2x512x512 .f32) : f = glue (chan0 f) (chan1 f) := by
  funext i
  have h0 : (i 0 : ℕ) < 1 := (i 0).isLt
  have h1 : (i 1 : ℕ) < 2 := (i 1).isLt
  unfold glue
  split
  · rename_i h
    refine congrArg f (funext fun a => Fin.ext ?_)
    fin_cases a
    · show (i 0 : ℕ) = 0 + 1 * (i 0 : ℕ); omega
    · show (i 1 : ℕ) = 0 + 1 * 0; omega
    · show (i 2 : ℕ) = 0 + 1 * (i 2 : ℕ); omega
    · show (i 3 : ℕ) = 0 + 1 * (i 3 : ℕ); omega
  · rename_i h
    refine congrArg f (funext fun a => Fin.ext ?_)
    fin_cases a
    · show (i 0 : ℕ) = 0 + 1 * (i 0 : ℕ); omega
    · show (i 1 : ℕ) = 1 + 1 * 0; omega
    · show (i 2 : ℕ) = 0 + 1 * (i 2 : ℕ); omega
    · show (i 3 : ℕ) = 0 + 1 * (i 3 : ℕ); omega

/-! ## The pieces of the body obligation -/

variable {m c}

theorem leaves_idle (w : Fin cfg0.W) (t : Fin cfg0.N) (hi : cfg0.idle w (cfg0.grid.coords t) = true) (hf : (cfg0.win w).flush t = false) :
    iprop(∃ d, owns (c : Thread nD τ) ((cfg0.win w).stage (cfg0.slots t w)) fullShare ((dats m 0 c).before w t d))
      ⊢ ((dats m 0 c).leaves w t : sProp 𝕄) := by
  unfold Pipeline.Dat.leaves; rw [hi, hf]
theorem leaves_idle_flush (w : Fin cfg0.W) (t : Fin cfg0.N) (hi : cfg0.idle w (cfg0.grid.coords t) = true)
    (hf : (cfg0.win w).flush t = true) (hl : cfg0.loose w = false) :
    owns (c : Thread nD τ) ((cfg0.win w).stage (cfg0.slots t w)) fullShare ((dats m 0 c).after w t)
      ⊢ ((dats m 0 c).leaves w t : sProp 𝕄) := by
  unfold Pipeline.Dat.leaves; rw [hi, hf, hl]
theorem leaves_live (w : Fin cfg0.W) (t : Fin cfg0.N) (hi : cfg0.idle w (cfg0.grid.coords t) = false) (hl : cfg0.loose w = false) :
    owns (c : Thread nD τ) ((cfg0.win w).stage (cfg0.slots t w)) fullShare ((dats m 0 c).after w t)
      ⊢ ((dats m 0 c).leaves w t : sProp 𝕄) := by
  unfold Pipeline.Dat.leaves; rw [hi, hl]
theorem leaves_loose (w : Fin cfg0.W) (t : Fin cfg0.N) (hi : cfg0.idle w (cfg0.grid.coords t) = false) (hl : cfg0.loose w = true) :
    iprop(∃ d, owns (c : Thread nD τ) ((cfg0.win w).stage (cfg0.slots t w)) fullShare
        ((cfg0.win w).fill (cfg0.grid.coords t) d ((cfg0.win w).cut (cfg0.grid.coords t) ((dats m 0 c).after w t))))
      ⊢ ((dats m 0 c).leaves w t : sProp 𝕄) := by
  unfold Pipeline.Dat.leaves; rw [hi, hl]

variable (m c)

/-- The input windows' staging buffers at a point, the image's holding `X`. -/
def ins (t : Fin cfg0.N) (X : Vec F S1x2x512x512 .f32) : sProp 𝕄 :=
  iprop(owns (c : Thread nD τ) (st0_0 t) fullShare X ∗ owns (c : Thread nD τ) (st0_1 t) fullShare (rrTab m c)
    ∗ owns (c : Thread nD τ) (st0_2 t) fullShare (rrpTab m c) ∗ owns (c : Thread nD τ) (st0_3 t) fullShare (binTab m c)
    ∗ owns (c : Thread nD τ) (st0_4 t) fullShare (radTab m c)
    ∗ ownF c (st0_5 t) (st0_6 t) (st0_7 t) (st0_8 t) (st0_9 t) (st0_10 t) (st0_11 t) (st0_12 t) (st0_13 t) (st0_14 t) (st0_15 t) (st0_16 t) (tabF m c)
    ∗ ownG c (st0_17 t) (st0_18 t) (st0_19 t) (st0_20 t) (st0_21 t) (st0_22 t) (st0_23 t) (st0_24 t) (st0_25 t) (st0_26 t) (st0_27 t) (st0_28 t) (tabG m c))

/-- What the body finds in an output's buffer. -/
def found (w : Fin cfg0.W) (t : Fin cfg0.N) : sProp 𝕄 :=
  iprop(∃ d, owns (c : Thread nD τ) ((cfg0.win w).stage (cfg0.slots t w)) fullShare ((dats m 0 c).before w t d))

theorem take (t : Fin cfg0.N) :
    (bigSep Finset.univ fun w : Fin 34 => iprop(∃ d, owns (c : Thread nD τ) ((cfg0.win w).stage (cfg0.slots t w)) fullShare ((dats m 0 c).before w t d)) : sProp 𝕄)
      ⊢ iprop((∃ d, ins m c t ((cfg0.win 0).fill (cfg0.grid.coords t) d (iblk m c 0 t))) ∗ found m c 29 t ∗ found m c 30 t ∗ found m c 31 t ∗ found m c 32 t ∗ found m c 33 t) := by
  rw [bigSep_W0]
  simp only [before_0, before_1, before_2, before_3, before_4, before_5, before_6, before_7, before_8, before_9, before_10, before_11, before_12, before_13, before_14, before_15, before_16, before_17, before_18, before_19, before_20, before_21, before_22, before_23, before_24, before_25, before_26, before_27, before_28]
  unfold ins found
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, H29, H30, H31, H32, H33⟩
  isplitl [H0 H1 H2 H3 H4 H5 H6 H7 H8 H9 H10 H11 H12 H13 H14 H15 H16 H17 H18 H19 H20 H21 H22 H23 H24 H25 H26 H27 H28]
  · iexists d0
    isplitl [H0]; · iexact H0
    isplitl [H1]; · iexact H1
    isplitl [H2]; · iexact H2
    isplitl [H3]; · iexact H3
    isplitl [H4]; · iexact H4
    isplitl [H5 H6 H7 H8 H9 H10 H11 H12 H13 H14 H15 H16]
    · unfold ownF
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    unfold ownG
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  isplitl [H29]; · iexact H29
  isplitl [H30]; · iexact H30
  isplitl [H31]; · iexact H31
  isplitl [H32]; · iexact H32
  iexact H33

/-- An operand staged whole is handed back as it was. -/
theorem leaves_in (w : Fin cfg0.W) (t : Fin cfg0.N) (X : (cfg0.win w).block.Idx → Elt F (cfg0.win w).elt) (hi : cfg0.idle w (cfg0.grid.coords t) = false)
    (hl : cfg0.loose w = false) (h : (dats m 0 c).after w t = X) :
    owns (c : Thread nD τ) ((cfg0.win w).stage (cfg0.slots t w)) fullShare X ⊢ ((dats m 0 c).leaves w t : sProp 𝕄) :=
  h ▸ leaves_live w t hi hl

theorem after_1 (t : Fin cfg0.N) : (dats m 0 c).after 1 t = iblk m c 1 t := by dsimp only [dats]
theorem leaves_1 (t : Fin cfg0.N) : owns (c : Thread nD τ) (st0_1 t) fullShare (arr m c 1) ⊢ ((dats m 0 c).leaves 1 t : sProp 𝕄) :=
  leaves_in m c 1 t _ rfl rfl ((after_1 m c t).trans (iblk_1 m c t))
theorem after_2 (t : Fin cfg0.N) : (dats m 0 c).after 2 t = iblk m c 2 t := by dsimp only [dats]
theorem leaves_2 (t : Fin cfg0.N) : owns (c : Thread nD τ) (st0_2 t) fullShare (arr m c 2) ⊢ ((dats m 0 c).leaves 2 t : sProp 𝕄) :=
  leaves_in m c 2 t _ rfl rfl ((after_2 m c t).trans (iblk_2 m c t))
theorem after_3 (t : Fin cfg0.N) : (dats m 0 c).after 3 t = iblk m c 3 t := by dsimp only [dats]
theorem leaves_3 (t : Fin cfg0.N) : owns (c : Thread nD τ) (st0_3 t) fullShare (arr m c 3) ⊢ ((dats m 0 c).leaves 3 t : sProp 𝕄) :=
  leaves_in m c 3 t _ rfl rfl ((after_3 m c t).trans (iblk_3 m c t))
theorem after_4 (t : Fin cfg0.N) : (dats m 0 c).after 4 t = iblk m c 4 t := by dsimp only [dats]
theorem leaves_4 (t : Fin cfg0.N) : owns (c : Thread nD τ) (st0_4 t) fullShare (arr m c 4) ⊢ ((dats m 0 c).leaves 4 t : sProp 𝕄) :=
  leaves_in m c 4 t _ rfl rfl ((after_4 m c t).trans (iblk_4 m c t))
theorem after_5 (t : Fin cfg0.N) : (dats m 0 c).after 5 t = iblk m c 5 t := by dsimp only [dats]
theorem leaves_5 (t : Fin cfg0.N) : owns (c : Thread nD τ) (st0_5 t) fullShare (arr m c 5) ⊢ ((dats m 0 c).leaves 5 t : sProp 𝕄) :=
  leaves_in m c 5 t _ rfl rfl ((after_5 m c t).trans (iblk_5 m c t))
theorem after_6 (t : Fin cfg0.N) : (dats m 0 c).after 6 t = iblk m c 6 t := by dsimp only [dats]
theorem leaves_6 (t : Fin cfg0.N) : owns (c : Thread nD τ) (st0_6 t) fullShare (arr m c 6) ⊢ ((dats m 0 c).leaves 6 t : sProp 𝕄) :=
  leaves_in m c 6 t _ rfl rfl ((after_6 m c t).trans (iblk_6 m c t))
theorem after_7 (t : Fin cfg0.N) : (dats m 0 c).after 7 t = iblk m c 7 t := by dsimp only [dats]
theorem leaves_7 (t : Fin cfg0.N) : owns (c : Thread nD τ) (st0_7 t) fullShare (arr m c 7) ⊢ ((dats m 0 c).leaves 7 t : sProp 𝕄) :=
  leaves_in m c 7 t _ rfl rfl ((after_7 m c t).trans (iblk_7 m c t))
theorem after_8 (t : Fin cfg0.N) : (dats m 0 c).after 8 t = iblk m c 8 t := by dsimp only [dats]
theorem leaves_8 (t : Fin cfg0.N) : owns (c : Thread nD τ) (st0_8 t) fullShare (arr m c 8) ⊢ ((dats m 0 c).leaves 8 t : sProp 𝕄) :=
  leaves_in m c 8 t _ rfl rfl ((after_8 m c t).trans (iblk_8 m c t))
theorem after_9 (t : Fin cfg0.N) : (dats m 0 c).after 9 t = iblk m c 9 t := by dsimp only [dats]
theorem leaves_9 (t : Fin cfg0.N) : owns (c : Thread nD τ) (st0_9 t) fullShare (arr m c 9) ⊢ ((dats m 0 c).leaves 9 t : sProp 𝕄) :=
  leaves_in m c 9 t _ rfl rfl ((after_9 m c t).trans (iblk_9 m c t))
theorem after_10 (t : Fin cfg0.N) : (dats m 0 c).after 10 t = iblk m c 10 t := by dsimp only [dats]
theorem leaves_10 (t : Fin cfg0.N) : owns (c : Thread nD τ) (st0_10 t) fullShare (arr m c 10) ⊢ ((dats m 0 c).leaves 10 t : sProp 𝕄) :=
  leaves_in m c 10 t _ rfl rfl ((after_10 m c t).trans (iblk_10 m c t))
theorem after_11 (t : Fin cfg0.N) : (dats m 0 c).after 11 t = iblk m c 11 t := by dsimp only [dats]
theorem leaves_11 (t : Fin cfg0.N) : owns (c : Thread nD τ) (st0_11 t) fullShare (arr m c 11) ⊢ ((dats m 0 c).leaves 11 t : sProp 𝕄) :=
  leaves_in m c 11 t _ rfl rfl ((after_11 m c t).trans (iblk_11 m c t))
theorem after_12 (t : Fin cfg0.N) : (dats m 0 c).after 12 t = iblk m c 12 t := by dsimp only [dats]
theorem leaves_12 (t : Fin cfg0.N) : owns (c : Thread nD τ) (st0_12 t) fullShare (arr m c 12) ⊢ ((dats m 0 c).leaves 12 t : sProp 𝕄) :=
  leaves_in m c 12 t _ rfl rfl ((after_12 m c t).trans (iblk_12 m c t))
theorem after_13 (t : Fin cfg0.N) : (dats m 0 c).after 13 t = iblk m c 13 t := by dsimp only [dats]
theorem leaves_13 (t : Fin cfg0.N) : owns (c : Thread nD τ) (st0_13 t) fullShare (arr m c 13) ⊢ ((dats m 0 c).leaves 13 t : sProp 𝕄) :=
  leaves_in m c 13 t _ rfl rfl ((after_13 m c t).trans (iblk_13 m c t))
theorem after_14 (t : Fin cfg0.N) : (dats m 0 c).after 14 t = iblk m c 14 t := by dsimp only [dats]
theorem leaves_14 (t : Fin cfg0.N) : owns (c : Thread nD τ) (st0_14 t) fullShare (arr m c 14) ⊢ ((dats m 0 c).leaves 14 t : sProp 𝕄) :=
  leaves_in m c 14 t _ rfl rfl ((after_14 m c t).trans (iblk_14 m c t))
theorem after_15 (t : Fin cfg0.N) : (dats m 0 c).after 15 t = iblk m c 15 t := by dsimp only [dats]
theorem leaves_15 (t : Fin cfg0.N) : owns (c : Thread nD τ) (st0_15 t) fullShare (arr m c 15) ⊢ ((dats m 0 c).leaves 15 t : sProp 𝕄) :=
  leaves_in m c 15 t _ rfl rfl ((after_15 m c t).trans (iblk_15 m c t))
theorem after_16 (t : Fin cfg0.N) : (dats m 0 c).after 16 t = iblk m c 16 t := by dsimp only [dats]
theorem leaves_16 (t : Fin cfg0.N) : owns (c : Thread nD τ) (st0_16 t) fullShare (arr m c 16) ⊢ ((dats m 0 c).leaves 16 t : sProp 𝕄) :=
  leaves_in m c 16 t _ rfl rfl ((after_16 m c t).trans (iblk_16 m c t))
theorem after_17 (t : Fin cfg0.N) : (dats m 0 c).after 17 t = iblk m c 17 t := by dsimp only [dats]
theorem leaves_17 (t : Fin cfg0.N) : owns (c : Thread nD τ) (st0_17 t) fullShare (arr m c 17) ⊢ ((dats m 0 c).leaves 17 t : sProp 𝕄) :=
  leaves_in m c 17 t _ rfl rfl ((after_17 m c t).trans (iblk_17 m c t))
theorem after_18 (t : Fin cfg0.N) : (dats m 0 c).after 18 t = iblk m c 18 t := by dsimp only [dats]
theorem leaves_18 (t : Fin cfg0.N) : owns (c : Thread nD τ) (st0_18 t) fullShare (arr m c 18) ⊢ ((dats m 0 c).leaves 18 t : sProp 𝕄) :=
  leaves_in m c 18 t _ rfl rfl ((after_18 m c t).trans (iblk_18 m c t))
theorem after_19 (t : Fin cfg0.N) : (dats m 0 c).after 19 t = iblk m c 19 t := by dsimp only [dats]
theorem leaves_19 (t : Fin cfg0.N) : owns (c : Thread nD τ) (st0_19 t) fullShare (arr m c 19) ⊢ ((dats m 0 c).leaves 19 t : sProp 𝕄) :=
  leaves_in m c 19 t _ rfl rfl ((after_19 m c t).trans (iblk_19 m c t))
theorem after_20 (t : Fin cfg0.N) : (dats m 0 c).after 20 t = iblk m c 20 t := by dsimp only [dats]
theorem leaves_20 (t : Fin cfg0.N) : owns (c : Thread nD τ) (st0_20 t) fullShare (arr m c 20) ⊢ ((dats m 0 c).leaves 20 t : sProp 𝕄) :=
  leaves_in m c 20 t _ rfl rfl ((after_20 m c t).trans (iblk_20 m c t))
theorem after_21 (t : Fin cfg0.N) : (dats m 0 c).after 21 t = iblk m c 21 t := by dsimp only [dats]
theorem leaves_21 (t : Fin cfg0.N) : owns (c : Thread nD τ) (st0_21 t) fullShare (arr m c 21) ⊢ ((dats m 0 c).leaves 21 t : sProp 𝕄) :=
  leaves_in m c 21 t _ rfl rfl ((after_21 m c t).trans (iblk_21 m c t))
theorem after_22 (t : Fin cfg0.N) : (dats m 0 c).after 22 t = iblk m c 22 t := by dsimp only [dats]
theorem leaves_22 (t : Fin cfg0.N) : owns (c : Thread nD τ) (st0_22 t) fullShare (arr m c 22) ⊢ ((dats m 0 c).leaves 22 t : sProp 𝕄) :=
  leaves_in m c 22 t _ rfl rfl ((after_22 m c t).trans (iblk_22 m c t))
theorem after_23 (t : Fin cfg0.N) : (dats m 0 c).after 23 t = iblk m c 23 t := by dsimp only [dats]
theorem leaves_23 (t : Fin cfg0.N) : owns (c : Thread nD τ) (st0_23 t) fullShare (arr m c 23) ⊢ ((dats m 0 c).leaves 23 t : sProp 𝕄) :=
  leaves_in m c 23 t _ rfl rfl ((after_23 m c t).trans (iblk_23 m c t))
theorem after_24 (t : Fin cfg0.N) : (dats m 0 c).after 24 t = iblk m c 24 t := by dsimp only [dats]
theorem leaves_24 (t : Fin cfg0.N) : owns (c : Thread nD τ) (st0_24 t) fullShare (arr m c 24) ⊢ ((dats m 0 c).leaves 24 t : sProp 𝕄) :=
  leaves_in m c 24 t _ rfl rfl ((after_24 m c t).trans (iblk_24 m c t))
theorem after_25 (t : Fin cfg0.N) : (dats m 0 c).after 25 t = iblk m c 25 t := by dsimp only [dats]
theorem leaves_25 (t : Fin cfg0.N) : owns (c : Thread nD τ) (st0_25 t) fullShare (arr m c 25) ⊢ ((dats m 0 c).leaves 25 t : sProp 𝕄) :=
  leaves_in m c 25 t _ rfl rfl ((after_25 m c t).trans (iblk_25 m c t))
theorem after_26 (t : Fin cfg0.N) : (dats m 0 c).after 26 t = iblk m c 26 t := by dsimp only [dats]
theorem leaves_26 (t : Fin cfg0.N) : owns (c : Thread nD τ) (st0_26 t) fullShare (arr m c 26) ⊢ ((dats m 0 c).leaves 26 t : sProp 𝕄) :=
  leaves_in m c 26 t _ rfl rfl ((after_26 m c t).trans (iblk_26 m c t))
theorem after_27 (t : Fin cfg0.N) : (dats m 0 c).after 27 t = iblk m c 27 t := by dsimp only [dats]
theorem leaves_27 (t : Fin cfg0.N) : owns (c : Thread nD τ) (st0_27 t) fullShare (arr m c 27) ⊢ ((dats m 0 c).leaves 27 t : sProp 𝕄) :=
  leaves_in m c 27 t _ rfl rfl ((after_27 m c t).trans (iblk_27 m c t))
theorem after_28 (t : Fin cfg0.N) : (dats m 0 c).after 28 t = iblk m c 28 t := by dsimp only [dats]
theorem leaves_28 (t : Fin cfg0.N) : owns (c : Thread nD τ) (st0_28 t) fullShare (arr m c 28) ⊢ ((dats m 0 c).leaves 28 t : sProp 𝕄) :=
  leaves_in m c 28 t _ rfl rfl ((after_28 m c t).trans (iblk_28 m c t))

set_option maxHeartbeats 2000000 in
theorem give (t : Fin cfg0.N) (d : S1x2x512x512.Idx → Elt F .f32) :
    iprop(ins m c t ((cfg0.win 0).fill (cfg0.grid.coords t) d (iblk m c 0 t)) ∗ (dats m 0 c).leaves 29 t ∗ (dats m 0 c).leaves 30 t
        ∗ (dats m 0 c).leaves 31 t ∗ (dats m 0 c).leaves 32 t ∗ (dats m 0 c).leaves 33 t)
      ⊢ (bigSep Finset.univ fun w : Fin 34 => (dats m 0 c).leaves w t : sProp 𝕄) := by
  rw [bigSep_W0]
  unfold ins ownF ownG
  iintro ⟨⟨H0, H1, H2, H3, H4, ⟨H5, H6, H7, H8, H9, H10, H11, H12, H13, H14, H15, H16⟩, ⟨H17, H18, H19, H20, H21, H22, H23, H24, H25, H26, H27, H28⟩⟩, H29, H30, H31, H32, H33⟩
  isplitl [H0]
  · iapply (leaves_loose 0 t rfl rfl)
    iexists d
    rw [show (dats m 0 c).after 0 t = xblk m c t from by dsimp only [dats], show (cfg0.win 0).cut (cfg0.grid.coords t) (xblk m c t) = iblk m c 0 t from (cfg0.win 0).cut_fill _ _ _]
    iexact H0
  isplitl [H1]; · iapply (leaves_1 m c t); iexact H1
  isplitl [H2]; · iapply (leaves_2 m c t); iexact H2
  isplitl [H3]; · iapply (leaves_3 m c t); iexact H3
  isplitl [H4]; · iapply (leaves_4 m c t); iexact H4
  isplitl [H5]; · iapply (leaves_5 m c t); iexact H5
  isplitl [H6]; · iapply (leaves_6 m c t); iexact H6
  isplitl [H7]; · iapply (leaves_7 m c t); iexact H7
  isplitl [H8]; · iapply (leaves_8 m c t); iexact H8
  isplitl [H9]; · iapply (leaves_9 m c t); iexact H9
  isplitl [H10]; · iapply (leaves_10 m c t); iexact H10
  isplitl [H11]; · iapply (leaves_11 m c t); iexact H11
  isplitl [H12]; · iapply (leaves_12 m c t); iexact H12
  isplitl [H13]; · iapply (leaves_13 m c t); iexact H13
  isplitl [H14]; · iapply (leaves_14 m c t); iexact H14
  isplitl [H15]; · iapply (leaves_15 m c t); iexact H15
  isplitl [H16]; · iapply (leaves_16 m c t); iexact H16
  isplitl [H17]; · iapply (leaves_17 m c t); iexact H17
  isplitl [H18]; · iapply (leaves_18 m c t); iexact H18
  isplitl [H19]; · iapply (leaves_19 m c t); iexact H19
  isplitl [H20]; · iapply (leaves_20 m c t); iexact H20
  isplitl [H21]; · iapply (leaves_21 m c t); iexact H21
  isplitl [H22]; · iapply (leaves_22 m c t); iexact H22
  isplitl [H23]; · iapply (leaves_23 m c t); iexact H23
  isplitl [H24]; · iapply (leaves_24 m c t); iexact H24
  isplitl [H25]; · iapply (leaves_25 m c t); iexact H25
  isplitl [H26]; · iapply (leaves_26 m c t); iexact H26
  isplitl [H27]; · iapply (leaves_27 m c t); iexact H27
  isplitl [H28]; · iapply (leaves_28 m c t); iexact H28
  isplitl [H29]; · iexact H29
  isplitl [H30]; · iexact H30
  isplitl [H31]; · iexact H31
  isplitl [H32]; · iexact H32
  iexact H33

end Cert.KernelIdeal.Hand
-- ==== Proof.Body.lean ====
/-
  The kernel body at every point of the grid, and the whole program: from any memory it ends without fault, its argument as
  it was, every counter at zero, and the pallas_call's arrays holding what the steps of the grid wrote back.
-/
module

public import proofs.«01_k».proof.Proof.BodyBase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## Points of one image -/

theorem xpair_congr {n n' : ℕ} (h : n / 4 = n' / 4) : xpair m c n = xpair m c n' := by unfold xpair; rw [h]
theorem xthird_congr {n n' : ℕ} (h : n / 4 = n' / 4) : xthird m c n = xthird m c n' := by unfold xthird; rw [h]
theorem d0Of_congr {n n' : ℕ} (h : n / 4 = n' / 4) : d0Of m c n = d0Of m c n' := by
  unfold d0Of; rw [xpair_congr m c h, xthird_congr m c h]
theorem xpair_at (t : Fin cfg0.N) (h : t.val % 4 = 0) : xpair m c t.val = xblk m c t := by
  unfold xpair; rw [show 4 * (t.val / 4) = t.val by omega, pt_val]
theorem xthird_at (t : Fin cfg0.N) (h : t.val % 4 = 1) : xthird m c t.val = xblk m c t := by
  unfold xthird; rw [show 4 * (t.val / 4) + 1 = t.val by omega, pt_val]

theorem chan0_glue (a b : Vec F S1x1x512x512 .f32) : chan0 (glue a b) = a := by
  funext i
  have h0 : (i 0 : ℕ) < 1 := (i 0).isLt
  have h1 : (i 1 : ℕ) < 1 := (i 1).isLt
  show glue a b ((Rect.unit (s := S1x2x512x512) ![0, 0, 0, 0] S1x1x512x512.size inb_S1x2x512x512_S1x1x512x512_0_0_0_0).emb i) = a i
  unfold glue
  refine (if_pos (show 0 + 1 * (i 1 : ℕ) = 0 by omega)).trans ?_
  refine congrArg a (funext fun k => Fin.ext ?_)
  fin_cases k
  · show 0 + 1 * (i 0 : ℕ) = (i 0 : ℕ); omega
  · show 0 = (i 1 : ℕ); omega
  · show 0 + 1 * (i 2 : ℕ) = (i 2 : ℕ); omega
  · show 0 + 1 * (i 3 : ℕ) = (i 3 : ℕ); omega

theorem glue_fst (a b b' : Vec F S1x1x512x512 .f32) (i : S1x2x512x512.Idx) (h : (i 1 : ℕ) = 0) : glue a b i = glue a b' i := by
  unfold glue; rw [if_pos h, if_pos h]

theorem eq_of_chan0 {f g : Vec F S1x2x512x512 .f32} (h : chan0 f = chan0 g) (i : S1x2x512x512.Idx) (hi : (i 1 : ℕ) = 0) : f i = g i := by
  rw [eq_glue f, eq_glue g, h]; exact glue_fst _ _ _ _ hi

/-- At an image's last point the second channel of this output lies outside the array and may be anything. -/
theorem fill_last_29 (t : Fin cfg0.N) (h : t.val % 4 = 3) (f g : Vec F S1x2x512x512 .f32) (hfg : chan0 f = chan0 g) :
    (cfg0.win 29).fill (cfg0.grid.coords t) f ((cfg0.win 29).cut (cfg0.grid.coords t) g) = f := by
  funext j
  by_cases hm : (cfg0.win 29).moved (cfg0.grid.coords t) j = true
  · have hj : (j 1 : ℕ) = 0 := by
      have h1 := ((cfg0.win 29).moved_iff _ _).mp hm 1
      rw [xsize_29 t 1] at h1
      have h2 : (j 1 : ℕ) < if t.val % 4 = 3 then 1 else 2 := h1
      rw [if_pos h] at h2; omega
    unfold Pipeline.Window.fill; rw [dif_pos hm]
    exact (eq_of_chan0 hfg j hj).symm
  · unfold Pipeline.Window.fill; rw [dif_neg hm]

/-- At an image's last point the second channel of this output lies outside the array and may be anything. -/
theorem fill_last_30 (t : Fin cfg0.N) (h : t.val % 4 = 3) (f g : Vec F S1x2x512x512 .f32) (hfg : chan0 f = chan0 g) :
    (cfg0.win 30).fill (cfg0.grid.coords t) f ((cfg0.win 30).cut (cfg0.grid.coords t) g) = f := by
  funext j
  by_cases hm : (cfg0.win 30).moved (cfg0.grid.coords t) j = true
  · have hj : (j 1 : ℕ) = 0 := by
      have h1 := ((cfg0.win 30).moved_iff _ _).mp hm 1
      rw [xsize_30 t 1] at h1
      have h2 : (j 1 : ℕ) < if t.val % 4 = 3 then 1 else 2 := h1
      rw [if_pos h] at h2; omega
    unfold Pipeline.Window.fill; rw [dif_pos hm]
    exact (eq_of_chan0 hfg j hj).symm
  · unfold Pipeline.Window.fill; rw [dif_neg hm]

/-! ## What the body finds in the outputs it does not write -/

theorem after_29 (t : Fin cfg0.N) : (dats m 0 c).after 29 t = highAt m c t := by dsimp only [dats]
theorem after_30 (t : Fin cfg0.N) : (dats m 0 c).after 30 t = lowAt m c t := by dsimp only [dats]
theorem after_31 (t : Fin cfg0.N) : (dats m 0 c).after 31 t = d0Of m c t.val := by dsimp only [dats]
theorem after_32 (t : Fin cfg0.N) : (dats m 0 c).after 32 t = maskLow (d0Of m c t.val) (rrTab m c) := by dsimp only [dats]
theorem after_33 (t : Fin cfg0.N) : (dats m 0 c).after 33 t = maskHigh (d0Of m c t.val) (rrTab m c) := by dsimp only [dats]

/-- The point before. -/
def prev (t : Fin cfg0.N) : Fin cfg0.N := ⟨t.val - 1, Nat.lt_of_le_of_lt (Nat.sub_le _ _) t.isLt⟩

variable {m c}

theorem before_live (w : Fin cfg0.W) (t : Fin cfg0.N) (ht : t.val ≠ 0) (hf : (cfg0.win w).fetch t = false) (hfl : (cfg0.win w).flush (prev t) = false)
    (hi : cfg0.idle w (cfg0.grid.coords (prev t)) = false) (d) : (dats m 0 c).before w t d = (dats m 0 c).kept w (prev t) d := by
  rw [Pipeline.Dat.before_of_pos _ w t ht hf]
  change (if (cfg0.win w).flush (prev t) = true then d else (dats m 0 c).left w (prev t) d) = _
  rw [hfl, if_neg Bool.false_ne_true]; unfold Pipeline.Dat.left; rw [hi]
theorem before_idle (w : Fin cfg0.W) (t : Fin cfg0.N) (ht : t.val ≠ 0) (hf : (cfg0.win w).fetch t = false) (hfl : (cfg0.win w).flush (prev t) = false)
    (hi : cfg0.idle w (cfg0.grid.coords (prev t)) = true) (d) : (dats m 0 c).before w t d = (dats m 0 c).before w (prev t) d := by
  rw [Pipeline.Dat.before_of_pos _ w t ht hf]
  change (if (cfg0.win w).flush (prev t) = true then d else (dats m 0 c).left w (prev t) d) = _
  rw [hfl, if_neg Bool.false_ne_true]; unfold Pipeline.Dat.left; rw [hi]

/-- A window that lies inside its array keeps all of what the body left. -/
theorem kept_whole (w : Fin cfg0.W) (t : Fin cfg0.N) (hm : ∀ j, (cfg0.win w).moved (cfg0.grid.coords t) j = true) (d) :
    (dats m 0 c).kept w t d = (dats m 0 c).after w t := by
  unfold Pipeline.Dat.kept; funext j; unfold Pipeline.Window.fill; rw [dif_pos (hm j)]

variable (m c)

theorem before_31_two (t : Fin cfg0.N) (h : t.val % 4 = 2) (d) : (dats m 0 c).before 31 t d = d0Of m c t.val := by
  have hp : (prev t).val % 4 = 1 := by show (t.val - 1) % 4 = 1; omega
  rw [before_live 31 t (by omega) rfl (by rw [flush_31, hp]; rfl) (by rw [idle_31, hp]; rfl), kept_whole 31 _ (fun _ => rfl), after_31]
  exact d0Of_congr m c (by show (t.val - 1) / 4 = t.val / 4; omega)
theorem before_31_three (t : Fin cfg0.N) (h : t.val % 4 = 3) (d) : (dats m 0 c).before 31 t d = d0Of m c t.val := by
  have hp : (prev t).val % 4 = 2 := by show (t.val - 1) % 4 = 2; omega
  rw [before_idle 31 t (by omega) rfl (by rw [flush_31, hp]; rfl) (by rw [idle_31, hp]; rfl), before_31_two m c _ hp]
  exact d0Of_congr m c (by show (t.val - 1) / 4 = t.val / 4; omega)
theorem before_32 (t : Fin cfg0.N) (h : t.val % 4 = 3) (d) : (dats m 0 c).before 32 t d = maskLow (d0Of m c t.val) (rrTab m c) := by
  have hp : (prev t).val % 4 = 2 := by show (t.val - 1) % 4 = 2; omega
  rw [before_live 32 t (by omega) rfl (by rw [flush_32, hp]; rfl) (by rw [idle_32, hp]; rfl), kept_whole 32 _ (fun _ => rfl), after_32,
    d0Of_congr m c (show (prev t).val / 4 = t.val / 4 by show (t.val - 1) / 4 = t.val / 4; omega)]
theorem before_33 (t : Fin cfg0.N) (h : t.val % 4 = 3) (d) : (dats m 0 c).before 33 t d = maskHigh (d0Of m c t.val) (rrTab m c) := by
  have hp : (prev t).val % 4 = 2 := by show (t.val - 1) % 4 = 2; omega
  rw [before_live 33 t (by omega) rfl (by rw [flush_33, hp]; rfl) (by rw [idle_33, hp]; rfl), kept_whole 33 _ (fun _ => rfl), after_33,
    d0Of_congr m c (show (prev t).val / 4 = t.val / 4 by show (t.val - 1) / 4 = t.val / 4; omega)]

/-! ## The four steps of an image -/

/-- What the body leaves behind at a point. -/
def post (t : Fin cfg0.N) : sProp 𝕄 :=
  iprop(scr m c (t.val + 1) ∗ (dats m 0 c).owesAt () t.succ ∗ bigSep Finset.univ fun w : Fin 34 => (dats m 0 c).leaves w t)

/-- What it finds. -/
def pre (t : Fin cfg0.N) : sProp 𝕄 :=
  iprop(scr m c t.val ∗ (dats m 0 c).owesAt () t.castSucc
    ∗ bigSep Finset.univ fun w : Fin 34 => iprop(∃ d, owns (c : Thread nD τ) ((cfg0.win w).stage (cfg0.slots t w)) fullShare ((dats m 0 c).before w t d)))

set_option maxHeartbeats 2000000 in
theorem sound_pair (t : Fin cfg0.N) (h : t.val % 4 = 0) :
    pre m c t ⊢ wp frame (wpE (defs₀ (F := F)) Variants.none c none) Set.univ (bodyAt0 t) fun _ => post m c t := by
  unfold pre
  refine (sep_mono .rfl (sep_mono .rfl (take m c t))).trans ?_
  unfold scr ins found
  iintro ⟨⟨⟨%s36, %s37, %s38, %hs, HA, HB, HC⟩, Hg⟩, Ho, ⟨%d, H0, H1, H2, H3, H4, HF, HG⟩, H29, H30, ⟨%d31, H31⟩, H32, H33⟩
  iapply (runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).2 h) (fun h => absurd ((hcond0_1 t).1 h) (by omega)) (fun h => absurd ((hcond0_2 t).1 h) (by omega)) (fun h => absurd ((hcond0_3 t).1 h) (by omega)) Set.univ _)
  isplitl [H0]; · iexact H0
  isplitl [HF]; · iexact HF
  isplitl [HA]; · iexists _; iexact HA
  isplitl [HB]; · iexists _; iexact HB
  isplitl [HC]; · iexists _; iexact HC
  iintro ⟨H0, HF, ⟨%f36, %h36, HA⟩, ⟨%f37, %h37, HB⟩, HC⟩
  rw [fill_even m c t (by omega)] at h36 h37
  unfold post scr
  isplitl [HA HB HC Hg]
  · isplitl [HA HB HC]
    · iexists f36, f37, (pairPow ((cfg0.win 0).fill (cfg0.grid.coords t) d (iblk m c 0 t)) (tabF m c))
      isplitr
      · ipureintro
        exact ⟨fun _ => ⟨by rw [h36, ← xpair_at m c t h]; rw [xpair_congr m c (show t.val / 4 = (t.val + 1) / 4 by omega)], by rw [h37, ← xpair_at m c t h]; rw [xpair_congr m c (show t.val / 4 = (t.val + 1) / 4 by omega)]⟩,
        fun _ => by rw [fill_even m c t (by omega), ← xpair_at m c t h]; rw [xpair_congr m c (show t.val / 4 = (t.val + 1) / 4 by omega)], fun h' => absurd h' (by omega)⟩
      isplitl [HA]; · iexact HA
      isplitl [HB]; · iexact HB
      iexact HC
    iexact Hg
  isplitl [Ho]; · iexact Ho
  iapply (give m c t d)
  unfold ins
  isplitl [H0 H1 H2 H3 H4 HF HG]
  · isplitl [H0]; · iexact H0
    isplitl [H1]; · iexact H1
    isplitl [H2]; · iexact H2
    isplitl [H3]; · iexact H3
    isplitl [H4]; · iexact H4
    isplitl [HF]; · iexact HF
    iexact HG
  isplitl [H29]
  · iapply (leaves_idle 29 t (by rw [idle_29, h]; rfl) (by rw [flush_29, h]; rfl)); iexact H29
  isplitl [H30]
  · iapply (leaves_idle 30 t (by rw [idle_30, h]; rfl) (by rw [flush_30, h]; rfl)); iexact H30
  isplitl [H31]
  · iapply (leaves_idle 31 t (by rw [idle_31, h]; rfl) (by rw [flush_31, h]; rfl)); iexists d31; iexact H31
  isplitl [H32]
  · iapply (leaves_idle 32 t (by rw [idle_32, h]; rfl) (by rw [flush_32, h]; rfl)); iexact H32
  iapply (leaves_idle 33 t (by rw [idle_33, h]; rfl) (by rw [flush_33, h]; rfl)); iexact H33

set_option maxHeartbeats 2000000 in
theorem sound_third (t : Fin cfg0.N) (h : t.val % 4 = 1) :
    pre m c t ⊢ wp frame (wpE (defs₀ (F := F)) Variants.none c none) Set.univ (bodyAt0 t) fun _ => post m c t := by
  unfold pre
  refine (sep_mono .rfl (sep_mono .rfl (take m c t))).trans ?_
  unfold scr ins found
  iintro ⟨⟨⟨%s36, %s37, %s38, %hs, HA, HB, HC⟩, Hg⟩, Ho, ⟨%d, H0, H1, H2, H3, H4, HF, HG⟩, H29, H30, ⟨%d31, H31⟩, H32, H33⟩
  iapply (runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).1 h) (by omega)) ((hcond0_1 t).2 h) (fun h => absurd ((hcond0_2 t).1 h) (by omega)) (fun h => absurd ((hcond0_3 t).1 h) (by omega)) Set.univ _)
  isplitl [H0]; · iexact H0
  isplitl [HF]; · iexact HF
  isplitl [HA]; · iexact HA
  isplitl [HB]; · iexact HB
  isplitl [HC]; · iexact HC
  isplitl [H3]; · iexact H3
  isplitl [H4]; · iexact H4
  isplitl [H31]; · iexists _; iexact H31
  iintro ⟨H0, HF, ⟨%f36, %h36, HA⟩, ⟨%f37, %h37, HB⟩, HC, H3, H4, H31⟩
  have e1 := xpair_congr m c (show t.val / 4 = (t.val + 1) / 4 by omega)
  have e2 := (xthird_at m c t h).symm.trans (xthird_congr m c (show t.val / 4 = (t.val + 1) / 4 by omega))
  rw [thirdRe_congr (fill_chan0 m c t d)] at h36
  rw [thirdIm_congr (fill_chan0 m c t d)] at h37
  rw [cutoff_congr (fill_chan0 m c t d), hs.2.1 h]
  unfold post scr
  isplitl [HA HB HC Hg]
  · isplitl [HA HB HC]
    · iexists f36, f37, pairPow (xpair m c t.val) (tabF m c)
      isplitr
      · ipureintro
        exact ⟨fun _ => ⟨by rw [h36.1, (hs.1 (Or.inl h)).1, e1], by rw [h37.1, (hs.1 (Or.inl h)).2, e1]⟩,
        fun h' => absurd h' (by omega), fun _ => ⟨by rw [h36.2, e2], by rw [h37.2, e2]⟩⟩
      isplitl [HA]; · iexact HA
      isplitl [HB]; · iexact HB
      iexact HC
    iexact Hg
  isplitl [Ho]; · iexact Ho
  iapply (give m c t d)
  unfold ins
  isplitl [H0 H1 H2 H3 H4 HF HG]
  · isplitl [H0]; · iexact H0
    isplitl [H1]; · iexact H1
    isplitl [H2]; · iexact H2
    isplitl [H3]; · iexact H3
    isplitl [H4]; · iexact H4
    isplitl [HF]; · iexact HF
    iexact HG
  isplitl [H29]
  · iapply (leaves_idle 29 t (by rw [idle_29, h]; rfl) (by rw [flush_29, h]; rfl)); iexact H29
  isplitl [H30]
  · iapply (leaves_idle 30 t (by rw [idle_30, h]; rfl) (by rw [flush_30, h]; rfl)); iexact H30
  isplitl [H31]
  · iapply (leaves_live 31 t (by rw [idle_31, h]; rfl) rfl)
    rw [after_31, d0Of, ← xthird_at m c t h]
    iexact H31
  isplitl [H32]
  · iapply (leaves_idle 32 t (by rw [idle_32, h]; rfl) (by rw [flush_32, h]; rfl)); iexact H32
  iapply (leaves_idle 33 t (by rw [idle_33, h]; rfl) (by rw [flush_33, h]; rfl)); iexact H33

set_option maxHeartbeats 2000000 in
theorem sound_pairBack (t : Fin cfg0.N) (h : t.val % 4 = 2) :
    pre m c t ⊢ wp frame (wpE (defs₀ (F := F)) Variants.none c none) Set.univ (bodyAt0 t) fun _ => post m c t := by
  unfold pre
  refine (sep_mono .rfl (sep_mono .rfl (take m c t))).trans ?_
  unfold scr ins found
  iintro ⟨⟨⟨%s36, %s37, %s38, %hs, HA, HB, HC⟩, Hg⟩, Ho, ⟨%d, H0, H1, H2, H3, H4, HF, HG⟩, H29, H30, ⟨%d31, H31⟩, H32, H33⟩
  rw [before_31_two m c t h]
  iapply (runC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).1 h) (by omega)) (fun h => absurd ((hcond0_1 t).1 h) (by omega)) ((hcond0_2 t).2 h) (fun h => absurd ((hcond0_3 t).1 h) (by omega)) Set.univ _)
  isplitl [H0]; · iexact H0
  isplitl [HG]; · iexact HG
  isplitl [HA]; · iexact HA
  isplitl [HB]; · iexact HB
  isplitl [H31]; · iexact H31
  isplitl [H1]; · iexact H1
  isplitl [H2]; · iexact H2
  isplitl [H30]; · icases H30 with ⟨%d30, H30⟩; iexists _; iexact H30
  isplitl [H29]; · icases H29 with ⟨%d29, H29⟩; iexists _; iexact H29
  isplitl [H32]; · icases H32 with ⟨%d32, H32⟩; iexists _; iexact H32
  isplitl [H33]; · icases H33 with ⟨%d33, H33⟩; iexists _; iexact H33
  iintro ⟨H0, HG, HA, HB, H31, H1, H2, ⟨%fl, %hl, H30⟩, ⟨%fh, %hh, H29⟩, H32, H33⟩
  have e2 := xthird_congr m c (show t.val / 4 = (t.val + 1) / 4 by omega)
  rw [(hs.1 (Or.inr h)).1, (hs.1 (Or.inr h)).2] at hl hh
  rw [fill_even m c t (by omega)] at hh
  have el : fl = lowAt m c t := by
    rw [eq_glue fl, hl.1, hl.2]; unfold lowAt; rw [if_pos h]; rfl
  have eh : fh = highAt m c t := by
    rw [eq_glue fh, hh.1, hh.2]; unfold highAt; rw [if_pos h]; rfl
  unfold post scr
  isplitl [HA HB HC Hg]
  · isplitl [HA HB HC]
    · iexists s36, s37, s38
      isplitr
      · ipureintro
        exact ⟨fun h' => absurd h' (by omega), fun h' => absurd h' (by omega),
        fun _ => ⟨by rw [(hs.2.2 (Or.inl h)).1, e2], by rw [(hs.2.2 (Or.inl h)).2, e2]⟩⟩
      isplitl [HA]; · iexact HA
      isplitl [HB]; · iexact HB
      iexact HC
    iexact Hg
  isplitl [Ho]; · iexact Ho
  iapply (give m c t d)
  unfold ins
  isplitl [H0 H1 H2 H3 H4 HF HG]
  · isplitl [H0]; · iexact H0
    isplitl [H1]; · iexact H1
    isplitl [H2]; · iexact H2
    isplitl [H3]; · iexact H3
    isplitl [H4]; · iexact H4
    isplitl [HF]; · iexact HF
    iexact HG
  isplitl [H29]
  · iapply (leaves_loose 29 t (by rw [idle_29, h]; rfl) rfl)
    iexists fh
    rw [after_29, ← eh, (cfg0.win 29).fill_cut]
    iexact H29
  isplitl [H30]
  · iapply (leaves_loose 30 t (by rw [idle_30, h]; rfl) rfl)
    iexists fl
    rw [after_30, ← el, (cfg0.win 30).fill_cut]
    iexact H30
  isplitl [H31]
  · iapply (leaves_idle 31 t (by rw [idle_31, h]; rfl) (by rw [flush_31, h]; rfl)); iexists d31; rw [before_31_two m c t h]; iexact H31
  isplitl [H32]
  · iapply (leaves_live 32 t (by rw [idle_32, h]; rfl) rfl)
    rw [after_32]
    iexact H32
  iapply (leaves_live 33 t (by rw [idle_33, h]; rfl) rfl)
  rw [after_33]
  iexact H33

set_option maxHeartbeats 2000000 in
theorem sound_thirdBack (t : Fin cfg0.N) (h : t.val % 4 = 3) :
    pre m c t ⊢ wp frame (wpE (defs₀ (F := F)) Variants.none c none) Set.univ (bodyAt0 t) fun _ => post m c t := by
  unfold pre
  refine (sep_mono .rfl (sep_mono .rfl (take m c t))).trans ?_
  unfold scr ins found
  iintro ⟨⟨⟨%s36, %s37, %s38, %hs, HA, HB, HC⟩, Hg⟩, Ho, ⟨%d, H0, H1, H2, H3, H4, HF, HG⟩, H29, H30, ⟨%d31, H31⟩, H32, H33⟩
  rw [before_31_three m c t h]
  iapply (runD c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).1 h) (by omega)) (fun h => absurd ((hcond0_1 t).1 h) (by omega)) (fun h => absurd ((hcond0_2 t).1 h) (by omega)) ((hcond0_3 t).2 h) Set.univ _)
  isplitl [H0]; · iexact H0
  isplitl [HG]; · iexact HG
  isplitl [HA]; · iexact HA
  isplitl [HB]; · iexact HB
  isplitl [H31]; · iexact H31
  isplitl [H2]; · iexact H2
  isplitl [H30]; · icases H30 with ⟨%d30, H30⟩; iexists _; iexact H30
  isplitl [H29]; · icases H29 with ⟨%d29, H29⟩; iexists _; iexact H29
  iintro ⟨H0, HG, HA, HB, H31, H2, ⟨%fl, %hl, H30⟩, ⟨%fh, %hh, H29⟩⟩
  rw [(hs.2.2 (Or.inr h)).1, (hs.2.2 (Or.inr h)).2] at hl hh
  rw [fill_chan0 m c t d] at hh
  have el : chan0 fl = chan0 (lowAt m c t) := by
    unfold lowAt; rw [if_neg (by omega), chan0_glue, hl]; rfl
  have eh : chan0 fh = chan0 (highAt m c t) := by
    unfold highAt; rw [if_neg (by omega), chan0_glue, hh]; rfl
  unfold post scr
  isplitl [HA HB HC Hg]
  · isplitl [HA HB HC]
    · iexists s36, s37, s38
      isplitr
      · ipureintro
        exact ⟨fun h' => absurd h' (by omega), fun h' => absurd h' (by omega), fun h' => absurd h' (by omega)⟩
      isplitl [HA]; · iexact HA
      isplitl [HB]; · iexact HB
      iexact HC
    iexact Hg
  isplitl [Ho]; · iexact Ho
  iapply (give m c t d)
  unfold ins
  isplitl [H0 H1 H2 H3 H4 HF HG]
  · isplitl [H0]; · iexact H0
    isplitl [H1]; · iexact H1
    isplitl [H2]; · iexact H2
    isplitl [H3]; · iexact H3
    isplitl [H4]; · iexact H4
    isplitl [HF]; · iexact HF
    iexact HG
  isplitl [H29]
  · iapply (leaves_loose 29 t (by rw [idle_29, h]; rfl) rfl)
    iexists fh
    rw [after_29, fill_last_29 t h _ _ eh]
    iexact H29
  isplitl [H30]
  · iapply (leaves_loose 30 t (by rw [idle_30, h]; rfl) rfl)
    iexists fl
    rw [after_30, fill_last_30 t h _ _ el]
    iexact H30
  isplitl [H31]
  · iapply (leaves_idle_flush 31 t (by rw [idle_31, h]; rfl) (by rw [flush_31, h]; rfl) rfl)
    rw [after_31]
    iexact H31
  isplitl [H32]
  · iapply (leaves_idle_flush 32 t (by rw [idle_32, h]; rfl) (by rw [flush_32, h]; rfl) rfl)
    icases H32 with ⟨%d32, H32⟩
    rw [before_32 m c t h, after_32]
    iexact H32
  iapply (leaves_idle_flush 33 t (by rw [idle_33, h]; rfl) (by rw [flush_33, h]; rfl) rfl)
  icases H33 with ⟨%d33, H33⟩
  rw [before_33 m c t h, after_33]
  iexact H33

theorem sound_body (t : Fin cfg0.N) :
    pre m c t ⊢ wp frame (wpE (defs₀ (F := F)) Variants.none c none) Set.univ (bodyAt0 t) fun _ => post m c t := by
  rcases (by omega : t.val % 4 = 0 ∨ t.val % 4 = 1 ∨ t.val % 4 = 2 ∨ t.val % 4 = 3) with h | h | h | h
  · exact sound_pair m c t h
  · exact sound_third m c t h
  · exact sound_pairBack m c t h
  · exact sound_thirdBack m c t h

end Cert.KernelIdeal.Hand
-- ==== Proof.Run.lean ====
/-
  The whole program: from any memory it ends without fault, its argument as it was, every counter at zero, and the
  pallas_call's arrays holding what the points of the grid wrote back.
-/
module

public import proofs.«01_k».proof.Proof.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The program the launch runs at point `t` is the body over the buffers that point stages. -/
theorem body_at (t : Fin cfg0.N) : defs₀ (F := F) .tc cfg0.body (cfg0.bodyArgs t (cfg0.slots t)) = bodyAt0 t := by
  unfold defs₀; rw [Defs.onTc_tc]

theorem body_meets (c : Dev nD) : BodyObligationLoose (dats (F := F) m 0 c) (defs₀ (F := F)) Variants.none () Set.univ := fun t => by
  rw [body_at]
  exact triple_restated (sound_body m c t) rfl .rfl fun _ => .rfl

/-- At the start the scratch buffers may hold anything, -/
theorem scr_start : Pipeline.ΦA spec0 c ⊢ (scr (F := F) m c 0 : sProp 𝕄) := by
  unfold Pipeline.ΦA scr; rw [scopedRest0_eq]; simp only [owns_whole]
  iintro ⟨⟨⟨%a, HA⟩, ⟨%b, HB⟩, ⟨%d, HC⟩⟩, Hg⟩
  isplitl [HA HB HC]
  · iexists a, b, d
    isplitr
    · ipureintro
      exact ⟨fun h => absurd h (by decide), fun h => absurd h (by decide), fun h => absurd h (by decide)⟩
    isplitl [HA]; · iexact HA
    isplitl [HB]; · iexact HB
    iexact HC
  iexact Hg

/-- and at the end what they hold is let go. -/
theorem scr_end (n : ℕ) : (scr (F := F) m c n : sProp 𝕄) ⊢ Pipeline.ΦA spec0 c := by
  unfold Pipeline.ΦA scr; rw [scopedRest0_eq]; simp only [owns_whole]
  iintro ⟨⟨%a, %b, %d, %_, HA, HB, HC⟩, Hg⟩
  isplitl [HA HB HC]
  · isplitl [HA]; · iexists a; iexact HA
    isplitl [HB]; · iexists b; iexact HB
    iexists d; iexact HC
  iexact Hg

/-- What a run ends in: the pallas_call's arrays as the grid left them, the host operations after it done. -/
abbrev Ended : PUnit × MemSt nD τ sig (Elt F) → Prop :=
  Pipeline.FramePost cfgs (dats m) 0 (Pipeline.afterTail₀ cfgs (dats m) 0 (V0 m) [hostOps1])

set_option backward.isDefEq.respectTransparency.types false in
set_option maxHeartbeats 800000 in
theorem runs_quiet : θ_run defs (onTc (τ := τ) (main (F := F))) (s₀ m ρ) (fun r => Ended m r ∧ r.2.sem = fun _ => 0) :=
  Pipeline.θ_run_frame_around_track cfgs (dats m) (0 : Fin 1) launch0 defs₀ Variants.none m ρ main
    (hbody := fun c => body_meets m c) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := fun c => scr_start m c) (hout := fun c => scr_end m c _)
    (Q' := _) (hQ' := fun _ h => h)

theorem runs : θ_run defs (onTc (τ := τ) (main (F := F))) (s₀ m ρ) (Ended m) :=
  (θ_run defs _ _).mono (fun _ h => h.1) (runs_quiet m ρ)

theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (runs m ρ)) ((θ_run defs _ _).mono (fun _ h => h.2) (runs_quiet m ρ))

end Cert.KernelIdeal.Hand
-- ==== Proof.Ref.lean ====
/-
  What the reference computes, step by step.
-/
module

public import proofs.«01_k».proof.Proof.Gen.ReferenceIdeal.Run

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The frequencies, counted from the centre, and scaled. -/
def freqR : FVec F S512 .f32 := subf (sitofp .f32 (iotaInDim S512 32 0)) (broadcastInDim S512 ![] bcast_S_S512 (constant S_ .f32 0x43800000#32))
def axisR : FVec F S512 .f32 := Host.divf freqR (broadcastInDim S512 ![] bcast_S_S512 (constant S_ .f32 0x43B504F3#32))
/-- The radius of every frequency, the largest, and the bin of every frequency. -/
def radR : FVec F S512x512 .f32 :=
  Host.sqrt (addf (mulf (broadcastInDim S512x512 ![1] bcast_S512_S512x512_1 axisR) (broadcastInDim S512x512 ![1] bcast_S512_S512x512_1 axisR))
    (mulf (broadcastInDim S512x512 ![0] bcast_S512_S512x512_0 axisR) (broadcastInDim S512x512 ![0] bcast_S512_S512x512_0 axisR)))
def topR : FVec F S_ .f32 := Host.reduce FloatOps.maximumf radR (constant S_ .f32 0xFF800000#32) reducesTo_S512x512_S_d0_1 h_S_
def binR : IVec S512x512 32 := fptosi 32 (Host.floor (mulf (Host.divf (radR : FVec F S512x512 .f32) (broadcastInDim S512x512 ![] bcast_S_S512x512 topR))
  (broadcastInDim S512x512 ![] bcast_S_S512x512 (constant S_ .f32 0x42C80000#32))))
/-- The edges of the bins and their middles. -/
def stepR : FVec F S100 .f32 := Host.divf (sitofp .f32 (iotaInDim S100 32 0)) (broadcastInDim S100 ![] bcast_S_S100 (constant S_ .f32 0x42C80000#32))
def edgeR (t z : FVec F S_ .f32) : FVec F S101 .f32 :=
  concatenate S101 0 [⟨S100, (addf (mulf (broadcastInDim S100 ![0] bcast_S1_S100_0 (shapeCast S1 z shapeCasts_S_S1))
      (subf (broadcastInDim S100 ![] bcast_S_S100 (constant S_ .f32 0x3F800000#32)) stepR))
    (mulf (broadcastInDim S100 ![0] bcast_S1_S100_0 (shapeCast S1 t shapeCasts_S_S1)) stepR) : FVec F S100 .f32)⟩,
    ⟨S1, (broadcastInDim S1 ![] bcast_S_S1 t : FVec F S1 .f32)⟩] concatenates_S100_S1_S101_d0
def midR (e : FVec F S101 .f32) : FVec F S100 .f32 :=
  mulf (addf (extractStridedSlice S100 ![0] e slices_S101_S100_0) (extractStridedSlice S100 ![1] e slices_S101_S100_1))
    (broadcastInDim S100 ![] bcast_S_S100 (constant S_ .f32 0x3F000000#32))
/-- The frequencies up to each bin. -/
def uptoR (bins : IVec S512x512 32) : IVec S1x100x512x512 1 :=
  broadcastInDim S1x100x512x512 ![1, 2, 3] bcast_S100x512x512_S1x100x512x512_1_2_3
    (cmpi .sle (broadcastInDim S100x512x512 ![0, 1, 2] bcast_S1x512x512_S100x512x512_0_1_2 (broadcastInDim S1x512x512 ![1, 2] bcast_S512x512_S1x512x512_1_2 bins))
      (broadcastInDim S100x512x512 ![0, 1, 2] bcast_S100x1x1_S100x512x512_0_1_2 (broadcastInDim S100x1x1 ![0] bcast_S100_S100x1x1_0 (iotaInDim S100 32 0))))
/-- The angles of the transform. -/
def angR : FVec F S512x512 .f32 :=
  mulf (broadcastInDim S512x512 ![] bcast_S_S512x512 (Host.divf (mulf (constant S_ .f32 0x40000000#32) (Host.acos (constant S_ .f32 0xBF800000#32))) (constant S_ .f32 0x44000000#32)))
    (mulf (broadcastInDim S512x512 ![0, 1] bcast_S512x1_S512x512_0_1 (broadcastInDim S512x1 ![0] bcast_S512_S512x1_0 freqR))
      (broadcastInDim S512x512 ![0, 1] bcast_S1x512_S512x512_0_1 (broadcastInDim S1x512 ![1] bcast_S512_S1x512_1 (sitofp .f32 (iotaInDim S512 32 0)))))

/-- The transform of the rows by a table, of the columns by a table, -/
def alongR (x : FVec F S16x3x512x512 .f32) (t : FVec F S512x512 .f32) : FVec F S16x3x512x512 .f32 :=
  Host.dotGeneral dot_S16x3x512x512_S512x512_S16x3x512x512_3_1_012_0_n_n none x t
def acrossR (t : FVec F S512x512 .f32) (x : FVec F S16x3x512x512 .f32) : FVec F S16x3x512x512 .f32 :=
  transpose S16x3x512x512 [1, 2, 0, 3] (Host.dotGeneral dot_S512x512_S16x3x512x512_S512x16x3x512_1_2_0_013_n_n none t x) transposes_S512x16x3x512_S16x3x512x512_1_2_0_3
/-- the power of one channel, -/
def sqR (c s : FVec F S512x512 .f32) (p q : FVec F S16x3x512x512 .f32) : FVec F S16x3x512x512 .f32 :=
  addf (mulf (addf (acrossR c p) (acrossR s q)) (addf (acrossR c p) (acrossR s q))) (mulf (subf (acrossR c q) (acrossR s p)) (subf (acrossR c q) (acrossR s p)))
/-- and of the three. -/
def powR (x : FVec F S16x3x512x512 .f32) (c s : FVec F S512x512 .f32) : FVec F S16x512x512 .f32 :=
  Host.reduceAdd (sqR c s (alongR x c) (Host.negf (alongR x s))) (constant S_ .f32 0x00000000#32) reducesTo_S16x3x512x512_S16x512x512_d1 h_S_

/-- The power up to each bin, the share of the total it is held against, and the first bin that reaches it. -/
def cumR (upto : IVec S1x100x512x512 1) (p : FVec F S16x512x512 .f32) : FVec F S16x100 .f32 :=
  Host.reduceAdd (select (broadcastInDim S16x100x512x512 ![0, 1, 2, 3] bcast_S1x100x512x512_S16x100x512x512_0_1_2_3 upto)
    (broadcastInDim S16x100x512x512 ![0, 1, 2, 3] bcast_S16x1x512x512_S16x100x512x512_0_1_2_3 (broadcastInDim S16x1x512x512 ![0, 2, 3] bcast_S16x512x512_S16x1x512x512_0_2_3 p))
    (broadcastInDim S16x100x512x512 ![] bcast_S_S16x100x512x512 (constant S_ .f32 0x00000000#32))) (constant S_ .f32 0x00000000#32) reducesTo_S16x100x512x512_S16x100_d2_3 h_S_
def thrR (p : FVec F S16x512x512 .f32) : FVec F S16x1 .f32 :=
  mulf (broadcastInDim S16x1 ![] bcast_S_S16x1 (constant S_ .f32 0x3F733333#32)) (broadcastInDim S16x1 ![0] bcast_S16_S16x1_0
    (maximumf (Host.reduceAdd p (constant S_ .f32 0x00000000#32) reducesTo_S16x512x512_S16_d1_2 h_S_) (broadcastInDim S16 ![] bcast_S_S16 (constant S_ .f32 0x2B8CBCCC#32))))
def firstR (cum : FVec F S16x100 .f32) (thr : FVec F S16x1 .f32) : IVec S16 32 :=
  Host.reduce IntOp.minsi (select (cmpf .oge cum (broadcastInDim S16x100 ![0, 1] bcast_S16x1_S16x100_0_1 thr))
    (broadcastInDim S16x100 ![1] bcast_S100_S16x100_1 (iotaInDim S100 32 0)) (broadcastInDim S16x100 ![] bcast_S_S16x100 (constantI S_ 32 99#32)))
    (constantI S_ 32 2147483647#32) reducesTo_S16x100_S16_d1 h_S_
/-- The radius of that bin. -/
def pickR (mid : FVec F S100 .f32) (k : IVec S16 32) : FVec F S16 .f32 :=
  Host.gather gather_S100_S16x1_S16_n_0_n_n_0_1_1 mid (broadcastInDim S16x1 ![0] bcast_S16_S16x1_0
    (select (cmpi .slt k (broadcastInDim S16 ![] bcast_S_S16 (constantI S_ 32 0#32))) (addi k (broadcastInDim S16 ![] bcast_S_S16 (constantI S_ 32 100#32))) k))
def cutR (x : FVec F S16x3x512x512 .f32) : FVec F S16 .f32 :=
  pickR (midR (edgeR topR (constant S_ .f32 0x00000000#32)))
    (firstR (cumR (uptoR (binR (F := F))) (powR x (Host.cos angR) (Host.sin angR))) (thrR (powR x (Host.cos angR) (Host.sin angR))))
/-- The frequencies within a radius, and those outside. -/
def inR (rad : FVec F S512x512 .f32) (d : FVec F S16 .f32) : FVec F S16x1x512x512 .f32 :=
  broadcastInDim S16x1x512x512 ![0, 2, 3] bcast_S16x512x512_S16x1x512x512_0_2_3
    (uitofp .f32 (cmpf .ole (broadcastInDim S16x512x512 ![0, 1, 2] bcast_S1x512x512_S16x512x512_0_1_2 (broadcastInDim S1x512x512 ![1, 2] bcast_S512x512_S1x512x512_1_2 rad))
      (broadcastInDim S16x512x512 ![0, 1, 2] bcast_S16x1x1_S16x512x512_0_1_2 (broadcastInDim S16x1x1 ![0] bcast_S16_S16x1x1_0 d))))
def outR (p : FVec F S16x1x512x512 .f32) : FVec F S16x1x512x512 .f32 :=
  subf (broadcastInDim S16x1x512x512 ![] bcast_S_S16x1x512x512 (constant S_ .f32 0x3F800000#32)) p

/-- The real and the imaginary part of the transform of every channel, -/
def reR (x : FVec F S16x3x512x512 .f32) (c s : FVec F S512x512 .f32) : FVec F S16x3x512x512 .f32 := addf (acrossR c (alongR x c)) (acrossR s (Host.negf (alongR x s)))
def imR (x : FVec F S16x3x512x512 .f32) (c s : FVec F S512x512 .f32) : FVec F S16x3x512x512 .f32 := subf (acrossR c (Host.negf (alongR x s))) (acrossR s (alongR x c))
/-- the sums back over the frequencies of the rows, and of the columns, -/
def backR (x : FVec F S16x3x512x512 .f32) (t : FVec F S512x512 .f32) : FVec F S16x3x512x512 .f32 :=
  Host.dotGeneral dot_S16x3x512x512_S512x512_S16x3x512x512_3_0_012_1_n_n none x t
def downR (t : FVec F S512x512 .f32) (x : FVec F S16x3x512x512 .f32) : FVec F S16x3x512x512 .f32 :=
  transpose S16x3x512x512 [1, 2, 0, 3] (Host.dotGeneral dot_S512x512_S16x3x512x512_S512x16x3x512_0_2_1_013_n_n none t x) transposes_S512x16x3x512_S16x3x512x512_1_2_0_3
/-- a mask over every channel, -/
def everyR (p : FVec F S16x1x512x512 .f32) : FVec F S16x3x512x512 .f32 := broadcastInDim S16x3x512x512 ![0, 1, 2, 3] bcast_S16x1x512x512_S16x3x512x512_0_1_2_3 p
/-- and the real part of the inverse transform of a spectrum. -/
def invR (p q : FVec F S16x3x512x512 .f32) (c s : FVec F S512x512 .f32) : FVec F S16x3x512x512 .f32 :=
  Host.divf (subf (downR c (subf (backR p c) (backR q s))) (downR s (addf (backR p s) (backR q c))))
    (broadcastInDim S16x3x512x512 ![] bcast_S_S16x3x512x512 (constant S_ .f32 0x48800000#32))
/-- The image of the frequencies a mask keeps. -/
def imageR (x : FVec F S16x3x512x512 .f32) (p : FVec F S16x1x512x512 .f32) : FVec F S16x3x512x512 .f32 :=
  invR (mulf (reR x (Host.cos angR) (Host.sin angR)) (everyR p)) (mulf (imR x (Host.cos angR) (Host.sin angR)) (everyR p)) (Host.cos angR) (Host.sin angR)

variable (m : (ℓ : Loc nD τ sig) → Buf (Elt F) ℓ) (ρ : Dev nD → PrngReg) (c : Dev nD)

theorem res_cos : Value.res_main_v30 (StableHlo.launchContents m c) = Host.cos angR := rfl
theorem res_sin : Value.res_main_v31 (StableHlo.launchContents m c) = Host.sin angR := rfl
theorem res_re : Value.res_main_v39 (StableHlo.launchContents m c) = reR (m ((c.tc : Thread nD τ).loc main_arg0)) (Host.cos angR) (Host.sin angR) := rfl
theorem res_im : Value.res_main_v44 (StableHlo.launchContents m c) = imR (m ((c.tc : Thread nD τ).loc main_arg0)) (Host.cos angR) (Host.sin angR) := rfl
set_option maxHeartbeats 1600000 in
theorem res_low : Value.res_main_v95 (StableHlo.launchContents m c) = inR radR (cutR (m ((c.tc : Thread nD τ).loc main_arg0))) := by
  unfold Value.res_main_v95; rfl
theorem res_high : Value.res_main_v97 (StableHlo.launchContents m c) = outR (inR radR (cutR (m ((c.tc : Thread nD τ).loc main_arg0)))) := by
  unfold Value.res_main_v97; rw [res_low]; rfl

set_option maxHeartbeats 1600000 in
/-- The reference ends with the two images, the radii and the two masks. -/
theorem ends : θ_run defs (onTc (τ := τ) (main (F := F))) ⟨m, fun _ => 0, ρ⟩ (fun r => ∀ c : Dev nD,
      r.2.mem ((c.tc : Thread nD τ).loc main_v114) = imageR (m ((c.tc : Thread nD τ).loc main_arg0)) (outR (inR radR (cutR (m ((c.tc : Thread nD τ).loc main_arg0)))))
      ∧ r.2.mem ((c.tc : Thread nD τ).loc main_v131) = imageR (m ((c.tc : Thread nD τ).loc main_arg0)) (inR radR (cutR (m ((c.tc : Thread nD τ).loc main_arg0))))
      ∧ r.2.mem ((c.tc : Thread nD τ).loc main_v88) = cutR (m ((c.tc : Thread nD τ).loc main_arg0))
      ∧ r.2.mem ((c.tc : Thread nD τ).loc main_v95) = inR radR (cutR (m ((c.tc : Thread nD τ).loc main_arg0)))
      ∧ r.2.mem ((c.tc : Thread nD τ).loc main_v97) = outR (inR radR (cutR (m ((c.tc : Thread nD τ).loc main_arg0))))
      ∧ r.2.mem ((c.tc : Thread nD τ).loc main_arg0) = m ((c.tc : Thread nD τ).loc main_arg0)) := by
  refine (θ_run defs _ _).mono (fun r h c => ?_) (Value.run m ρ)
  obtain ⟨h0, h1, h2, h3, h4, h5⟩ := h c
  refine ⟨h0.trans ?_, h1.trans ?_, h2.trans ?_, h3.trans (res_low m c), h4.trans (res_high m c), h5⟩
  · unfold Value.res_main_v99 Value.res_main_v101; rw [res_re, res_im, res_cos, res_sin, res_high]; rfl
  · unfold Value.res_main_v116 Value.res_main_v118; rw [res_re, res_im, res_cos, res_sin, res_low]; rfl
  · rfl

end Cert.ReferenceIdeal.Hand
-- ==== Proof.Ops.lean ====
/-
  Arrays of real numbers over the extended reals, and what the kernel's operations make of them.
-/
module

public import proofs.«01_k».proof.Proof.Values
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen
open Idealize.ShloMosaic

/-- The matrix of the reals `f r c`, at the ideal reading of any format. -/
def c2 (φ : FTy) {a b : ℕ} (f : ℕ → ℕ → ℝ) : FVec Ideal ⟨2, ![a, b]⟩ φ := fun i => ((f (i 0).val (i 1).val : ℝ) : EReal)

theorem c2_truncf {a b : ℕ} (f : ℕ → ℕ → ℝ) (h) : truncf .bf16 (c2 .f32 (a := a) (b := b) f) h = c2 .bf16 f := rfl
theorem c2_extf {a b : ℕ} (f : ℕ → ℕ → ℝ) (h) : extf .f32 (c2 .bf16 (a := a) (b := b) f) h = c2 .f32 f := rfl
theorem c2_addf {a b : ℕ} (f g : ℕ → ℕ → ℝ) : addf (c2 .f32 (a := a) (b := b) f) (c2 .f32 g) = c2 .f32 fun r k => f r k + g r k := rfl
theorem c2_subf {a b : ℕ} (f g : ℕ → ℕ → ℝ) : subf (c2 .f32 (a := a) (b := b) f) (c2 .f32 g) = c2 .f32 fun r k => f r k - g r k := rfl
theorem c2_mulf {a b : ℕ} (f g : ℕ → ℕ → ℝ) : mulf (c2 .f32 (a := a) (b := b) f) (c2 .f32 g) = c2 .f32 fun r k => f r k * g r k := rfl

theorem c2_left (f : ℕ → ℕ → ℝ) : extractStridedSlice S512x256 ![0, 0] (c2 .f32 f : FVec Ideal S512x512 .f32) slices_S512x512_o0_0_S512x256 = c2 .f32 f := by
  funext j; pointwise [c2]
theorem c2_right (f : ℕ → ℕ → ℝ) : extractStridedSlice S512x256 ![0, 256] (c2 .f32 f : FVec Ideal S512x512 .f32) slices_S512x512_o0_256_S512x256
    = c2 .f32 fun r k => f r (256 + k) := by
  funext j; pointwise [c2]
theorem c2_top (f : ℕ → ℕ → ℝ) : extractStridedSlice S256x512 ![0, 0] (c2 .f32 f : FVec Ideal S512x512 .f32) slices_S512x512_o0_0_S256x512 = c2 .f32 f := by
  funext j; pointwise [c2]
theorem c2_bottom (f : ℕ → ℕ → ℝ) : extractStridedSlice S256x512 ![256, 0] (c2 .f32 f : FVec Ideal S512x512 .f32) slices_S512x512_o256_0_S256x512
    = c2 .f32 fun r k => f (256 + r) k := by
  funext j; pointwise [c2]
theorem c2_beside (f g : ℕ → ℕ → ℝ) (h) : concatenate S512x512 1 [⟨S512x256, (c2 .f32 f : FVec Ideal S512x256 .f32)⟩, ⟨S512x256, (c2 .f32 g : FVec Ideal S512x256 .f32)⟩] h
    = c2 .f32 fun r k => if k < 256 then f r k else g r (k - 256) := by
  funext j; pointwise [c2]
  split <;> rfl
theorem c2_above (f g : ℕ → ℕ → ℝ) (h) : concatenate S512x512 0 [⟨S256x512, (c2 .f32 f : FVec Ideal S256x512 .f32)⟩, ⟨S256x512, (c2 .f32 g : FVec Ideal S256x512 .f32)⟩] h
    = c2 .f32 fun r k => if r < 256 then f r k else g (r - 256) k := by
  funext j; pointwise [c2]
  split <;> rfl

/-- A table of the forward transform's first stage: its values, the zero low part, its values again; -/
def tabRow (e : ℕ → ℕ → ℝ) : Vec Ideal S256x768 .bf16 :=
  c2 .bf16 fun r k => if k < 256 then e r k else if k < 512 then 0 else e r (k - 512)
/-- and of its second stage. -/
def tabCol (e : ℕ → ℕ → ℝ) : Vec Ideal S256x768 .bf16 :=
  c2 .bf16 fun r k => if k < 256 then e r k else if k < 512 then e r (k - 256) else 0

/-- The sums of products of the rows, and of the columns. -/
def rows (f e : ℕ → ℕ → ℝ) : ℕ → ℕ → ℝ := fun r k => ∑ n : Fin 256, f r n * e k n
def cols (e f : ℕ → ℕ → ℝ) : ℕ → ℕ → ℝ := fun r k => ∑ n : Fin 256, e r n * f n k

theorem coe_sum {n : ℕ} (f : Fin n → ℝ) : (∑ k, ((f k : ℝ) : EReal)) = ((∑ k, f k : ℝ) : EReal) := by
  induction (Finset.univ : Finset (Fin n)) using Finset.induction_on with
  | empty => simp
  | insert a s h ih => rw [Finset.sum_insert h, Finset.sum_insert h, ih, EReal.coe_add]

/-- A sum over three spans of 256, whose terms on them are the same product, nothing, nothing. -/
theorem sum_spans (t : Fin 768 → EReal) (p : Fin 256 → ℝ)
    (h1 : ∀ n : Fin 256, t ⟨n, by omega⟩ = (p n : ℝ)) (h2 : ∀ n : Fin 256, t ⟨256 + n, by omega⟩ = 0) (h3 : ∀ n : Fin 256, t ⟨512 + n, by omega⟩ = 0) :
    ∑ k, t k = ((∑ n, p n : ℝ) : EReal) := by
  rw [← coe_sum, show (∑ k, t k) = ∑ k : Fin (256 + 512), t k from rfl, Fin.sum_univ_add,
    show (∑ k : Fin 512, t (Fin.natAdd 256 k)) = ∑ k : Fin (256 + 256), t (Fin.natAdd 256 k) from rfl, Fin.sum_univ_add]
  have z2 : ∑ k : Fin 256, t (Fin.natAdd 256 (Fin.castAdd 256 k)) = 0 := Finset.sum_eq_zero fun n _ => h2 n
  have z3 : ∑ k : Fin 256, t (Fin.natAdd 256 (Fin.natAdd 256 k)) = 0 := Finset.sum_eq_zero fun n _ =>
    (congrArg t (Fin.ext (show 256 + (256 + n.val) = 512 + n.val by omega))).trans (h3 n)
  have z1 : ∑ k : Fin 256, t (Fin.castAdd 512 k) = ∑ k, ((p k : ℝ) : EReal) := Finset.sum_congr rfl fun n _ => h1 n
  rw [z1, z2, z3, add_zero, add_zero]

set_option maxHeartbeats 1000000 in
/-- The first stage's product: the low parts are zero, one product of 256 terms is left. -/
theorem c2_rows (f e : ℕ → ℕ → ℝ) (h) (h') :
    matmul (φ₂ := .bf16) dot_S512x768_S256x768_S512x256_1_1_0_0_n_n none
      (concatenate S512x768 1 [⟨S512x256, (c2 .bf16 f : FVec Ideal S512x256 .bf16)⟩, ⟨S512x256, (c2 .bf16 f : FVec Ideal S512x256 .bf16)⟩, ⟨S512x256, (c2 .bf16 (fun r k => f r k - f r k) : FVec Ideal S512x256 .bf16)⟩] h)
      (shapeCast S256x768 (tabRow e) h') (constant S512x256 .f32 0x00000000#32)
    = c2 .f32 (rows f e) := by
  funext j
  rw [shapeCast_id]; pointwise [c2, tabRow, rows]
  refine sum_spans _ _ (fun n => ?_) (fun n => ?_) (fun n => ?_)
  · simp [EReal.coe_mul]
  · have := n.isLt; simp [show 256 + n.val < 512 by omega]
  · simp [sub_self, show ¬ 512 + n.val < 256 by omega, show ¬ 512 + n.val - 256 < 256 by omega]

set_option maxHeartbeats 1000000 in
/-- The second stage's. -/
theorem c2_cols (f e : ℕ → ℕ → ℝ) (h) (h') :
    matmul (φ₁ := .bf16) dot_S256x768_S768x512_S256x512_1_0_0_1_n_n none (shapeCast S256x768 (tabCol e) h')
      (concatenate S768x512 0 [⟨S256x512, (c2 .bf16 f : FVec Ideal S256x512 .bf16)⟩, ⟨S256x512, (c2 .bf16 (fun r k => f r k - f r k) : FVec Ideal S256x512 .bf16)⟩, ⟨S256x512, (c2 .bf16 f : FVec Ideal S256x512 .bf16)⟩] h)
      (constant S256x512 .f32 0x00000000#32)
    = c2 .f32 (cols e f) := by
  funext j
  rw [shapeCast_id]; pointwise [c2, tabCol, cols]
  refine sum_spans _ _ (fun n => ?_) (fun n => ?_) (fun n => ?_)
  · simp [EReal.coe_mul]
  · simp [sub_self]
  · simp [show ¬ 512 + n.val < 256 by omega]

end Cert.KernelIdeal.Hand
-- ==== Proof.Power.lean ====
/-
  The power spectrum the kernel sums up, as real numbers: of a packed pair and of the third channel.
-/
module

public import proofs.«01_k».proof.Proof.Ops

@[expose] public section

set_option maxRecDepth 16384

noncomputable section

namespace Cert.KernelIdeal.Hand

open Cert.KernelIdeal Cert.KernelIdeal.Gen
open Idealize.ShloMosaic

variable (e : Fin 12 → ℕ → ℕ → ℝ) (f g F G : ℕ → ℕ → ℝ)

/-- The sums and the differences of a matrix's two halves, side by side or one above the other. -/
def sumH : ℕ → ℕ → ℝ := fun r k => f r k + f r (256 + k)
def difH : ℕ → ℕ → ℝ := fun r k => f r k - f r (256 + k)
def sumV : ℕ → ℕ → ℝ := fun r k => f r k + f (256 + r) k
def difV : ℕ → ℕ → ℝ := fun r k => f r k - f (256 + r) k
/-- The sum of two matrices. -/
def plus : ℕ → ℕ → ℝ := fun r k => f r k + g r k

/-- The transform of the rows of `f + i g`, the even frequencies before the odd ones, by three real products each. -/
def rowRe : ℕ → ℕ → ℝ := fun r k =>
  if k < 256 then rows (sumH f) (e 0) r k - rows (sumH g) (e 1) r k
  else rows (difH f) (e 3) r (k - 256) - rows (difH g) (e 4) r (k - 256)
def rowIm : ℕ → ℕ → ℝ := fun r k =>
  if k < 256 then rows (plus (sumH f) (sumH g)) (e 2) r k - rows (sumH f) (e 0) r k - rows (sumH g) (e 1) r k
  else rows (plus (difH f) (difH g)) (e 5) r (k - 256) - rows (difH f) (e 3) r (k - 256) - rows (difH g) (e 4) r (k - 256)
/-- The transform of the rows of a real matrix. -/
def rowRe₁ : ℕ → ℕ → ℝ := fun r k => if k < 256 then rows (sumH f) (e 0) r k else rows (difH f) (e 3) r (k - 256)
def rowIm₁ : ℕ → ℕ → ℝ := fun r k => if k < 256 then rows (sumH f) (e 1) r k else rows (difH f) (e 4) r (k - 256)
/-- The transform of the columns. -/
def colRe : ℕ → ℕ → ℝ := fun r k =>
  if r < 256 then cols (e 6) (sumV F) r k - cols (e 7) (sumV G) r k
  else cols (e 9) (difV F) (r - 256) k - cols (e 10) (difV G) (r - 256) k
def colIm : ℕ → ℕ → ℝ := fun r k =>
  if r < 256 then cols (e 8) (plus (sumV F) (sumV G)) r k - cols (e 6) (sumV F) r k - cols (e 7) (sumV G) r k
  else cols (e 11) (plus (difV F) (difV G)) (r - 256) k - cols (e 9) (difV F) (r - 256) k - cols (e 10) (difV G) (r - 256) k

/-- The power of a packed pair, and of one channel. -/
def powPair : ℕ → ℕ → ℝ := fun r k =>
  colRe e (rowRe e f g) (rowIm e f g) r k * colRe e (rowRe e f g) (rowIm e f g) r k
    + colIm e (rowRe e f g) (rowIm e f g) r k * colIm e (rowRe e f g) (rowIm e f g) r k

/-- The arrays of the tables. -/
structure Tabs (E : Fin 12 → Vec Ideal S256x768 .bf16) (e : Fin 12 → ℕ → ℕ → ℝ) : Prop where
  t0 : E 0 = tabRow (e 0)
  t1 : E 1 = tabRow (e 1)
  t2 : E 2 = tabRow (e 2)
  t3 : E 3 = tabRow (e 3)
  t4 : E 4 = tabRow (e 4)
  t5 : E 5 = tabRow (e 5)
  t6 : E 6 = tabCol (e 6)
  t7 : E 7 = tabCol (e 7)
  t8 : E 8 = tabCol (e 8)
  t9 : E 9 = tabCol (e 9)
  t10 : E 10 = tabCol (e 10)
  t11 : E 11 = tabCol (e 11)

variable {E : Fin 12 → Vec Ideal S256x768 .bf16} {e f g F G}

section Pair
variable {v w : Vec Ideal S1x1x512x512 .f32} {a b p q s : ℕ → ℕ → ℝ}

/-- An image's channel as the matrix it is. -/
def Img (v : Vec Ideal S1x1x512x512 .f32) (f : ℕ → ℕ → ℝ) : Prop := shapeCast S512x512 v shapeCasts_S1x1x512x512_S512x512 = c2 .f32 f

theorem pay14_real (h : Img v f) : k0_pay14 v = c2 .f32 (sumH f) := by
  unfold k0_pay14 k0_pay12; rw [h, c2_left, c2_right]; rfl
theorem pay15_real (h : Img v f) : k0_pay15 v = c2 .f32 (sumH f) := by
  unfold k0_pay15 k0_pay13; rw [h, c2_left, c2_right]; rfl
theorem pay16_real (h : Img v f) : k0_pay16 v = c2 .f32 (difH f) := by
  unfold k0_pay16 k0_pay12; rw [h, c2_left, c2_right]; rfl
theorem pay17_real (h : Img v f) : k0_pay17 v = c2 .f32 (difH f) := by
  unfold k0_pay17 k0_pay13; rw [h, c2_left, c2_right]; rfl
theorem pay18_real (h : Img v f) : k0_pay18 v (tabRow a) = c2 .f32 (rows (sumH f) a) := by
  unfold k0_pay18; rw [pay14_real h]; simp only [c2_truncf, c2_extf, c2_subf, c2_addf]; rw [c2_rows]
theorem pay19_real (h : Img v f) : k0_pay19 v (tabRow a) = c2 .f32 (rows (sumH f) a) := by
  unfold k0_pay19; rw [pay15_real h]; simp only [c2_truncf, c2_extf, c2_subf, c2_addf]; rw [c2_rows]
theorem pay20_real (h : Img v f) (h' : Img w g) : k0_pay20 v w (tabRow a) = c2 .f32 (rows (plus (sumH f) (sumH g)) a) := by
  unfold k0_pay20; rw [pay14_real h, pay15_real h']; simp only [c2_truncf, c2_extf, c2_subf, c2_addf]; rw [c2_rows]; rfl
theorem pay23_real : k0_pay23 (c2 .f32 f) (c2 .bf16 f) (c2 .f32 f) (tabRow a) = c2 .f32 (rows f a) := by
  unfold k0_pay23; simp only [c2_truncf, c2_extf, c2_subf, c2_addf]; rw [c2_rows]
theorem pay24_real : k0_pay24 (c2 .f32 f) (tabRow a) = c2 .f32 (rows f a) := by
  unfold k0_pay24; simp only [c2_truncf, c2_extf, c2_subf, c2_addf]; rw [c2_rows]
theorem pay25_real : k0_pay25 (c2 .f32 f) (c2 .f32 g) (c2 .f32 p) (c2 .f32 q) (c2 .bf16 f) (c2 .f32 f) (tabRow a) (tabRow b)
    = c2 .f32 (fun r k => if k < 256 then p r k - q r k else rows f a r (k - 256) - rows g b r (k - 256)) := by
  unfold k0_pay25; rw [pay23_real, pay24_real]; simp only [c2_truncf, c2_extf, c2_subf, c2_addf]; rw [c2_beside]
theorem pay26_real {d : ℕ → ℕ → ℝ} : k0_pay26 (c2 .f32 f) (c2 .f32 g) (c2 .f32 p) (c2 .f32 q) (c2 .f32 s) (c2 .bf16 f) (c2 .f32 f) (tabRow a) (tabRow b) (tabRow d)
    = c2 .f32 (fun r k => if k < 256 then s r k - p r k - q r k
        else rows (plus f g) d r (k - 256) - rows f a r (k - 256) - rows g b r (k - 256)) := by
  unfold k0_pay26; rw [pay23_real, pay24_real]
  simp only [c2_truncf, c2_extf, c2_subf, c2_addf]; rw [c2_rows, c2_subf, c2_subf, c2_beside]; rfl
theorem sumV_real :
    addf (extractStridedSlice S256x512 ![0, 0] (c2 .f32 f : FVec Ideal S512x512 .f32) slices_S512x512_o0_0_S256x512)
      (extractStridedSlice S256x512 ![256, 0] (c2 .f32 f : FVec Ideal S512x512 .f32) slices_S512x512_o256_0_S256x512) = c2 .f32 (sumV f) := by
  rw [c2_top, c2_bottom]; rfl
theorem difV_real :
    subf (extractStridedSlice S256x512 ![0, 0] (c2 .f32 f : FVec Ideal S512x512 .f32) slices_S512x512_o0_0_S256x512)
      (extractStridedSlice S256x512 ![256, 0] (c2 .f32 f : FVec Ideal S512x512 .f32) slices_S512x512_o256_0_S256x512) = c2 .f32 (difV f) := by
  rw [c2_top, c2_bottom]; rfl
theorem pay34_real : k0_pay34 (k0_pay31 (tabCol a)) (c2 .bf16 f) (c2 .bf16 fun r k => f r k - f r k) = c2 .f32 (cols a f) := by
  unfold k0_pay34 k0_pay31; simp only [c2_truncf, c2_extf, c2_subf, c2_addf]; rw [c2_cols]
theorem pay35_real : k0_pay35 (c2 .f32 f) (tabCol a) = c2 .f32 (cols a f) := by
  unfold k0_pay35; simp only [c2_truncf, c2_extf, c2_subf, c2_addf]; rw [c2_cols]
theorem pay36_real : k0_pay36 (c2 .f32 f) (c2 .f32 g) (tabCol a) = c2 .f32 (cols a (plus f g)) := by
  unfold k0_pay36; simp only [c2_truncf, c2_extf, c2_subf, c2_addf]; rw [c2_cols]; rfl
theorem pay37_real : k0_pay37 (c2 .f32 f) (tabCol a) = c2 .f32 (cols a f) := by
  unfold k0_pay37; simp only [c2_truncf, c2_extf, c2_subf, c2_addf]; rw [c2_cols]
theorem pay38_real : k0_pay38 (c2 .f32 f) (tabCol a) = c2 .f32 (cols a f) := by
  unfold k0_pay38; simp only [c2_truncf, c2_extf, c2_subf, c2_addf]; rw [c2_cols]
theorem pay39_real : k0_pay39 (c2 .f32 f) (c2 .f32 g) (tabCol a) = c2 .f32 (cols a (plus f g)) := by
  unfold k0_pay39; simp only [c2_truncf, c2_extf, c2_subf, c2_addf]; rw [c2_cols]; rfl

theorem pay1_real : k0_pay1 (c2 .f32 f) (c2 .f32 g) (c2 .f32 p) (c2 .f32 q)
    = c2 .f32 fun r k => if r < 256 then f r k - g r k else p (r - 256) k - q (r - 256) k := by
  unfold k0_pay1; simp only [c2_truncf, c2_extf, c2_subf, c2_addf]; rw [c2_above]
theorem pay2_real {d : ℕ → ℕ → ℝ} : k0_pay2 (c2 .f32 f) (c2 .f32 g) (c2 .f32 s) (c2 .f32 p) (c2 .f32 q) (c2 .f32 d)
    = c2 .f32 fun r k => if r < 256 then s r k - f r k - g r k else d (r - 256) k - p (r - 256) k - q (r - 256) k := by
  unfold k0_pay2; simp only [c2_truncf, c2_extf, c2_subf, c2_addf]; rw [c2_above]

theorem pairPow_real (hE : Tabs E e) (x : Vec Ideal S1x2x512x512 .f32) (hf : Img (chan0 x) f) (hg : Img (chan1 x) g) :
    pairPow x E = c2 .f32 (powPair e f g) := by
  have h25 : _ = c2 .f32 (rowRe e f g) := pay25_real (f := difH f) (g := difH g) (p := rows (sumH f) (e 0)) (q := rows (sumH g) (e 1)) (a := e 3) (b := e 4)
  have h26 : _ = c2 .f32 (rowIm e f g) := pay26_real (f := difH f) (g := difH g) (p := rows (sumH f) (e 0)) (q := rows (sumH g) (e 1))
    (s := rows (plus (sumH f) (sumH g)) (e 2)) (a := e 3) (b := e 4) (d := e 5)
  unfold pairPow pairProds
  rw [hE.t0, hE.t1, hE.t2, hE.t3, hE.t4, hE.t5, hE.t6, hE.t7, hE.t8, hE.t9, hE.t10, hE.t11]
  rw [pay18_real hf, pay19_real hg, pay20_real hf hg]
  unfold k0_pay22 k0_pay21
  rw [pay16_real hf, pay17_real hg]
  unfold k0_pay33 k0_pay32 k0_pay27 k0_pay28 k0_pay29 k0_pay30
  simp only [c2_truncf, c2_extf]
  rw [h25, h26, sumV_real, sumV_real, difV_real, difV_real]
  simp only [c2_truncf, c2_extf, c2_subf]
  simp only [Matrix.cons_val]
  rw [pay34_real, pay35_real, pay36_real, pay37_real, pay38_real, pay39_real]
  unfold k0_pay5
  rw [pay1_real, pay2_real]
  exact shapeCast_id _ _

theorem pay43_real (h : Img v f) : k0_pay43 v (tabRow a) (tabRow b)
    = c2 .f32 fun r k => if k < 256 then rows (sumH f) a r k else rows (difH f) b r (k - 256) := by
  unfold k0_pay43 k0_pay41 k0_pay42 k0_pay40; rw [h, c2_left, c2_right]
  simp only [c2_truncf, c2_extf, c2_subf, c2_addf]
  rw [c2_rows, c2_rows, c2_beside]; rfl
theorem pay44_real (h : Img v f) : k0_pay44 v (tabRow a) (tabRow b)
    = c2 .f32 fun r k => if k < 256 then rows (sumH f) a r k else rows (difH f) b r (k - 256) := by
  unfold k0_pay44 k0_pay41 k0_pay42 k0_pay40; rw [h, c2_left, c2_right]
  simp only [c2_truncf, c2_extf, c2_subf, c2_addf]
  rw [c2_rows, c2_rows, c2_beside]; rfl
theorem pay49_real : k0_pay49 (c2 .f32 f) (tabCol a) = c2 .f32 (cols a f) := by
  unfold k0_pay49; simp only [c2_truncf, c2_extf, c2_subf, c2_addf]; rw [c2_cols]
theorem pay50_real : k0_pay50 (c2 .f32 f) (tabCol a) = c2 .f32 (cols a f) := by
  unfold k0_pay50; simp only [c2_truncf, c2_extf, c2_subf, c2_addf]; rw [c2_cols]
theorem pay51_real : k0_pay51 (c2 .f32 f) (c2 .f32 g) (tabCol a) = c2 .f32 (cols a (plus f g)) := by
  unfold k0_pay51; simp only [c2_truncf, c2_extf, c2_subf, c2_addf]; rw [c2_cols]; rfl
theorem pay52_real : k0_pay52 (c2 .f32 f) (tabCol a) = c2 .f32 (cols a f) := by
  unfold k0_pay52; simp only [c2_truncf, c2_extf, c2_subf, c2_addf]; rw [c2_cols]
theorem pay53_real : k0_pay53 (c2 .f32 f) (tabCol a) = c2 .f32 (cols a f) := by
  unfold k0_pay53; simp only [c2_truncf, c2_extf, c2_subf, c2_addf]; rw [c2_cols]
theorem pay55_real : k0_pay55 (c2 .f32 f) (c2 .f32 g) (c2 .f32 p) (c2 .f32 q)
    = c2 .f32 fun r k => if r < 256 then f r k - g r k else p (r - 256) k - q (r - 256) k := by
  unfold k0_pay55; simp only [c2_truncf, c2_extf, c2_subf, c2_addf]; rw [c2_above]
theorem pay56_real {d : ℕ → ℕ → ℝ} : k0_pay56 (c2 .f32 a) (c2 .f32 b) (c2 .f32 f) (c2 .f32 g) (c2 .f32 s) (c2 .f32 p) (c2 .f32 q) (k0_pay54 (tabCol d))
    = c2 .f32 fun r k => if r < 256 then s r k - f r k - g r k else cols d (plus a b) (r - 256) k - p (r - 256) k - q (r - 256) k := by
  unfold k0_pay56 k0_pay54; simp only [c2_truncf, c2_extf, c2_subf, c2_addf]; rw [c2_cols, c2_subf, c2_subf, c2_above]; rfl

/-- The power of one channel. -/
def powOne (e : Fin 12 → ℕ → ℕ → ℝ) (f : ℕ → ℕ → ℝ) : ℕ → ℕ → ℝ := fun r k =>
  colRe e (rowRe₁ e f) (rowIm₁ e f) r k * colRe e (rowRe₁ e f) (rowIm₁ e f) r k
    + colIm e (rowRe₁ e f) (rowIm₁ e f) r k * colIm e (rowRe₁ e f) (rowIm₁ e f) r k

/-- The power the search adds up: the pair's, and the third channel's added to it. -/
def powSum (P : ℕ → ℕ → ℝ) (e : Fin 12 → ℕ → ℕ → ℝ) (f : ℕ → ℕ → ℝ) : ℕ → ℕ → ℝ := fun r k =>
  P r k + colRe e (rowRe₁ e f) (rowIm₁ e f) r k * colRe e (rowRe₁ e f) (rowIm₁ e f) r k
    + colIm e (rowRe₁ e f) (rowIm₁ e f) r k * colIm e (rowRe₁ e f) (rowIm₁ e f) r k

theorem pay59_real {P : ℕ → ℕ → ℝ} (hE : Tabs E e) (hf : Img v f) :
    k0_pay59 (third v E).v52 (third v E).v55 (third v E).v63 (third v E).v71 (third v E).v80 (third v E).v88 (third v E).v96 (third v E).v98 (c2 .f32 P)
      = c2 .f32 (powSum P e f) := by
  have h43 : _ = c2 .f32 (rowRe₁ e f) := pay43_real (a := e 0) (b := e 3) hf
  have h44 : _ = c2 .f32 (rowIm₁ e f) := pay44_real (a := e 1) (b := e 4) hf
  unfold third
  rw [hE.t0, hE.t1, hE.t3, hE.t4, hE.t6, hE.t7, hE.t8, hE.t9, hE.t10, hE.t11]
  unfold k0_pay45 k0_pay46 k0_pay47 k0_pay48
  rw [h43, h44]
  dsimp only
  rw [sumV_real, sumV_real, difV_real, difV_real]
  rw [pay49_real, pay50_real, pay51_real, pay52_real, pay53_real]
  unfold k0_pay59
  rw [pay55_real, pay56_real]
  rfl

end Pair

end Cert.KernelIdeal.Hand
-- ==== Proof.Fourier.lean ====
/-
  The discrete Fourier transform of a 512 by 512 image, centred, and what the kernel's two stages of 256 make of it.
-/
module

public import proofs.«01_k».proof.Proof.Power
public import Mathlib.Analysis.SpecialFunctions.Trigonometric.Basic

@[expose] public section

noncomputable section

namespace Cert.KernelIdeal.Hand

/-- The angle of frequency `k`, counted from the centre, at place `n`. -/
def ang (k n : ℕ) : ℝ := 2 * Real.pi / 512 * (((k : ℝ) - 256) * n)
/-- The factor of the transform. -/
def W (k n : ℕ) : ℂ := ⟨Real.cos (ang k n), -Real.sin (ang k n)⟩

/-- The transform at the frequency `(v, u)` of the image `f + i g`. -/
def dft (f g : ℕ → ℕ → ℝ) (v u : ℕ) : ℂ := ∑ a : Fin 512, W v a * ∑ b : Fin 512, (⟨f a b, g a b⟩ : ℂ) * W u b

/-- The frequency the kernel keeps at place `k`: even ones before odd ones. -/
def place (k : ℕ) : ℕ := if k < 256 then 2 * k else 2 * (k - 256) + 1

theorem even_shift (k n : ℕ) : W (2 * k) (256 + n) = W (2 * k) n := by
  have h : ang (2 * k) (256 + n) = ang (2 * k) n + ((k : ℤ) - 128 : ℤ) * (2 * Real.pi) := by
    unfold ang; push_cast; ring
  unfold W; rw [h, Real.cos_add_int_mul_two_pi, Real.sin_add_int_mul_two_pi]

theorem odd_shift (k n : ℕ) : W (2 * k + 1) (256 + n) = -W (2 * k + 1) n := by
  have h : ang (2 * k + 1) (256 + n) = (ang (2 * k + 1) n + Real.pi) + ((k : ℤ) - 128 : ℤ) * (2 * Real.pi) := by
    unfold ang; push_cast; ring
  unfold W; rw [h, Real.cos_add_int_mul_two_pi, Real.sin_add_int_mul_two_pi, Real.cos_add_pi, Real.sin_add_pi]
  rfl

theorem halves {M : Type} [AddCommMonoid M] (t : ℕ → M) : ∑ n : Fin 512, t n = ∑ n : Fin 256, (t n + t (256 + n)) := by
  rw [show (∑ k : Fin 512, t k) = ∑ k : Fin (256 + 256), t k from rfl, Fin.sum_univ_add, ← Finset.sum_add_distrib]
  rfl

/-- The real tables of the transform. -/
def fre : Fin 12 → ℕ → ℕ → ℝ := ![fun k n => (W (2 * k) n).re, fun k n => (W (2 * k) n).im, fun k n => (W (2 * k) n).re + (W (2 * k) n).im,
  fun k n => (W (2 * k + 1) n).re, fun k n => (W (2 * k + 1) n).im, fun k n => (W (2 * k + 1) n).re + (W (2 * k + 1) n).im,
  fun k n => (W (2 * k) n).re, fun k n => (W (2 * k) n).im, fun k n => (W (2 * k) n).re + (W (2 * k) n).im,
  fun k n => (W (2 * k + 1) n).re, fun k n => (W (2 * k + 1) n).im, fun k n => (W (2 * k + 1) n).re + (W (2 * k + 1) n).im]

variable (f g : ℕ → ℕ → ℝ)

theorem row_dft (r k : ℕ) : (⟨rowRe fre f g r k, rowIm fre f g r k⟩ : ℂ) = ∑ b : Fin 512, (⟨f r b, g r b⟩ : ℂ) * W (place k) b := by
  rw [halves (fun b => (⟨f r b, g r b⟩ : ℂ) * W (place k) b)]
  unfold rowRe rowIm place
  by_cases h : k < 256
  · simp only [h, if_true, even_shift]
    apply Complex.ext <;> simp only [Complex.re_sum, Complex.im_sum, rows, ← Finset.sum_sub_distrib] <;>
      (refine Finset.sum_congr rfl fun n _ => ?_) <;> simp [fre, sumH, plus] <;> ring
  · simp only [h, if_false, odd_shift]
    apply Complex.ext <;> simp only [Complex.re_sum, Complex.im_sum, rows, ← Finset.sum_sub_distrib] <;>
      (refine Finset.sum_congr rfl fun n _ => ?_) <;> simp [fre, difH, plus] <;> ring

theorem row_dft₁ (r k : ℕ) : (⟨rowRe₁ fre f r k, rowIm₁ fre f r k⟩ : ℂ) = ∑ b : Fin 512, (⟨f r b, 0⟩ : ℂ) * W (place k) b := by
  rw [halves (fun b => (⟨f r b, 0⟩ : ℂ) * W (place k) b)]
  unfold rowRe₁ rowIm₁ place
  by_cases h : k < 256
  · simp only [h, if_true, even_shift]
    apply Complex.ext <;> simp only [Complex.re_sum, Complex.im_sum, rows] <;>
      (refine Finset.sum_congr rfl fun n _ => ?_) <;> simp [fre, sumH] <;> ring
  · simp only [h, if_false, odd_shift]
    apply Complex.ext <;> simp only [Complex.re_sum, Complex.im_sum, rows] <;>
      (refine Finset.sum_congr rfl fun n _ => ?_) <;> simp [fre, difH] <;> ring

theorem col_dft (F G : ℕ → ℕ → ℝ) (r k : ℕ) : (⟨colRe fre F G r k, colIm fre F G r k⟩ : ℂ) = ∑ a : Fin 512, W (place r) a * (⟨F a k, G a k⟩ : ℂ) := by
  rw [halves (fun a => W (place r) a * (⟨F a k, G a k⟩ : ℂ))]
  unfold colRe colIm place
  by_cases h : r < 256
  · simp only [h, if_true, even_shift]
    apply Complex.ext <;> simp only [Complex.re_sum, Complex.im_sum, cols, ← Finset.sum_sub_distrib] <;>
      (refine Finset.sum_congr rfl fun n _ => ?_) <;> simp [fre, sumV, plus] <;> ring
  · simp only [h, if_false, odd_shift]
    apply Complex.ext <;> simp only [Complex.re_sum, Complex.im_sum, cols, ← Finset.sum_sub_distrib] <;>
      (refine Finset.sum_congr rfl fun n _ => ?_) <;> simp [fre, difV, plus] <;> ring

/-- The kernel's power is the transform's, in the kernel's order. -/
theorem powPair_dft (r k : ℕ) : powPair fre f g r k = Complex.normSq (dft f g (place r) (place k)) := by
  unfold dft
  simp only [← row_dft]
  rw [← col_dft]
  rfl
theorem powSum_dft (P : ℕ → ℕ → ℝ) (r k : ℕ) : powSum P fre f r k = P r k + Complex.normSq (dft f 0 (place r) (place k)) := by
  unfold dft
  simp only [Pi.zero_apply, ← row_dft₁]
  rw [← col_dft]
  simp only [powSum, Complex.normSq_mk]
  ring

/-! The cross term of the two packed channels. -/

theorem dft_split (v u : ℕ) : dft f g v u = dft f 0 v u + Complex.I * dft g 0 v u := by
  unfold dft
  rw [Finset.mul_sum, ← Finset.sum_add_distrib]
  refine Finset.sum_congr rfl fun a _ => ?_
  rw [mul_left_comm, ← mul_add]
  congr 1
  rw [Finset.mul_sum, ← Finset.sum_add_distrib]
  refine Finset.sum_congr rfl fun b _ => ?_
  rw [← mul_assoc, ← add_mul]
  congr 1
  apply Complex.ext <;> simp

/-- The frequency opposite to `k`. -/
def opp (k : ℕ) : ℕ := if k = 0 then 0 else 512 - k

theorem W_opp {k : ℕ} (h : k < 512) (n : ℕ) : W (opp k) n = (starRingEnd ℂ) (W k n) := by
  unfold opp
  by_cases h0 : k = 0
  · subst h0
    have : ang 0 n = -(n * Real.pi) := by unfold ang; push_cast; ring
    apply Complex.ext <;> simp [W, this, Real.sin_nat_mul_pi]
  · have : ang (512 - k) n = -ang k n := by
      unfold ang; rw [Nat.cast_sub h.le]; push_cast; ring
    simp only [h0, if_false]
    apply Complex.ext <;> simp [W, this]

theorem dft_opp {v u : ℕ} (hv : v < 512) (hu : u < 512) : dft f 0 (opp v) (opp u) = (starRingEnd ℂ) (dft f 0 v u) := by
  unfold dft
  rw [map_sum]
  refine Finset.sum_congr rfl fun a _ => ?_
  rw [map_mul, map_sum, W_opp hv]
  congr 1
  refine Finset.sum_congr rfl fun b _ => ?_
  rw [map_mul, W_opp hu]
  congr 1
  apply Complex.ext <;> simp

/-- What packing adds to the power of the two channels. -/
def cross (v u : ℕ) : ℝ := 2 * ((dft f 0 v u).im * (dft g 0 v u).re - (dft f 0 v u).re * (dft g 0 v u).im)

theorem pair_cross (v u : ℕ) : Complex.normSq (dft f g v u) = Complex.normSq (dft f 0 v u) + Complex.normSq (dft g 0 v u) + cross f g v u := by
  rw [dft_split, cross]
  simp only [Complex.normSq_apply, Complex.add_re, Complex.add_im, Complex.mul_re, Complex.mul_im, Complex.I_re, Complex.I_im]
  ring

theorem powPair_cross (r k : ℕ) : powPair fre f g r k
    = Complex.normSq (dft f 0 (place r) (place k)) + Complex.normSq (dft g 0 (place r) (place k)) + cross f g (place r) (place k) := by
  rw [powPair_dft, pair_cross]

theorem cross_opp {v u : ℕ} (hv : v < 512) (hu : u < 512) : cross f g (opp v) (opp u) = -cross f g v u := by
  unfold cross; rw [dft_opp f hv hu, dft_opp g hv hu]; simp only [Complex.conj_re, Complex.conj_im]; ring

/-- Both reorderings, on the 512 places. -/
def oppE : Fin 512 ≃ Fin 512 where
  toFun k := ⟨opp k, by unfold opp; split <;> omega⟩
  invFun k := ⟨opp k, by unfold opp; split <;> omega⟩
  left_inv k := by apply Fin.ext; have := k.isLt; simp only [opp]; split_ifs <;> omega
  right_inv k := by apply Fin.ext; have := k.isLt; simp only [opp]; split_ifs <;> omega
def placeE : Fin 512 ≃ Fin 512 where
  toFun k := ⟨place k, by unfold place; split <;> omega⟩
  invFun k := ⟨if k.val % 2 = 0 then k.val / 2 else 256 + k.val / 2, by split <;> omega⟩
  left_inv k := by apply Fin.ext; have := k.isLt; simp only [place]; split_ifs <;> omega
  right_inv k := by apply Fin.ext; have := k.isLt; simp only [place]; split_ifs <;> omega

/-- The sum over all frequencies, in any order. -/
theorem sum_place (t : ℕ → ℕ → ℝ) : ∑ r : Fin 512, ∑ k : Fin 512, t (place r) (place k) = ∑ v : Fin 512, ∑ u : Fin 512, t v u := by
  rw [← Equiv.sum_comp placeE (fun v : Fin 512 => ∑ u : Fin 512, t v u)]
  refine Finset.sum_congr rfl fun r _ => ?_
  rw [← Equiv.sum_comp placeE (fun u : Fin 512 => t (placeE r) u)]
  rfl

theorem sum_opp (t : ℕ → ℕ → ℝ) : ∑ r : Fin 512, ∑ k : Fin 512, t (opp r) (opp k) = ∑ v : Fin 512, ∑ u : Fin 512, t v u := by
  rw [← Equiv.sum_comp oppE (fun v : Fin 512 => ∑ u : Fin 512, t v u)]
  refine Finset.sum_congr rfl fun r _ => ?_
  rw [← Equiv.sum_comp oppE (fun u : Fin 512 => t (oppE r) u)]
  rfl

open Classical in
/-- Over a set of frequencies that holds the opposite of each of its own, the packed power sums to the sum of the
    two channels'. -/
theorem sum_cross (S : ℕ → ℕ → Prop) (hS : ∀ v u, v < 512 → u < 512 → (S (opp v) (opp u) ↔ S v u)) :
    ∑ v : Fin 512, ∑ u : Fin 512, (if S v u then cross f g v u else 0) = 0 := by
  have h := sum_opp fun v u => if S v u then cross f g v u else 0
  have h' : ∑ r : Fin 512, ∑ k : Fin 512, (if S (opp r) (opp k) then cross f g (opp r) (opp k) else 0)
      = -∑ r : Fin 512, ∑ k : Fin 512, (if S r k then cross f g r k else 0) := by
    simp only [← Finset.sum_neg_distrib]
    refine Finset.sum_congr rfl fun r _ => Finset.sum_congr rfl fun k _ => ?_
    rw [cross_opp f g r.isLt k.isLt]
    simp only [hS r k r.isLt k.isLt]
    split <;> simp
  rw [h'] at h
  linarith

/-- The power of the three channels at a frequency. -/
def spec (f : Fin 3 → ℕ → ℕ → ℝ) (v u : ℕ) : ℝ :=
  Complex.normSq (dft (f 0) 0 v u) + Complex.normSq (dft (f 1) 0 v u) + Complex.normSq (dft (f 2) 0 v u)

open Classical in
/-- The kernel's sum over such a set is the sum of the power of the three channels. -/
theorem kernel_sum (f : Fin 3 → ℕ → ℕ → ℝ) (S : ℕ → ℕ → Prop) (hS : ∀ v u, v < 512 → u < 512 → (S (opp v) (opp u) ↔ S v u)) :
    ∑ r : Fin 512, ∑ k : Fin 512, (if S (place r) (place k) then powSum (powPair fre (f 0) (f 1)) fre (f 2) r k else 0)
      = ∑ v : Fin 512, ∑ u : Fin 512, (if S v u then spec f v u else 0) := by
  simp only [powSum_dft, powPair_cross]
  rw [sum_place fun v u => if S v u then Complex.normSq (dft (f 0) 0 v u) + Complex.normSq (dft (f 1) 0 v u) + cross (f 0) (f 1) v u
    + Complex.normSq (dft (f 2) 0 v u) else 0]
  rw [← add_zero (∑ v : Fin 512, ∑ u : Fin 512, (if S v u then spec f v u else 0)), ← sum_cross (f 0) (f 1) S hS]
  simp only [← Finset.sum_add_distrib]
  refine Finset.sum_congr rfl fun r _ => Finset.sum_congr rfl fun k _ => ?_
  split
  · unfold spec; ring
  · simp

end Cert.KernelIdeal.Hand
-- ==== Proof.InvOps.lean ====
/-
  The kernel's masked inverse transform over the reals: its two stages of 256, the scale, and the difference from the
  image.
-/
module

public import proofs.«01_k».proof.Proof.Power

@[expose] public section

set_option maxRecDepth 16384

noncomputable section

namespace Cert.KernelIdeal.Hand

open Cert.KernelIdeal Cert.KernelIdeal.Gen
open Idealize.ShloMosaic

section
variable (f g : ℕ → ℕ → ℝ)

/-- Differences and products of matrices, the lower and the right half of one, and two halves put together. -/
def minus : ℕ → ℕ → ℝ := fun r k => f r k - g r k
def times : ℕ → ℕ → ℝ := fun r k => f r k * g r k
def lower : ℕ → ℕ → ℝ := fun r k => f (256 + r) k
def right : ℕ → ℕ → ℝ := fun r k => f r (256 + k)
def above : ℕ → ℕ → ℝ := fun r k => if r < 256 then f r k else g (r - 256) k
def beside : ℕ → ℕ → ℝ := fun r k => if k < 256 then f r k else g r (k - 256)
def scaled (s : ℝ) : ℕ → ℕ → ℝ := fun r k => f r k * s
end

/-- A table of the inverse transform's first stage, and of its second. -/
def tabA (e : ℕ → ℕ → ℝ) : Vec Ideal S768x256 .bf16 :=
  c2 .bf16 fun r k => if r < 256 then e r k else if r < 512 then e (r - 256) k else 0
def tabB (e : ℕ → ℕ → ℝ) : Vec Ideal S768x256 .bf16 :=
  c2 .bf16 fun r k => if r < 256 then e r k else if r < 512 then 0 else e (r - 512) k

/-- The sums of products down the columns of both, and along the rows of the first. -/
def colsT (e f : ℕ → ℕ → ℝ) : ℕ → ℕ → ℝ := fun r k => ∑ n : Fin 256, e n r * f n k
def rowsT (f e : ℕ → ℕ → ℝ) : ℕ → ℕ → ℝ := fun r k => ∑ n : Fin 256, f r n * e n k

section
variable {f g e : ℕ → ℕ → ℝ}

theorem c2_plus {a b : ℕ} : addf (c2 .f32 (a := a) (b := b) f) (c2 .f32 g) = c2 .f32 (plus f g) := rfl
theorem c2_minus {a b : ℕ} : subf (c2 .f32 (a := a) (b := b) f) (c2 .f32 g) = c2 .f32 (minus f g) := rfl
theorem c2_times {a b : ℕ} : mulf (c2 .f32 (a := a) (b := b) f) (c2 .f32 g) = c2 .f32 (times f g) := rfl
theorem c2_right' : extractStridedSlice S512x256 ![0, 256] (c2 .f32 f : FVec Ideal S512x512 .f32) slices_S512x512_o0_256_S512x256 = c2 .f32 (right f) := c2_right f
theorem c2_bottom' : extractStridedSlice S256x512 ![256, 0] (c2 .f32 f : FVec Ideal S512x512 .f32) slices_S512x512_o256_0_S256x512 = c2 .f32 (lower f) := c2_bottom f
theorem c2_beside' (h) : concatenate S512x512 1 [⟨S512x256, (c2 .f32 f : FVec Ideal S512x256 .f32)⟩, ⟨S512x256, (c2 .f32 g : FVec Ideal S512x256 .f32)⟩] h = c2 .f32 (beside f g) := c2_beside f g h
theorem c2_above' (h) : concatenate S512x512 0 [⟨S256x512, (c2 .f32 f : FVec Ideal S256x512 .f32)⟩, ⟨S256x512, (c2 .f32 g : FVec Ideal S256x512 .f32)⟩] h = c2 .f32 (above f g) := c2_above f g h

set_option maxHeartbeats 1000000 in
/-- The first stage's product: one product of 256 terms is left. -/
theorem c2_colsT (h) (h') :
    matmul (φ₁ := .bf16) dot_S768x256_S768x512_S256x512_0_0_1_1_n_n none (shapeCast S768x256 (tabA e) h')
      (concatenate S768x512 0 [⟨S256x512, (c2 .bf16 f : FVec Ideal S256x512 .bf16)⟩, ⟨S256x512, (c2 .bf16 (minus f f) : FVec Ideal S256x512 .bf16)⟩, ⟨S256x512, (c2 .bf16 f : FVec Ideal S256x512 .bf16)⟩] h)
      (constant S256x512 .f32 0x00000000#32)
    = c2 .f32 (colsT e f) := by
  funext j
  rw [shapeCast_id]; pointwise [c2, tabA, colsT, minus]
  refine sum_spans _ _ (fun n => ?_) (fun n => ?_) (fun n => ?_)
  · simp [EReal.coe_mul]
  · simp [sub_self]
  · simp [show ¬ 512 + n.val < 256 by omega]

set_option maxHeartbeats 1000000 in
/-- The second stage's. -/
theorem c2_rowsT (h) (h') :
    matmul (φ₂ := .bf16) dot_S512x768_S768x256_S512x256_1_0_0_1_n_n none
      (concatenate S512x768 1 [⟨S512x256, (c2 .bf16 f : FVec Ideal S512x256 .bf16)⟩, ⟨S512x256, (c2 .bf16 f : FVec Ideal S512x256 .bf16)⟩, ⟨S512x256, (c2 .bf16 (minus f f) : FVec Ideal S512x256 .bf16)⟩] h)
      (shapeCast S768x256 (tabB e) h') (constant S512x256 .f32 0x00000000#32)
    = c2 .f32 (rowsT f e) := by
  funext j
  rw [shapeCast_id]; pointwise [c2, tabB, rowsT, minus]
  refine sum_spans _ _ (fun n => ?_) (fun n => ?_) (fun n => ?_)
  · simp [EReal.coe_mul]
  · have := n.isLt; simp [show 256 + n.val < 512 by omega]
  · simp [sub_self, show ¬ 512 + n.val < 256 by omega, show ¬ 512 + n.val - 256 < 256 by omega]

end

/-! The columns' stage, and the rows'. -/

section
variable (g : Fin 12 → ℕ → ℕ → ℝ) (M N : ℕ → ℕ → ℝ)

def evenRe : ℕ → ℕ → ℝ := plus (colsT (g 0) M) (colsT (g 1) N)
def evenIm : ℕ → ℕ → ℝ := plus (minus (colsT (g 2) (plus M N)) (colsT (g 0) M)) (colsT (g 1) N)
def oddRe : ℕ → ℕ → ℝ := minus (colsT (g 3) (lower M)) (colsT (g 4) (lower N))
def oddIm : ℕ → ℕ → ℝ := minus (minus (colsT (g 5) (plus (lower M) (lower N))) (colsT (g 3) (lower M))) (colsT (g 4) (lower N))
def downRe : ℕ → ℕ → ℝ := above (plus (evenRe g M N) (oddRe g M N)) (minus (evenRe g M N) (oddRe g M N))
def downIm : ℕ → ℕ → ℝ := above (plus (evenIm g M N) (oddIm g M N)) (minus (evenIm g M N) (oddIm g M N))

def leftRe : ℕ → ℕ → ℝ := plus (rowsT M (g 6)) (rowsT N (g 7))
def leftIm : ℕ → ℕ → ℝ := plus (minus (rowsT (plus M N) (g 8)) (rowsT M (g 6))) (rowsT N (g 7))
def restRe : ℕ → ℕ → ℝ := minus (rowsT (right M) (g 9)) (rowsT (right N) (g 10))
def restIm : ℕ → ℕ → ℝ := minus (minus (rowsT (plus (right M) (right N)) (g 11)) (rowsT (right M) (g 9))) (rowsT (right N) (g 10))
def backRe : ℕ → ℕ → ℝ := beside (plus (leftRe g M N) (restRe g M N)) (minus (leftRe g M N) (restRe g M N))
def backIm : ℕ → ℕ → ℝ := beside (plus (leftIm g M N) (restIm g M N)) (minus (leftIm g M N) (restIm g M N))

end

/-- The arrays of the tables. -/
structure TabsG (G : Fin 12 → Vec Ideal S768x256 .bf16) (g : Fin 12 → ℕ → ℕ → ℝ) : Prop where
  t0 : G 0 = tabA (g 0)
  t1 : G 1 = tabA (g 1)
  t2 : G 2 = tabA (g 2)
  t3 : G 3 = tabA (g 3)
  t4 : G 4 = tabA (g 4)
  t5 : G 5 = tabA (g 5)
  t6 : G 6 = tabB (g 6)
  t7 : G 7 = tabB (g 7)
  t8 : G 8 = tabB (g 8)
  t9 : G 9 = tabB (g 9)
  t10 : G 10 = tabB (g 10)
  t11 : G 11 = tabB (g 11)

/-- What the rows' stage starts from. -/
def invOf (M N e : ℕ → ℕ → ℝ) : Inv Ideal :=
  ⟨c2 .f32 M, c2 .f32 N,
    concatenate S512x768 1 [⟨S512x256, (c2 .bf16 M : FVec Ideal S512x256 .bf16)⟩, ⟨S512x256, (c2 .bf16 M : FVec Ideal S512x256 .bf16)⟩, ⟨S512x256, (c2 .bf16 (minus M M) : FVec Ideal S512x256 .bf16)⟩] concatenates_S512x256_S512x256_S512x256_S512x768_d1,
    shapeCast S768x256 (tabB e) shapeCasts_S768x256_S768x256⟩

/-- A stored half of the spectrum as the matrix it is. -/
def Slab (v : Vec Ideal S1x512x512 .f32) (f : ℕ → ℕ → ℝ) : Prop := shapeCast S512x512 v shapeCasts_S1x512x512_S512x512 = c2 .f32 f

variable {G : Fin 12 → Vec Ideal S768x256 .bf16} {g : Fin 12 → ℕ → ℕ → ℝ} {M N μ : ℕ → ℕ → ℝ}
  {d : Vec Ideal S1x1x1 .f32} {rr : Vec Ideal S512x512 .f32} {v w : Vec Ideal S1x512x512 .f32}

set_option maxHeartbeats 2000000 in
theorem invPair_real (hG : TabsG G g) (hμ : k0_pay64 d rr = c2 .f32 μ) (hv : Slab v M) (hw : Slab w N) :
    invPair d rr v w G = invOf (downRe g (times M μ) (times N μ)) (downIm g (times M μ) (times N μ)) (g 6) := by
  have h65 : k0_pay65 d rr v = c2 .f32 (times M μ) := by unfold k0_pay65; rw [hμ, hv]; rfl
  have h66 : k0_pay66 d rr w = c2 .f32 (times N μ) := by unfold k0_pay66; rw [hμ, hw]; rfl
  unfold invPair
  rw [hG.t0, hG.t1, hG.t2, hG.t3, hG.t4, hG.t5, hG.t6]
  unfold k0_pay81 k0_pay79 k0_pay80 k0_pay82 k0_pay76 k0_pay75 k0_pay74 k0_pay73 k0_pay77 k0_pay78 k0_pay71 k0_pay72 k0_pay69 k0_pay70 k0_pay67 k0_pay68
  rw [h65, h66]
  dsimp only
  repeat rw [c2_top]
  repeat rw [c2_bottom']
  simp only [c2_truncf, c2_extf, c2_plus, c2_minus]
  repeat rw [c2_colsT]
  simp only [c2_plus, c2_minus]
  repeat rw [c2_above']
  rw [c2_left]
  rfl

set_option maxHeartbeats 2000000 in
theorem invThird_real (hG : TabsG G g) (hμ : k0_pay97 d rr = c2 .f32 μ) (hv : Slab v M) (hw : Slab w N) :
    invThird d rr v w G = invOf (downRe g (times M μ) (times N μ)) (downIm g (times M μ) (times N μ)) (g 6) := by
  have h65 : k0_pay98 d rr v = c2 .f32 (times M μ) := by unfold k0_pay98; rw [hμ, hv]; rfl
  have h66 : k0_pay99 d rr w = c2 .f32 (times N μ) := by unfold k0_pay99; rw [hμ, hw]; rfl
  unfold invThird
  rw [hG.t0, hG.t1, hG.t2, hG.t3, hG.t4, hG.t5, hG.t6]
  unfold k0_pay114 k0_pay112 k0_pay113 k0_pay115 k0_pay109 k0_pay108 k0_pay107 k0_pay106 k0_pay110 k0_pay111 k0_pay104 k0_pay105 k0_pay102 k0_pay103 k0_pay100 k0_pay101
  rw [h65, h66]
  dsimp only
  repeat rw [c2_top]
  repeat rw [c2_bottom']
  simp only [c2_truncf, c2_extf, c2_plus, c2_minus]
  repeat rw [c2_colsT]
  simp only [c2_plus, c2_minus]
  repeat rw [c2_above']
  rw [c2_left]
  rfl

theorem unit_real (s : ℝ) (h : (Scalar.ofBits .f32 0x36800000#32 : Ideal .f32) = ((s : ℝ) : EReal)) (f : ℕ → ℕ → ℝ) :
    mulf (c2 .f32 f : FVec Ideal S512x512 .f32) (broadcast S512x512 (Scalar.ofBits .f32 0x36800000#32)) = c2 .f32 (scaled f s) := by
  rw [h]; rfl

set_option maxHeartbeats 2000000 in
theorem low0_real (hG : TabsG G g) (s : ℝ) (hs : (Scalar.ofBits .f32 0x36800000#32 : Ideal .f32) = ((s : ℝ) : EReal)) :
    low0 (invOf M N (g 6)) G = shapeCast S1x1x512x512 (c2 .f32 (scaled (backRe g M N) s) : FVec Ideal S512x512 .f32) shapeCasts_S512x512_S1x1x512x512 := by
  unfold low0
  rw [hG.t7, hG.t9, hG.t10]
  unfold invOf k0_pay94 k0_pay92 k0_pay85 k0_pay83 k0_pay84 k0_pay87 k0_pay88
  dsimp only
  repeat rw [c2_left]
  repeat rw [c2_right']
  simp only [c2_truncf, c2_extf, c2_plus, c2_minus]
  repeat rw [c2_rowsT]
  simp only [c2_plus, c2_minus]
  rw [c2_beside', unit_real s hs]
  rfl

set_option maxHeartbeats 2000000 in
theorem low1_real (hG : TabsG G g) (s : ℝ) (hs : (Scalar.ofBits .f32 0x36800000#32 : Ideal .f32) = ((s : ℝ) : EReal)) :
    low1 (invOf M N (g 6)) G = shapeCast S1x1x512x512 (c2 .f32 (scaled (backIm g M N) s) : FVec Ideal S512x512 .f32) shapeCasts_S512x512_S1x1x512x512 := by
  unfold low1
  rw [hG.t7, hG.t8, hG.t9, hG.t10, hG.t11]
  unfold invOf k0_pay95 k0_pay93 k0_pay86 k0_pay83 k0_pay84 k0_pay87 k0_pay88 k0_pay91 k0_pay90 k0_pay89
  dsimp only
  repeat rw [c2_left]
  repeat rw [c2_right']
  simp only [c2_truncf, c2_extf, c2_plus, c2_minus]
  repeat rw [c2_rowsT]
  simp only [c2_plus, c2_minus]
  rw [c2_beside', unit_real s hs]
  rfl

set_option maxHeartbeats 2000000 in
theorem low2_real (hG : TabsG G g) (s : ℝ) (hs : (Scalar.ofBits .f32 0x36800000#32 : Ideal .f32) = ((s : ℝ) : EReal)) :
    low2 (invOf M N (g 6)) G = shapeCast S1x1x512x512 (c2 .f32 (scaled (backRe g M N) s) : FVec Ideal S512x512 .f32) shapeCasts_S512x512_S1x1x512x512 := by
  unfold low2
  rw [hG.t7, hG.t9, hG.t10]
  unfold invOf k0_pay117 k0_pay116
  dsimp only
  repeat rw [c2_left]
  repeat rw [c2_right']
  simp only [c2_truncf, c2_extf, c2_plus, c2_minus]
  repeat rw [c2_rowsT]
  simp only [c2_plus, c2_minus]
  rw [c2_beside', unit_real s hs]
  rfl

/-- The high image is the image less the low one. -/
theorem high0_less (p : Inv Ideal) (x : Vec Ideal S1x1x512x512 .f32) :
    high0 p G x = shapeCast S1x1x512x512 (subf (shapeCast S512x512 x shapeCasts_S1x1x512x512_S512x512 : FVec Ideal S512x512 .f32)
      (k0_pay92 (k0_pay85 p.v92 p.v98 p.v100 (G 7)) (k0_pay87 p.v89 (G 9)) (k0_pay88 p.v92 (G 10)))) shapeCasts_S512x512_S1x1x512x512 := rfl

end Cert.KernelIdeal.Hand
-- ==== Proof.Inverse.lean ====
/-
  The inverse transform: what the kernel's two stages make of a masked spectrum, that it is real of a real image, and
  that it gives the image back.
-/
module

public import proofs.«01_k».proof.Proof.Fourier
public import proofs.«01_k».proof.Proof.InvOps
public import Mathlib.Analysis.SpecialFunctions.Complex.Log

@[expose] public section

noncomputable section

namespace Cert.KernelIdeal.Hand

open ComplexConjugate

/-- The real tables of the inverse transform. -/
def gre : Fin 12 → ℕ → ℕ → ℝ := ![fun k n => (W (2 * k) n).re, fun k n => (W (2 * k) n).im, fun k n => (W (2 * k) n).re - (W (2 * k) n).im,
  fun k n => (W (2 * k + 1) n).re, fun k n => -(W (2 * k + 1) n).im, fun k n => (W (2 * k + 1) n).re - (W (2 * k + 1) n).im,
  fun k n => (W (2 * k) n).re, fun k n => (W (2 * k) n).im, fun k n => (W (2 * k) n).re - (W (2 * k) n).im,
  fun k n => (W (2 * k + 1) n).re, fun k n => -(W (2 * k + 1) n).im, fun k n => (W (2 * k + 1) n).re - (W (2 * k + 1) n).im]

theorem place_even (n : Fin 256) : place n = 2 * n := by unfold place; rw [if_pos n.isLt]
theorem place_odd (n : Fin 256) : place (256 + n) = 2 * n + 1 := by unfold place; rw [if_neg (by omega)]; omega

theorem down_dft (M N : ℕ → ℕ → ℝ) (y k : ℕ) : (⟨downRe gre M N y k, downIm gre M N y k⟩ : ℂ) = ∑ r : Fin 512, conj (W (place r) y) * (⟨M r k, N r k⟩ : ℂ) := by
  rw [halves (fun r => conj (W (place r) y) * (⟨M r k, N r k⟩ : ℂ))]
  simp only [place_even, place_odd]
  unfold downRe downIm above
  by_cases h : y < 256
  · simp only [h, if_true]
    apply Complex.ext <;> simp only [Complex.re_sum, Complex.im_sum, evenRe, evenIm, oddRe, oddIm, plus, minus, colsT, ← Finset.sum_sub_distrib, ← Finset.sum_add_distrib] <;>
      (refine Finset.sum_congr rfl fun n _ => ?_) <;> simp [gre, lower] <;> ring
  · obtain ⟨z, rfl⟩ : ∃ z, y = 256 + z := ⟨y - 256, by omega⟩
    simp only [h, if_false, Nat.add_sub_cancel_left, even_shift, odd_shift]
    apply Complex.ext <;> simp only [Complex.re_sum, Complex.im_sum, evenRe, evenIm, oddRe, oddIm, plus, minus, colsT, ← Finset.sum_sub_distrib, ← Finset.sum_add_distrib] <;>
      (refine Finset.sum_congr rfl fun n _ => ?_) <;> simp [gre, lower] <;> ring

theorem back_dft (M N : ℕ → ℕ → ℝ) (r x : ℕ) : (⟨backRe gre M N r x, backIm gre M N r x⟩ : ℂ) = ∑ k : Fin 512, (⟨M r k, N r k⟩ : ℂ) * conj (W (place k) x) := by
  rw [halves (fun k => (⟨M r k, N r k⟩ : ℂ) * conj (W (place k) x))]
  simp only [place_even, place_odd]
  unfold backRe backIm beside
  by_cases h : x < 256
  · simp only [h, if_true]
    apply Complex.ext <;> simp only [Complex.re_sum, Complex.im_sum, leftRe, leftIm, restRe, restIm, plus, minus, rowsT, ← Finset.sum_sub_distrib, ← Finset.sum_add_distrib] <;>
      (refine Finset.sum_congr rfl fun n _ => ?_) <;> simp [gre, right] <;> ring
  · obtain ⟨z, rfl⟩ : ∃ z, x = 256 + z := ⟨x - 256, by omega⟩
    simp only [h, if_false, Nat.add_sub_cancel_left, even_shift, odd_shift]
    apply Complex.ext <;> simp only [Complex.re_sum, Complex.im_sum, leftRe, leftIm, restRe, restIm, plus, minus, rowsT, ← Finset.sum_sub_distrib, ← Finset.sum_add_distrib] <;>
      (refine Finset.sum_congr rfl fun n _ => ?_) <;> simp [gre, right] <;> ring

/-- The inverse transform of a spectrum, without its scale. -/
def idft (H : ℕ → ℕ → ℂ) (y x : ℕ) : ℂ := ∑ v : Fin 512, conj (W v y) * ∑ u : Fin 512, H v u * conj (W u x)

/-- The kernel's two stages are it, whatever the order of the frequencies. -/
theorem stages (H : ℕ → ℕ → ℂ) (M N : ℕ → ℕ → ℝ) (hH : ∀ r k : Fin 512, (⟨M r k, N r k⟩ : ℂ) = H (place r) (place k)) (y x : ℕ) :
    (⟨backRe gre (downRe gre M N) (downIm gre M N) y x, backIm gre (downRe gre M N) (downIm gre M N) y x⟩ : ℂ) = idft H y x := by
  rw [back_dft]
  simp only [down_dft, hH]
  unfold idft
  rw [← Equiv.sum_comp placeE (fun v : Fin 512 => conj (W v y) * ∑ u : Fin 512, H v u * conj (W u x))]
  simp only [Finset.sum_mul]
  rw [Finset.sum_comm]
  refine Finset.sum_congr rfl fun r _ => ?_
  rw [← Equiv.sum_comp placeE (fun u : Fin 512 => H (placeE r) u * conj (W u x)), Finset.mul_sum]
  refine Finset.sum_congr rfl fun k _ => ?_
  rw [mul_assoc]; rfl

theorem conj_idft (H : ℕ → ℕ → ℂ) (hH : ∀ v u : Fin 512, H (opp v) (opp u) = conj (H v u)) (y x : ℕ) : conj (idft H y x) = idft H y x := by
  conv_rhs => unfold idft
  rw [← Equiv.sum_comp oppE (fun v : Fin 512 => conj (W v y) * ∑ u : Fin 512, H v u * conj (W u x))]
  unfold idft
  rw [map_sum]
  refine Finset.sum_congr rfl fun v _ => ?_
  rw [← Equiv.sum_comp oppE (fun u : Fin 512 => H (oppE v) u * conj (W u x)), map_mul, map_sum]
  refine congr (congrArg _ (congrArg conj (W_opp v.isLt y).symm)) (Finset.sum_congr rfl fun u _ => ?_)
  rw [map_mul]
  exact congr (congrArg _ (hH v u).symm) (congrArg conj (W_opp u.isLt x).symm)

section
variable (μ f g : ℕ → ℕ → ℝ)

/-- The masked spectrum of an image of reals, -/
def masked (v u : ℕ) : ℂ := (μ v u : ℂ) * dft f 0 v u
/-- and its inverse transform. -/
def image (y x : ℕ) : ℝ := (idft (masked μ f) y x).re / 262144

variable {μ} (hμ : ∀ v u : Fin 512, μ (opp v) (opp u) = μ v u)
include hμ

theorem image_im (y x : ℕ) : (idft (masked μ f) y x).im = 0 := by
  refine Complex.conj_eq_iff_im.mp (conj_idft _ (fun v u => ?_) y x)
  unfold masked
  rw [hμ, dft_opp f v.isLt u.isLt, map_mul, Complex.conj_ofReal]

/-- The two packed channels come apart again. -/
theorem apart (y x : ℕ) : idft (fun v u => (μ v u : ℂ) * dft f g v u) y x = ⟨(idft (masked μ f) y x).re, (idft (masked μ g) y x).re⟩ := by
  have h : idft (fun v u => (μ v u : ℂ) * dft f g v u) y x = idft (masked μ f) y x + Complex.I * idft (masked μ g) y x := by
    unfold idft masked
    rw [Finset.mul_sum, ← Finset.sum_add_distrib]
    refine Finset.sum_congr rfl fun v _ => ?_
    rw [mul_left_comm, ← mul_add]
    congr 1
    rw [Finset.mul_sum, ← Finset.sum_add_distrib]
    refine Finset.sum_congr rfl fun u _ => ?_
    show (μ v u : ℂ) * dft f g v u * _ = _; rw [dft_split f g]; ring
  rw [h]
  apply Complex.ext
  · simp [image_im g hμ]
  · simp [image_im f hμ]
end

/-! The image back from its transform. -/

theorem W_exp (k n : ℕ) : W k n = Complex.exp (-(ang k n : ℂ) * Complex.I) := by
  rw [← Complex.ofReal_neg, Complex.exp_mul_I, ← Complex.ofReal_cos, ← Complex.ofReal_sin, Real.cos_neg, Real.sin_neg]
  apply Complex.ext <;> simp [W, -Complex.ofReal_cos, -Complex.ofReal_sin]

theorem orth {a y : ℕ} (ha : a < 512) (hy : y < 512) : ∑ v : Fin 512, conj (W v y) * W v a = if a = y then 512 else 0 := by
  by_cases h : a = y
  · subst h
    rw [if_pos rfl]
    have : ∀ v : Fin 512, conj (W v a) * W v a = 1 := fun v => by
      apply Complex.ext
      · simp only [W, Complex.mul_re, Complex.conj_re, Complex.conj_im, Complex.one_re]
        linarith [Real.cos_sq_add_sin_sq (ang v a), sq (Real.cos (ang v a)), sq (Real.sin (ang v a))]
      · simp only [W, Complex.mul_im, Complex.conj_re, Complex.conj_im, Complex.one_im]; ring
    simp [this]
  · rw [if_neg h]
    set z : ℂ := -(2 * Real.pi / 512 * ((a : ℝ) - y) : ℝ) * Complex.I with hz
    have ht : ∀ v : Fin 512, conj (W v y) * W v a = Complex.exp (-(256 : ℂ) * z) * Complex.exp z ^ (v : ℕ) := fun v => by
      rw [W_exp, W_exp, ← Complex.exp_conj, ← Complex.exp_nat_mul, ← Complex.exp_add, ← Complex.exp_add]
      congr 1
      rw [map_mul, map_neg, Complex.conj_ofReal, Complex.conj_I, hz]
      unfold ang
      push_cast
      ring
    simp only [ht]
    rw [← Finset.mul_sum, Fin.sum_univ_eq_sum_range (fun v => Complex.exp z ^ v) 512]
    have h1 : Complex.exp z ≠ 1 := fun e => by
      obtain ⟨n, hn⟩ := Complex.exp_eq_one_iff.mp e
      have hp := Real.pi_pos
      have him := congrArg Complex.im hn
      rw [hz] at him
      simp only [Complex.mul_im, Complex.neg_im, Complex.neg_re, Complex.ofReal_re, Complex.ofReal_im, Complex.I_im, Complex.I_re, Complex.intCast_re, Complex.intCast_im, Complex.re_ofNat, Complex.im_ofNat, Complex.mul_re] at him
      have h2 : ((a : ℝ) - y) = ((-512 * n : ℤ) : ℝ) := by
        push_cast
        have : Real.pi * (((a : ℝ) - y) + 512 * n) = 0 := by linarith
        rcases mul_eq_zero.mp this with h | h
        · exact absurd h hp.ne'
        · linarith
      have h3 : (a : ℤ) - y = -512 * n := by exact_mod_cast h2
      omega
    have h512 : Complex.exp z ^ 512 = 1 := by
      rw [← Complex.exp_nat_mul, Complex.exp_eq_one_iff]
      refine ⟨(y : ℤ) - a, ?_⟩
      rw [hz]; push_cast; ring
    have := mul_geom_sum (Complex.exp z) 512
    rw [h512, sub_self] at this
    rcases mul_eq_zero.mp this with h | h
    · exact absurd (sub_eq_zero.mp h) h1
    · rw [h, mul_zero]

theorem idft_dft (f : ℕ → ℕ → ℝ) {y x : ℕ} (hy : y < 512) (hx : x < 512) : idft (dft f 0) y x = 262144 * (f y x : ℂ) := by
  have h : ∀ v : ℕ, ∑ u : Fin 512, dft f 0 v u * conj (W u x) = ∑ a : Fin 512, W v a * (512 * (f a x : ℂ)) := fun v => by
    unfold dft
    simp only [Finset.sum_mul]
    rw [Finset.sum_comm]
    refine Finset.sum_congr rfl fun a _ => ?_
    simp only [mul_assoc, ← Finset.mul_sum, Finset.sum_mul]
    congr 1
    rw [Finset.sum_comm]
    have : ∀ b : Fin 512, ∑ u : Fin 512, (⟨f a b, (0 : ℕ → ℕ → ℝ) a b⟩ : ℂ) * (W u b * conj (W u x)) = if (b : ℕ) = x then (512 : ℂ) * (f a x : ℂ) else 0 := fun b => by
      rw [← Finset.mul_sum]
      simp only [mul_comm (W _ _)]
      rw [orth b.isLt hx]
      split
      · rename_i e; rw [e, mul_comm]; rfl
      · rw [mul_zero]
    simp only [this]
    rw [Finset.sum_eq_single ⟨x, hx⟩ (fun b _ hb => if_neg fun e => hb (Fin.ext e)) (fun hn => absurd (Finset.mem_univ _) hn), if_pos rfl]
  unfold idft
  simp only [h, Finset.mul_sum]
  rw [Finset.sum_comm]
  have : ∀ a : Fin 512, ∑ v : Fin 512, conj (W v y) * (W v a * (512 * (f a x : ℂ))) = if (a : ℕ) = y then 262144 * (f y x : ℂ) else 0 := fun a => by
    simp only [← mul_assoc, ← Finset.sum_mul]
    rw [orth a.isLt hy]
    split
    · rename_i e; rw [e]; ring
    · ring
  simp only [this]
  rw [Finset.sum_eq_single ⟨y, hy⟩ (fun b _ hb => if_neg fun e => hb (Fin.ext e)) (fun hn => absurd (Finset.mem_univ _) hn), if_pos rfl]

/-- The image less its low part is its high part. -/
theorem image_rest (μ f : ℕ → ℕ → ℝ) {y x : ℕ} (hy : y < 512) (hx : x < 512) : f y x - image μ f y x = image (fun v u => 1 - μ v u) f y x := by
  have h : idft (masked (fun v u => 1 - μ v u) f) y x = idft (dft f 0) y x - idft (masked μ f) y x := by
    unfold idft masked
    rw [← Finset.sum_sub_distrib]
    refine Finset.sum_congr rfl fun v _ => ?_
    rw [← mul_sub, ← Finset.sum_sub_distrib]
    congr 1
    refine Finset.sum_congr rfl fun u _ => ?_
    push_cast; ring
  unfold image
  rw [h, idft_dft f hy hx]
  simp only [Complex.sub_re, Complex.mul_re, Complex.re_ofNat, Complex.im_ofNat, Complex.ofReal_re, Complex.ofReal_im]
  ring

end Cert.KernelIdeal.Hand
-- ==== Proof.Spectrum.lean ====
/-
  The stored spectra over the reals: the packed pair's and the third channel's, in the kernel's order of frequencies.
-/
module

public import proofs.«01_k».proof.Proof.Inverse

@[expose] public section

set_option maxRecDepth 16384

noncomputable section

namespace Cert.KernelIdeal.Hand

open Cert.KernelIdeal Cert.KernelIdeal.Gen
open Idealize.ShloMosaic

/-- A matrix stored as a slab is read back as it is. -/
theorem slab_of (f : ℕ → ℕ → ℝ) : Slab (shapeCast S1x512x512 (c2 .f32 f : FVec Ideal S512x512 .f32) shapeCasts_S512x512_S1x512x512) f := by
  unfold Slab; funext j; pointwise [c2]

section
variable {e : Fin 12 → ℕ → ℕ → ℝ} {f g : ℕ → ℕ → ℝ} {E : Fin 12 → Vec Ideal S256x768 .bf16}

/-- The products the pair's transform is put together from. -/
theorem pairProds_real (hE : Tabs E e) {v w : Vec Ideal S1x1x512x512 .f32} (hf : Img v f) (hg : Img w g) :
    pairProds v w E = ![c2 .f32 (cols (e 6) (sumV (rowRe e f g))), c2 .f32 (cols (e 7) (sumV (rowIm e f g))), c2 .f32 (cols (e 8) (plus (sumV (rowRe e f g)) (sumV (rowIm e f g)))),
      c2 .f32 (cols (e 9) (difV (rowRe e f g))), c2 .f32 (cols (e 10) (difV (rowIm e f g))), c2 .f32 (cols (e 11) (plus (difV (rowRe e f g)) (difV (rowIm e f g))))] := by
  have h25 : _ = c2 .f32 (rowRe e f g) := pay25_real (f := difH f) (g := difH g) (p := rows (sumH f) (e 0)) (q := rows (sumH g) (e 1)) (a := e 3) (b := e 4)
  have h26 : _ = c2 .f32 (rowIm e f g) := pay26_real (f := difH f) (g := difH g) (p := rows (sumH f) (e 0)) (q := rows (sumH g) (e 1))
    (s := rows (plus (sumH f) (sumH g)) (e 2)) (a := e 3) (b := e 4) (d := e 5)
  unfold pairProds
  rw [hE.t0, hE.t1, hE.t2, hE.t3, hE.t4, hE.t5, hE.t6, hE.t7, hE.t8, hE.t9, hE.t10, hE.t11]
  rw [pay18_real hf, pay19_real hg, pay20_real hf hg]
  unfold k0_pay22 k0_pay21
  rw [pay16_real hf, pay17_real hg]
  unfold k0_pay33 k0_pay32 k0_pay27 k0_pay28 k0_pay29 k0_pay30
  simp only [c2_truncf, c2_extf]
  rw [h25, h26, sumV_real, sumV_real, difV_real, difV_real]
  simp only [c2_truncf, c2_extf, c2_subf]
  rw [pay34_real, pay35_real, pay36_real, pay37_real, pay38_real, pay39_real]

theorem pairRe_real (hE : Tabs E e) (x : Vec Ideal S1x2x512x512 .f32) (hf : Img (chan0 x) f) (hg : Img (chan1 x) g) :
    Slab (pairRe x E) (colRe e (rowRe e f g) (rowIm e f g)) := by
  unfold pairRe
  rw [pairProds_real hE hf hg]
  simp only [Matrix.cons_val]
  unfold k0_pay3
  rw [pay1_real]
  exact slab_of _
theorem pairIm_real (hE : Tabs E e) (x : Vec Ideal S1x2x512x512 .f32) (hf : Img (chan0 x) f) (hg : Img (chan1 x) g) :
    Slab (pairIm x E) (colIm e (rowRe e f g) (rowIm e f g)) := by
  unfold pairIm
  rw [pairProds_real hE hf hg]
  simp only [Matrix.cons_val]
  unfold k0_pay4
  rw [pay2_real]
  exact slab_of _

theorem thirdRe_real (hE : Tabs E e) (x : Vec Ideal S1x2x512x512 .f32) (hf : Img (chan0 x) f) :
    Slab (thirdRe x E) (colRe e (rowRe₁ e f) (rowIm₁ e f)) := by
  have h43 : _ = c2 .f32 (rowRe₁ e f) := pay43_real (a := e 0) (b := e 3) hf
  have h44 : _ = c2 .f32 (rowIm₁ e f) := pay44_real (a := e 1) (b := e 4) hf
  unfold thirdRe third
  rw [hE.t0, hE.t1, hE.t3, hE.t4, hE.t6, hE.t7, hE.t8, hE.t9, hE.t10, hE.t11]
  unfold k0_pay45 k0_pay46 k0_pay47 k0_pay48
  rw [h43, h44]
  dsimp only
  rw [sumV_real, sumV_real, difV_real, difV_real]
  rw [pay49_real, pay50_real, pay52_real, pay53_real]
  unfold k0_pay57
  rw [pay55_real]
  exact slab_of _
theorem thirdIm_real (hE : Tabs E e) (x : Vec Ideal S1x2x512x512 .f32) (hf : Img (chan0 x) f) :
    Slab (thirdIm x E) (colIm e (rowRe₁ e f) (rowIm₁ e f)) := by
  have h43 : _ = c2 .f32 (rowRe₁ e f) := pay43_real (a := e 0) (b := e 3) hf
  have h44 : _ = c2 .f32 (rowIm₁ e f) := pay44_real (a := e 1) (b := e 4) hf
  unfold thirdIm third
  rw [hE.t0, hE.t1, hE.t3, hE.t4, hE.t6, hE.t7, hE.t8, hE.t9, hE.t10, hE.t11]
  unfold k0_pay45 k0_pay46 k0_pay47 k0_pay48
  rw [h43, h44]
  dsimp only
  rw [sumV_real, sumV_real, difV_real, difV_real]
  rw [pay49_real, pay50_real, pay51_real, pay52_real, pay53_real]
  unfold k0_pay58
  rw [pay56_real]
  exact slab_of _
end

variable (f g : ℕ → ℕ → ℝ) (r k : ℕ)

/-- The pair's spectrum is the transform of the image of complex numbers, -/
theorem pair_dft : (⟨colRe fre (rowRe fre f g) (rowIm fre f g) r k, colIm fre (rowRe fre f g) (rowIm fre f g) r k⟩ : ℂ) = dft f g (place r) (place k) := by
  rw [col_dft]; unfold dft; simp only [← row_dft]
/-- and the third's that of the real one. -/
theorem third_dft : (⟨colRe fre (rowRe₁ fre f) (rowIm₁ fre f) r k, colIm fre (rowRe₁ fre f) (rowIm₁ fre f) r k⟩ : ℂ) = dft f 0 (place r) (place k) := by
  rw [col_dft]; unfold dft; simp only [Pi.zero_apply, ← row_dft₁]

/-! The masked spectra through the two stages. -/

section
variable {f g} {μ : ℕ → ℕ → ℝ} (hμ : ∀ v u : Fin 512, μ (opp v) (opp u) = μ v u)
include hμ

/-- What the kernel keeps of a pair comes out as the two channels' images, -/
theorem stages_pair (y x : ℕ) : (⟨backRe gre (downRe gre (times (colRe fre (rowRe fre f g) (rowIm fre f g)) fun r k => μ (place r) (place k)) (times (colIm fre (rowRe fre f g) (rowIm fre f g)) fun r k => μ (place r) (place k)))
      (downIm gre (times (colRe fre (rowRe fre f g) (rowIm fre f g)) fun r k => μ (place r) (place k)) (times (colIm fre (rowRe fre f g) (rowIm fre f g)) fun r k => μ (place r) (place k))) y x,
    backIm gre (downRe gre (times (colRe fre (rowRe fre f g) (rowIm fre f g)) fun r k => μ (place r) (place k)) (times (colIm fre (rowRe fre f g) (rowIm fre f g)) fun r k => μ (place r) (place k)))
      (downIm gre (times (colRe fre (rowRe fre f g) (rowIm fre f g)) fun r k => μ (place r) (place k)) (times (colIm fre (rowRe fre f g) (rowIm fre f g)) fun r k => μ (place r) (place k))) y x⟩ : ℂ)
    = ⟨(idft (masked μ f) y x).re, (idft (masked μ g) y x).re⟩ := by
  rw [stages (fun v u => (μ v u : ℂ) * dft f g v u), apart f g hμ]
  intro r k
  rw [← pair_dft]
  apply Complex.ext
  · simp [times, mul_comm]
  · simp [times, mul_comm]
/-- and of the third channel as its image. -/
theorem stages_third (y x : ℕ) : backRe gre (downRe gre (times (colRe fre (rowRe₁ fre f) (rowIm₁ fre f)) fun r k => μ (place r) (place k)) (times (colIm fre (rowRe₁ fre f) (rowIm₁ fre f)) fun r k => μ (place r) (place k)))
      (downIm gre (times (colRe fre (rowRe₁ fre f) (rowIm₁ fre f)) fun r k => μ (place r) (place k)) (times (colIm fre (rowRe₁ fre f) (rowIm₁ fre f)) fun r k => μ (place r) (place k))) y x
    = (idft (masked μ f) y x).re := by
  refine congrArg Complex.re (stages (masked μ f) _ _ ?_ y x)
  intro r k
  unfold masked
  rw [← third_dft]
  apply Complex.ext
  · simp [times, mul_comm]
  · simp [times, mul_comm]
end

end Cert.KernelIdeal.Hand
-- ==== Proof.Host.lean ====
/-
  What the host operations before the pallas_call make of its tables.
-/
module

public import proofs.«01_k».proof.Proof.Dats
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

/-- The distance of a frequency from the centre, along one axis, scaled. -/
def axisE : FVec F S512 .f32 := Host.divf (subf (sitofp .f32 (iotaInDim S512 32 0)) (broadcastInDim S512 ![] bcast_S_S512 (constant S_ .f32 0x43800000#32)))
  (broadcastInDim S512 ![] bcast_S_S512 (constant S_ .f32 0x43B504F3#32))
/-- The radius of every frequency, -/
def radE : FVec F S512x512 .f32 :=
  Host.sqrt (addf (mulf (broadcastInDim S512x512 ![1] bcast_S512_S512x512_1 axisE) (broadcastInDim S512x512 ![1] bcast_S512_S512x512_1 axisE))
    (mulf (broadcastInDim S512x512 ![0] bcast_S512_S512x512_0 axisE) (broadcastInDim S512x512 ![0] bcast_S512_S512x512_0 axisE)))
/-- the largest of them, -/
def topE : FVec F S_ .f32 := Host.reduce FloatOps.maximumf radE (constant S_ .f32 0xFF800000#32) reducesTo_S512x512_S_d0_1 h_S_
/-- and the bin of every frequency. -/
def binE : IVec S512x512 32 := fptosi 32 (Host.floor (mulf (Host.divf (radE : FVec F S512x512 .f32) (broadcastInDim S512x512 ![] bcast_S_S512x512 topE))
  (broadcastInDim S512x512 ![] bcast_S_S512x512 (constant S_ .f32 0x42C80000#32))))

/-- The bin as the kernel counts it: kept within 0 and 99, and 127 where it is past the last. -/
def clipE : FVec F S512x512 .f32 :=
  sitofp .f32 (select (cmpi .slt (binE (F := F)) (broadcastInDim S512x512 ![] bcast_S_S512x512 (constantI S_ 32 100#32)))
    (minsi (broadcastInDim S512x512 ![] bcast_S_S512x512 (constantI S_ 32 99#32)) (maxsi (broadcastInDim S512x512 ![] bcast_S_S512x512 (constantI S_ 32 0#32)) (binE (F := F))))
    (broadcastInDim S512x512 ![] bcast_S_S512x512 (constantI S_ 32 127#32)))
/-- The edges of the bins up to a largest radius, -/
def stepE : FVec F S100 .f32 := Host.divf (sitofp .f32 (iotaInDim S100 32 0)) (broadcastInDim S100 ![] bcast_S_S100 (constant S_ .f32 0x42C80000#32))
def edgeOf (t z : FVec F S_ .f32) : FVec F S101 .f32 :=
  concatenate S101 0 [⟨S100, (addf (mulf (broadcastInDim S100 ![0] bcast_S1_S100_0 (shapeCast S1 z shapeCasts_S_S1))
      (subf (broadcastInDim S100 ![] bcast_S_S100 (constant S_ .f32 0x3F800000#32)) stepE))
    (mulf (broadcastInDim S100 ![0] bcast_S1_S100_0 (shapeCast S1 t shapeCasts_S_S1)) stepE) : FVec F S100 .f32)⟩,
    ⟨S1, (broadcastInDim S1 ![] bcast_S_S1 t : FVec F S1 .f32)⟩] concatenates_S100_S1_S101_d0
/-- the middles of the bins, -/
def midOf (e : FVec F S101 .f32) : FVec F S100 .f32 :=
  mulf (addf (extractStridedSlice S100 ![0] e slices_S101_S100_0) (extractStridedSlice S100 ![1] e slices_S101_S100_1))
    (broadcastInDim S100 ![] bcast_S_S100 (constant S_ .f32 0x3F000000#32))
/-- the last one repeated up to 128 of them. -/
def padOf (r : FVec F S100 .f32) : FVec F S128 .f32 :=
  concatenate S128 0 [⟨S100, r⟩,
    ⟨S28, (broadcastInDim S28 ![] bcast_S_S28 (shapeCast S_ (extractStridedSlice S1 ![99] r slices_S100_S1_99) shapeCasts_S1_S_) : FVec F S28 .f32)⟩] concatenates_S100_S28_S128_d0
/-- The middles of the kernel's bins. -/
def midE : FVec F S100 .f32 := midOf (edgeOf topE (constant S_ .f32 0x00000000#32))
/-- The order of the frequencies: even ones first. -/
def ordE : IVec S512x1 32 :=
  broadcastInDim S512x1 ![0] bcast_S512_S512x1_0
    (select (constantI S512 1 0#1) (addi (fun i => lit0 (S512.rowMajor i)) (broadcastInDim S512 ![] bcast_S_S512 (constantI S_ 32 512#32))) (fun i => lit0 (S512.rowMajor i)))
/-- A matrix with its rows and its columns in that order. -/
def turn (x : FVec F S512x512 .f32) : FVec F S512x512 .f32 :=
  Host.gather gather_S512x512_S512x1_S512x512_0_1_n_n_1_1_5121 (Host.gather gather_S512x512_S512x1_S512x512_1_0_n_n_0_1_1512 x ordE) ordE

/-- The angles of the transform's table, -/
def piE : FVec F S_ .f32 := Host.acos (constant S_ .f32 0xBF800000#32)
def lineE : FVec F S256 .f32 := sitofp .f32 (iotaInDim S256 32 0)
def angE : FVec F S256x256 .f32 :=
  mulf (broadcastInDim S256x256 ![] bcast_S_S256x256 (Host.divf (mulf (constant S_ .f32 0xC0000000#32) piE) (constant S_ .f32 0x43800000#32)))
    (mulf (broadcastInDim S256x256 ![0, 1] bcast_S256x1_S256x256_0_1 (broadcastInDim S256x1 ![0] bcast_S256_S256x1_0 (subf (lineE : FVec F S256 .f32) (broadcastInDim S256 ![] bcast_S_S256 (constant S_ .f32 0x43000000#32)))))
      (broadcastInDim S256x256 ![0, 1] bcast_S1x256_S256x256_0_1 (broadcastInDim S1x256 ![1] bcast_S256_S1x256_1 (lineE : FVec F S256 .f32))))
/-- and of the odd frequencies' factor. -/
def oddE : FVec F S256 .f32 :=
  Host.divf (mulf (broadcastInDim S256 ![] bcast_S_S256 (mulf (constant S_ .f32 0x40000000#32) piE)) lineE) (broadcastInDim S256 ![] bcast_S_S256 (constant S_ .f32 0x44000000#32))
/-- A row repeated. -/
def downE (v : FVec F S256 .f32) : FVec F S256x256 .f32 :=
  broadcastInDim S256x256 ![0, 1] bcast_S1x256_S256x256_0_1 (broadcastInDim S1x256 ![1] bcast_S256_S1x256_1 v)
/-- The six tables: real part, imaginary part and their sum, for the even frequencies and for the odd ones. -/
def baseE : Fin 6 → FVec F S256x256 .f32
  | 0 => Host.cos angE
  | 1 => Host.sin angE
  | 2 => addf (Host.cos angE) (Host.sin angE)
  | 3 => addf (mulf (downE (Host.cos oddE)) (Host.cos angE)) (mulf (downE (Host.sin oddE)) (Host.sin angE))
  | 4 => subf (mulf (downE (Host.cos oddE)) (Host.sin angE)) (mulf (downE (Host.sin oddE)) (Host.cos angE))
  | 5 => addf (addf (mulf (downE (Host.cos oddE)) (Host.cos angE)) (mulf (downE (Host.sin oddE)) (Host.sin angE)))
      (subf (mulf (downE (Host.cos oddE)) (Host.sin angE)) (mulf (downE (Host.sin oddE)) (Host.cos angE)))
/-- What a table's rounding leaves. -/
def restE (x : FVec F S256x256 .f32) : FVec F S256x256 .bf16 :=
  truncf .bf16 (subf x (extf .f32 (truncf .bf16 x bitsLt_bf16_f32) bitsLt_bf16_f32)) bitsLt_bf16_f32
/-- A table as the first stage takes it, and as the second. -/
def fstE (x : FVec F S256x256 .f32) : FVec F S256x768 .bf16 :=
  concatenate S256x768 1 [⟨S256x256, (truncf .bf16 x bitsLt_bf16_f32 : FVec F S256x256 .bf16)⟩, ⟨S256x256, restE x⟩, ⟨S256x256, (truncf .bf16 x bitsLt_bf16_f32 : FVec F S256x256 .bf16)⟩]
    concatenates_S256x256_S256x256_S256x256_S256x768_d1
def sndE (x : FVec F S256x256 .f32) : FVec F S256x768 .bf16 :=
  concatenate S256x768 1 [⟨S256x256, (truncf .bf16 x bitsLt_bf16_f32 : FVec F S256x256 .bf16)⟩, ⟨S256x256, (truncf .bf16 x bitsLt_bf16_f32 : FVec F S256x256 .bf16)⟩, ⟨S256x256, restE x⟩]
    concatenates_S256x256_S256x256_S256x256_S256x768_d1

variable (m : (ℓ : Loc nD τ sig) → Buf (Elt F) ℓ) (c : Dev nD)

/-- The buffers when the pallas_call starts: the radii and their bins, -/
theorem V_rad : V m c main_v15 = radE := by
  unfold V V0 hostOps0 hostOps0_1 hostOps0_2 hostOps0_3 hostOps0_4 hostOps0_5 hostOps0_6
  simp only [List.flatten_cons, List.flatten_nil, List.append_nil, List.cons_append, List.nil_append]
  after_reads_simp
  rfl
theorem after_join (l₁ l₂ : List (HloOp τ sig (Elt F))) (U : Valuation τ sig (Elt F)) :
    StableHlo.after (l₁ ++ l₂) U = StableHlo.after l₂ (StableHlo.after l₁ U) := by
  induction l₁ generalizing U with
  | nil => rfl
  | cons op l ih => exact ih _
theorem edge_read (U : Valuation τ sig (Elt F)) : StableHlo.after hostOps0_5 U (Proc.devRef .tc main_v28) = edgeOf (U (Proc.devRef .tc main_v16)) (U (Proc.devRef .tc main_cst_13)) := by
  unfold hostOps0_5
  after_reads_simp
  rfl
theorem pad_read (U : Valuation τ sig (Elt F)) :
    StableHlo.after hostOps0_6 U (Proc.devRef .tc main_v38) = shapeCast S1x1x128 (padOf (midOf (U (Proc.devRef .tc main_v28)))) shapeCasts_S128_S1x1x128 := by
  unfold hostOps0_6
  after_reads_simp
  rfl
theorem zero_read (U : Valuation τ sig (Elt F)) : StableHlo.after hostOps0_4 U (Proc.devRef .tc main_cst_13) = constant S_ .f32 0x00000000#32 := by
  unfold hostOps0_4
  after_reads_simp
theorem top_read (U : Valuation τ sig (Elt F)) :
    StableHlo.after hostOps0_4 (StableHlo.after hostOps0_3 (StableHlo.after hostOps0_2 (StableHlo.after hostOps0_1 U))) (Proc.devRef .tc main_v16) = U (Proc.devRef .tc main_v16) := by
  rw [← after_join, ← after_join, ← after_join]
  unfold hostOps0_1 hostOps0_2 hostOps0_3 hostOps0_4
  simp only [List.cons_append, List.nil_append]
  after_reads_simp
theorem max_read (U : Valuation τ sig (Elt F)) : StableHlo.after hostOps0 U (Proc.devRef .tc main_v16) = topE := by
  unfold hostOps0
  after_reads_simp
  rfl
theorem V_pad : V m c main_v38 = shapeCast S1x1x128 (padOf midE) shapeCasts_S128_S1x1x128 := by
  unfold V V0
  simp only [List.flatten_cons, List.flatten_nil, List.append_nil, after_join]
  rw [pad_read, edge_read, zero_read, top_read, max_read]
  rfl
/-- both in the kernel's order of frequencies, -/
theorem V_turn : V m c main_v48 = turn radE ∧ V m c main_v58 = turn clipE := by
  constructor
  all_goals
    unfold V V0 hostOps0 hostOps0_1 hostOps0_2 hostOps0_3 hostOps0_4 hostOps0_5 hostOps0_6
    simp only [List.flatten_cons, List.flatten_nil, List.append_nil, List.cons_append, List.nil_append]
    after_reads_simp
    unfold turn ordE
    congr 2
set_option maxHeartbeats 4000000 in
/-- and the tables. -/
theorem V_tab :
    (V m c main_v110 = fstE (baseE 0)
    ∧ V m c main_v115 = fstE (baseE 1)
    ∧ V m c main_v120 = fstE (baseE 2)
    ∧ V m c main_v125 = fstE (baseE 3)
    ∧ V m c main_v130 = fstE (baseE 4)
    ∧ V m c main_v135 = fstE (baseE 5))
    ∧ V m c main_v140 = sndE (baseE 0)
    ∧ V m c main_v145 = sndE (baseE 1)
    ∧ V m c main_v150 = sndE (baseE 2)
    ∧ V m c main_v155 = sndE (baseE 3)
    ∧ V m c main_v160 = sndE (baseE 4)
    ∧ V m c main_v165 = sndE (baseE 5) := by
  refine ⟨⟨?_, ?_, ?_, ?_, ?_, ?_⟩, ?_, ?_, ?_, ?_, ?_, ?_⟩
  all_goals
    unfold V V0 hostOps0 hostOps0_1 hostOps0_2 hostOps0_3 hostOps0_4 hostOps0_5 hostOps0_6
    simp only [List.flatten_cons, List.flatten_nil, List.append_nil, List.cons_append, List.nil_append]
    after_reads_simp
    rfl

theorem arr_1 : arr m c 1 = radE := by unfold arr; exact V_rad m c
theorem arr_2 : arr m c 2 = turn radE := by unfold arr; exact (V_turn m c).1
theorem arr_3 : arr m c 3 = turn clipE := by unfold arr; exact (V_turn m c).2
theorem arr_4 : arr m c 4 = shapeCast S1x1x128 (padOf midE : FVec F S128 .f32) shapeCasts_S128_S1x1x128 := by unfold arr; exact V_pad m c

theorem arr_eq (w : Fin 34) : arr m c w = V m c (Pipeline.arrRef spec0 w) := by unfold arr; rfl
theorem tabF_fst (k : Fin 6) : tabF m c ⟨k, by omega⟩ = fstE (baseE k) := by
  obtain ⟨⟨h0, h1, h2, h3, h4, h5⟩, _⟩ := V_tab m c
  fin_cases k
  exacts [(arr_eq m c 5).trans h0, (arr_eq m c 6).trans h1, (arr_eq m c 7).trans h2, (arr_eq m c 8).trans h3, (arr_eq m c 9).trans h4, (arr_eq m c 10).trans h5]
theorem tabF_snd (k : Fin 6) : tabF m c ⟨6 + k, by omega⟩ = sndE (baseE k) := by
  obtain ⟨_, h0, h1, h2, h3, h4, h5⟩ := V_tab m c
  fin_cases k
  exacts [(arr_eq m c 11).trans h0, (arr_eq m c 12).trans h1, (arr_eq m c 13).trans h2, (arr_eq m c 14).trans h3, (arr_eq m c 15).trans h4, (arr_eq m c 16).trans h5]

end Cert.KernelIdeal.Hand
-- ==== Proof.Lits.lean ====
/-
  The constants of the kernel's tables over the extended reals.
-/
module

public import proofs.«01_k».proof.Proof.Host
public import Idealize.ShloMosaic.Lib.IdealHost
public import Idealize.ShloMosaic.Lib.StableHlo.Predicate

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

/-- A whole number read as a float. -/
theorem whole {k : ℕ} (h : k < 2 ^ 31) : FloatOps.sitofp (F := Ideal) FTy.f32 (BitVec.ofNat 32 k) = ((k : ℝ) : EReal) := by
  show (((BitVec.ofNat 32 k).toInt : ℝ) : EReal) = _
  rw [StableHlo.Predicate.toInt_ofNat_small _ (by omega)]; simp

/-- The constants the tables are made of. -/
theorem lit_256 : Ideal.ofBits .f32 1132462080#32 = ((256 : ℝ) : EReal) := by
  simp [Ideal.ofBits, Ideal.ieee, -EReal.coe_mul]; norm_num
theorem lit_128 : Ideal.ofBits .f32 1124073472#32 = ((128 : ℝ) : EReal) := by
  simp [Ideal.ofBits, Ideal.ieee, -EReal.coe_mul]; norm_num
theorem lit_512 : Ideal.ofBits .f32 1140850688#32 = ((512 : ℝ) : EReal) := by
  simp [Ideal.ofBits, Ideal.ieee, -EReal.coe_mul]; norm_num
theorem lit_two : Ideal.ofBits .f32 1073741824#32 = ((2 : ℝ) : EReal) := by
  simp [Ideal.ofBits, Ideal.ieee, -EReal.coe_mul]; norm_num
theorem lit_neg_two : Ideal.ofBits .f32 3221225472#32 = ((-2 : ℝ) : EReal) := by
  simp [Ideal.ofBits, Ideal.ieee, -EReal.coe_mul, -EReal.coe_neg]; norm_num
theorem lit_neg_one : Ideal.ofBits .f32 3212836864#32 = ((-1 : ℝ) : EReal) := by
  simp [Ideal.ofBits, Ideal.ieee, -EReal.coe_mul, -EReal.coe_neg]; norm_num
theorem lit_dist : ∃ c : ℝ, c ≠ 0 ∧ Ideal.ofBits .f32 1135936755#32 = (c : EReal) := by
  refine ⟨_, ?_, by simp [Ideal.ofBits, Ideal.ieee, -EReal.coe_mul]; rfl⟩
  norm_num
theorem acos_pi : Ideal.acos (Ideal.ofBits .f32 3212836864#32) = (Real.pi : EReal) := by
  rw [lit_neg_one, Ideal.acos_coe, if_pos ⟨le_refl _, by norm_num⟩, Real.arccos_neg_one]
/-- A quotient of reals. -/
theorem quot (x y : ℝ) (h : y ≠ 0) : Ideal.div (x : EReal) (y : EReal) = ((x / y : ℝ) : EReal) := by
  rw [Ideal.div_coe h, ← EReal.coe_mul]; congr 1; ring

end Cert.KernelIdeal.Hand
-- ==== Proof.Bins.lean ====
/-
  The order of the kernel's frequencies, and their bins.
-/
module

public import proofs.«01_k».proof.Proof.Lits
public import proofs.«01_k».proof.Proof.Fourier
public import Idealize.ShloMosaic.Lib.Pointwise
public import Idealize.ShloMosaic.Lib.Routing.OpsSet

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

/-! The order of the frequencies. -/

theorem lit0_place : ∀ k : Fin 512, lit0 k = BitVec.ofNat 32 (place k) := by decide +kernel

theorem ord_at (k : Fin 512) : ordE (ix2 k (0 : Fin 1)) = BitVec.ofNat 32 (placeE k).val := by
  refine Eq.trans ?_ (lit0_place k)
  unfold ordE
  show lit0 (S512.rowMajor _) = lit0 k
  congr 1
  exact Fin.ext (Shape.rowMajor_val_one _)

/-- Columns taken in an order. -/
theorem gather_cols (x : FVec Ideal S512x512 .f32) (o : IVec S512x1 32) (r k b : Fin 512) (hb : o (ix2 k (0 : Fin 1)) = BitVec.ofNat 32 b.val) :
    Host.gather gather_S512x512_S512x1_S512x512_0_1_n_n_1_1_5121 x o (ix2 r k) = x (ix2 r b) := by
  unfold Host.gather
  refine congrArg x (funext fun a => Fin.ext ?_)
  show (gather_S512x512_S512x1_S512x512_0_1_n_n_1_1_5121).start (ix2 r k) o a + (gather_S512x512_S512x1_S512x512_0_1_n_n_1_1_5121).batchCoord (ix2 r k) a
    + (gather_S512x512_S512x1_S512x512_0_1_n_n_1_1_5121).offCoord (ix2 r k) a = _
  rw [GatherDims.batchCoord_eq_zero _ _ _ List.not_mem_nil]
  match a with
  | ⟨0, h⟩ =>
    have e0 : (gather_S512x512_S512x1_S512x512_0_1_n_n_1_1_5121).start (ix2 r k) o ⟨0, h⟩ = 0 := dif_neg (show (0 : Fin 2) ∉ [(1 : Fin 2)] by decide)
    have e1 : (gather_S512x512_S512x1_S512x512_0_1_n_n_1_1_5121).offCoord (ix2 r k) ⟨0, h⟩ = r.val :=
      (dif_pos ((GatherDims.mem_sKept _ _).mpr ⟨(by show (0 : Fin 2) ∉ [(1 : Fin 2)]; decide), List.not_mem_nil⟩)).trans rfl
    rw [e0, e1]
    show 0 + 0 + r.val = r.val
    omega
  | ⟨1, h⟩ =>
    rw [GatherDims.offCoord_eq_zero _ _ _ (fun h => ((GatherDims.mem_sKept _ _).mp h).1 (List.mem_singleton.mpr rfl))]
    have hsi : (gather_S512x512_S512x1_S512x512_0_1_n_n_1_1_5121).siIdx (ix2 r k)
        ⟨List.idxOf (1 : Fin 2) (gather_S512x512_S512x1_S512x512_0_1_n_n_1_1_5121).startIndexMap, List.idxOf_lt_length_iff.2 (List.mem_singleton.mpr rfl)⟩ = ix2 k (0 : Fin 1) := by
      funext b; refine Fin.ext ?_
      match b with
      | ⟨0, _⟩ => rfl
      | ⟨1, _⟩ => rfl
    have e0 : (gather_S512x512_S512x1_S512x512_0_1_n_n_1_1_5121).start (ix2 r k) o ⟨1, h⟩ = min (o (ix2 k (0 : Fin 1))).toInt.toNat 511 :=
      (dif_pos (show (1 : Fin 2) ∈ (gather_S512x512_S512x1_S512x512_0_1_n_n_1_1_5121).startIndexMap from List.mem_singleton.mpr rfl)).trans
        (congrArg (fun z => min (o z).toInt.toNat 511) hsi)
    rw [e0, hb, StableHlo.Predicate.toInt_ofNat_small _ (by omega)]
    show min b.val 511 + 0 + 0 = b.val
    omega

theorem turn_at (x : FVec Ideal S512x512 .f32) (r k : Fin 512) : turn x (ix2 r k) = x (ix2 (placeE r) (placeE k)) := by
  unfold turn
  rw [gather_cols _ _ r k (placeE k) (ord_at k)]
  exact Routing.gather_row _ rfl rfl rfl rfl rfl x ordE r (placeE k) (placeE r) (ord_at r) (by norm_num)

/-! The radii do not change with the sign of the frequency. -/

theorem axis_opp (k : Fin 512) :
    (axisE : FVec Ideal S512 .f32) (ix1 (oppE k)) * (axisE : FVec Ideal S512 .f32) (ix1 (oppE k))
      = (axisE : FVec Ideal S512 .f32) (ix1 k) * (axisE : FVec Ideal S512 .f32) (ix1 k) := by
  obtain ⟨c, hc, e⟩ := lit_dist
  have h : ∀ k : Fin 512, (axisE : FVec Ideal S512 .f32) (ix1 k) = ((((k.val : ℝ) - 256) / c : ℝ) : EReal) := fun k => by
    pointwise [axisE]
    rw [whole (by omega), lit_256, e, ← EReal.coe_sub, quot _ _ hc]
  rw [h, h, ← EReal.coe_mul, ← EReal.coe_mul]
  congr 1
  show (((opp k.val : ℕ) : ℝ) - 256) / c * ((((opp k.val : ℕ) : ℝ) - 256) / c) = _
  unfold opp
  by_cases h0 : k.val = 0
  · simp [h0]
  · rw [if_neg h0, Nat.cast_sub k.isLt.le]; push_cast; ring

theorem rad_opp (v u : Fin 512) : (radE : FVec Ideal S512x512 .f32) (ix2 (oppE v) (oppE u)) = (radE : FVec Ideal S512x512 .f32) (ix2 v u) := by
  have h : ∀ v u : Fin 512, (radE : FVec Ideal S512x512 .f32) (ix2 v u)
      = Ideal.sqrt ((axisE : FVec Ideal S512 .f32) (ix1 u) * (axisE : FVec Ideal S512 .f32) (ix1 u) + (axisE : FVec Ideal S512 .f32) (ix1 v) * (axisE : FVec Ideal S512 .f32) (ix1 v)) := fun v u => by
    pointwise [radE]
  rw [h, h, axis_opp, axis_opp]

theorem quantized (x y z : FVec Ideal S512x512 .f32) (i j : S512x512.Idx) (hx : x i = x j) (hy : y i = y j) (hz : z i = z j) :
    fptosi 32 (Host.floor (mulf (Host.divf x y) z)) i = fptosi 32 (Host.floor (mulf (Host.divf x y) z)) j := by
  simp only [fptosi, Host.floor, mulf, Host.divf, hx, hy, hz]
theorem everywhere (t : FVec Ideal S_ .f32) (i j : S512x512.Idx) :
    broadcastInDim S512x512 ![] bcast_S_S512x512 t i = broadcastInDim S512x512 ![] bcast_S_S512x512 t j := congrArg t (funext fun a => a.elim0)
/-- The bin depends on the radius only. -/
theorem bin_of (i j : S512x512.Idx) (h : (radE : FVec Ideal S512x512 .f32) i = (radE : FVec Ideal S512x512 .f32) j) : (binE (F := Ideal)) i = (binE (F := Ideal)) j := by
  unfold binE
  exact quantized _ _ _ i j h (everywhere _ i j) (everywhere _ i j)

theorem bin_opp (v u : Fin 512) : (binE (F := Ideal)) (ix2 (oppE v) (oppE u)) = (binE (F := Ideal)) (ix2 v u) := bin_of _ _ (rad_opp v u)

end Cert.KernelIdeal.Hand
-- ==== Proof.First.lean ====
/-
  The first bin at which the power gathered so far reaches its share of the whole.
-/
module

public import proofs.«01_k».proof.Proof.Lits
public import Idealize.ShloMosaic.Lib.Pointwise

@[expose] public section

set_option maxRecDepth 16384

noncomputable section

namespace Cert.KernelIdeal.Hand

open Cert.KernelIdeal Cert.KernelIdeal.Gen
open Idealize.ShloMosaic

/-- The share of the power to be reached, and the least power it is taken of. -/
def share : ℝ := (Ideal.ofBits .f32 1064514355#32).toReal
def least : ℝ := (Ideal.ofBits .f32 730643660#32).toReal
theorem share_lit : ∃ r : ℝ, 0 < r ∧ Ideal.ofBits .f32 1064514355#32 = (r : EReal) := by
  refine ⟨_, ?_, by simp [Ideal.ofBits, Ideal.ieee, -EReal.coe_mul]; rfl⟩
  norm_num
theorem least_lit : ∃ r : ℝ, 0 < r ∧ Ideal.ofBits .f32 730643660#32 = (r : EReal) := by
  refine ⟨_, ?_, by simp [Ideal.ofBits, Ideal.ieee, -EReal.coe_mul]; rfl⟩
  norm_num
theorem lit_share : Ideal.ofBits .f32 1064514355#32 = (share : EReal) := by
  obtain ⟨r, _, e⟩ := share_lit; unfold share; rw [e, EReal.toReal_coe]
theorem lit_least : Ideal.ofBits .f32 730643660#32 = (least : EReal) := by
  obtain ⟨r, _, e⟩ := least_lit; unfold least; rw [e, EReal.toReal_coe]
theorem share_pos : 0 < share := by
  obtain ⟨r, h, e⟩ := share_lit; unfold share; rwa [e, EReal.toReal_coe]
theorem least_pos : 0 < least := by
  obtain ⟨r, h, e⟩ := least_lit; unfold least; rwa [e, EReal.toReal_coe]

/-- The power of all frequencies, of those up to a bin, and what is to be reached. -/
def whole' (g : ℕ → ℕ → ℝ) : ℝ := ∑ v : Fin 512, ∑ u : Fin 512, g v u
def upto (b : S512x512.Idx → BitVec 32) (g : ℕ → ℕ → ℝ) (z : ℤ) : ℝ := ∑ v : Fin 512, ∑ u : Fin 512, if (b (ix2 v u)).toInt ≤ z then g v u else 0
def goal (g : ℕ → ℕ → ℝ) : ℝ := share * max (whole' g) least
def Reached (b : S512x512.Idx → BitVec 32) (g : ℕ → ℕ → ℝ) (z : ℤ) : Prop := goal g ≤ upto b g z

open Classical in
/-- The first bin that reaches it, 100 if none does. -/
def firstBin (b : S512x512.Idx → BitVec 32) (g : ℕ → ℕ → ℝ) : ℕ := Nat.find (p := fun k => k = 100 ∨ Reached b g k) ⟨100, Or.inl rfl⟩

theorem goal_pos (g : ℕ → ℕ → ℝ) : 0 < goal g := mul_pos share_pos (lt_max_of_lt_right least_pos)

theorem firstBin_le (b : S512x512.Idx → BitVec 32) (g : ℕ → ℕ → ℝ) : firstBin b g ≤ 100 := by
  classical
  exact Nat.find_min' _ (Or.inl rfl)

theorem upto_mono (b : S512x512.Idx → BitVec 32) (g : ℕ → ℕ → ℝ) (hg : ∀ v u, 0 ≤ g v u) {y z : ℤ} (h : y ≤ z) : upto b g y ≤ upto b g z := by
  refine Finset.sum_le_sum fun v _ => Finset.sum_le_sum fun u _ => ?_
  split_ifs with h1 h2
  · exact le_refl _
  · omega
  · exact hg _ _
  · exact le_refl _

/-- Exactly the bins from that one on reach it. -/
theorem reached_iff (b : S512x512.Idx → BitVec 32) (g : ℕ → ℕ → ℝ) (hg : ∀ v u, 0 ≤ g v u) (j : ℕ) (hj : j ≤ 99) : Reached b g j ↔ firstBin b g ≤ j := by
  classical
  constructor
  · intro h; exact Nat.find_min' _ (Or.inr h)
  · intro h
    have hs : firstBin b g = 100 ∨ Reached b g (firstBin b g) := Nat.find_spec (p := fun k => k = 100 ∨ Reached b g k) ⟨100, Or.inl rfl⟩
    rcases hs with hs | hs
    · omega
    · exact le_trans hs (upto_mono b g hg (by exact_mod_cast h))

end Cert.KernelIdeal.Hand
-- ==== Proof.Bisect.lean ====
/-
  The search by halving: over a test that holds from some bin on, seven steps from (-1, 100] end at that bin.
-/
module

public import proofs.«01_k».proof.Proof.Values

@[expose] public section

set_option maxRecDepth 16384

noncomputable section

namespace Cert.KernelIdeal.Hand

open Cert.KernelIdeal Cert.KernelIdeal.Gen
open Idealize.ShloMosaic

/-- One step of the search by a test. -/
def step (hit : BitVec 32 → BitVec 1) (lh : BitVec 32 × BitVec 32) : BitVec 32 × BitVec 32 :=
  (Scalar.select (hit (middle lh.1 lh.2)) lh.1 (middle lh.1 lh.2), Scalar.select (hit (middle lh.1 lh.2)) (middle lh.1 lh.2) lh.2)

/-- Several steps. -/
def steps (hit : BitVec 32 → BitVec 1) : ℕ → BitVec 32 × BitVec 32 → BitVec 32 × BitVec 32
  | 0, lh => lh
  | n + 1, lh => steps hit n (step hit lh)

/-- The test that holds from bin `k` on. -/
def from' (k : ℕ) (b : BitVec 32) : BitVec 1 := if (k : ℤ) ≤ b.toInt then 1#1 else 0#1

/-- Whether the steps by that test look only at bins from -1 to 99 and end at `k`. -/
def sound (k : ℕ) : ℕ → BitVec 32 × BitVec 32 → Bool
  | 0, lh => lh.2 == BitVec.ofNat 32 k
  | n + 1, lh => decide (-1 ≤ (middle lh.1 lh.2).toInt) && decide ((middle lh.1 lh.2).toInt ≤ 99) && sound k n (step (from' k) lh)

theorem all_sound : ∀ k : Fin 101, sound k 7 (4294967295#32, 100#32) = true := by decide +kernel

theorem steps_of_sound (hit : BitVec 32 → BitVec 1) (k : ℕ) (hh : ∀ b : BitVec 32, -1 ≤ b.toInt → b.toInt ≤ 99 → hit b = from' k b) :
    ∀ n lh, sound k n lh = true → (steps hit n lh).2 = BitVec.ofNat 32 k
  | 0, lh, h => by simpa [sound, steps] using h
  | n + 1, lh, h => by
    simp only [sound, Bool.and_eq_true, decide_eq_true_eq] at h
    have e : step hit lh = step (from' k) lh := by unfold step; rw [hh _ h.1.1 h.1.2]
    unfold steps
    rw [e]
    exact steps_of_sound hit k hh n _ h.2

theorem foldl_steps {T : Type} (hit : BitVec 32 → BitVec 1) : ∀ (l : List T) lh, l.foldl (fun lh _ => step hit lh) lh = steps hit l.length lh
  | [], lh => rfl
  | _ :: l, lh => foldl_steps hit l (step hit lh)

/-- The search ends at the first bin the test holds of. -/
theorem search (hit : BitVec 32 → BitVec 1) (k : ℕ) (hk : k ≤ 100)
    (hh : ∀ b : BitVec 32, -1 ≤ b.toInt → b.toInt ≤ 99 → hit b = from' k b) :
    (Scf.fold (n := Scf.trips k0_t1_loop.lb k0_t1_loop.ub k0_t1_loop.st) (fun _ lh => step hit lh) (4294967295#32, 100#32)).2 = BitVec.ofNat 32 k := by
  rw [← steps_of_sound hit k hh 7 (4294967295#32, 100#32) (all_sound ⟨k, by omega⟩)]
  rw [Scf.fold_eq, foldl_steps, List.length_finRange, show Scf.trips k0_t1_loop.lb k0_t1_loop.ub k0_t1_loop.st = 7 from by decide]

end Cert.KernelIdeal.Hand
-- ==== Proof.Cutoff.lean ====
/-
  The kernel's cut-off radius over the extended reals: the radius of the first bin that reaches its share.
-/
module

public import proofs.«01_k».proof.Proof.Bins
public import proofs.«01_k».proof.Proof.First
public import proofs.«01_k».proof.Proof.Bisect
public import proofs.«01_k».proof.Proof.Power

@[expose] public section

set_option maxRecDepth 16384

noncomputable section

namespace Cert.KernelIdeal.Hand

open Cert.KernelIdeal Cert.KernelIdeal.Gen
open Idealize.ShloMosaic

/-- The sum over a whole image. -/
theorem total_at (X : FVec Ideal S512x512 .f32) :
    extractAt ![0, 0, 0] (shapeCast S1x1x1 (multiReduction .add [1, 2] S1 (shapeCast S1x512x512 X shapeCasts_S512x512_S1x512x512)
      0x00000000#32 reduces_S1x512x512_S1 (.inl rfl) rfl) shapeCasts_S1_S1x1x1) inpos_S1x1x1_p0_0_0 = ∑ r : Fin 512, ∑ k : Fin 512, X (ix2 r k) := by
  pointwise

theorem total_real (f : ℕ → ℕ → ℝ) :
    extractAt ![0, 0, 0] (shapeCast S1x1x1 (multiReduction .add [1, 2] S1 (shapeCast S1x512x512 (c2 .f32 f : FVec Ideal S512x512 .f32) shapeCasts_S512x512_S1x512x512)
      0x00000000#32 reduces_S1x512x512_S1 (.inl rfl) rfl) shapeCasts_S1_S1x1x1) inpos_S1x1x1_p0_0_0 = ((∑ r : Fin 512, ∑ k : Fin 512, f r k : ℝ) : EReal) := by
  rw [total_at, ← coe_sum]
  refine Finset.sum_congr rfl fun r _ => ?_
  rw [← coe_sum]
  rfl

section
variable (a b c d e f g : FVec Ideal S256x512 .f32) (h : FVec Ideal S256x768 .bf16) (p w : FVec Ideal S512x512 .f32)

/-- The two sums of the search over the power `k0_pay59` of the third channel and of the pair. -/
theorem pay60_at : k0_pay60 a b c d e f g h p = Scalar.mulf (Scalar.ofBits (F := Ideal) .f32 0x3F733333#32) (Scalar.maximumf
    (extractAt ![0, 0, 0] (shapeCast S1x1x1 (multiReduction .add [1, 2] S1 (shapeCast S1x512x512 (k0_pay59 a b c d e f g h p) shapeCasts_S512x512_S1x512x512)
      0x00000000#32 reduces_S1x512x512_S1 (.inl rfl) rfl) shapeCasts_S1_S1x1x1) inpos_S1x1x1_p0_0_0) (Scalar.ofBits (F := Ideal) .f32 0x2B8CBCCC#32)) := rfl
theorem pay61_at (l u : BitVec 32) : k0_pay61 a b c d e f g h p w l u =
    extractAt ![0, 0, 0] (shapeCast S1x1x1 (multiReduction .add [1, 2] S1 (shapeCast S1x512x512
      (select (cmpf .ole (shapeCast S512x512 w shapeCasts_S512x512_S512x512) (broadcast S512x512 (Scalar.sitofp (F := Ideal) .f32 (middle l u))))
        (k0_pay59 a b c d e f g h p) (broadcast S512x512 (Scalar.ofBits (F := Ideal) .f32 0x00000000#32)) : FVec Ideal S512x512 .f32) shapeCasts_S512x512_S1x512x512)
      0x00000000#32 reduces_S1x512x512_S1 (.inl rfl) rfl) shapeCasts_S1_S1x1x1) inpos_S1x1x1_p0_0_0 := rfl
end

theorem share_of (t : EReal) : Scalar.mulf (F := Ideal) (φ := .f32) (Scalar.ofBits (F := Ideal) .f32 0x3F733333#32) (Scalar.maximumf t (Scalar.ofBits (F := Ideal) .f32 0x2B8CBCCC#32))
    = Ideal.ofBits .f32 1064514355#32 * max t (Ideal.ofBits .f32 730643660#32) := rfl

/-- A bin beyond the last counts as beyond every bin, one below the first as the first. -/
def clipI (b : BitVec 32) : BitVec 32 := Scalar.select (IntOp.cmpi .slt b 100#32) (IntOp.minsi 99#32 (IntOp.maxsi 0#32 b)) 127#32

theorem clip_at (i : S512x512.Idx) : (clipE : FVec Ideal S512x512 .f32) i = (((clipI ((binE (F := Ideal)) i)).toInt : ℝ) : EReal) := rfl

theorem clip_le (b : BitVec 32) (z : ℤ) (h0 : 0 ≤ z) (h : z ≤ 99) : (clipI b).toInt ≤ z ↔ b.toInt ≤ z := by
  unfold clipI Scalar.select IntOp.cmpi IntOp.minsi IntOp.maxsi
  by_cases h1 : b.toInt < 100
  · by_cases h2 : b.toInt < 0
    · simp [BitVec.slt, BitVec.sle, h1, h2] <;> (try split_ifs) <;> first | omega | (simp <;> omega)
    · simp [BitVec.slt, BitVec.sle, h1, h2] <;> (try split_ifs) <;> first | omega | (simp <;> omega)
  · simp [BitVec.slt, h1] <;> omega

theorem clip_nonneg (b : BitVec 32) : 0 ≤ (clipI b).toInt := by
  unfold clipI Scalar.select IntOp.cmpi IntOp.minsi IntOp.maxsi
  by_cases h1 : b.toInt < 100
  · by_cases h2 : b.toInt < 0
    · simp [BitVec.slt, BitVec.sle, h1, h2] <;> (try split_ifs) <;> first | omega | (simp <;> omega)
    · simp [BitVec.slt, BitVec.sle, h1, h2] <;> (try split_ifs) <;> first | omega | (simp <;> omega)
  · simp [BitVec.slt, h1]

/-- The frequencies up to a bin. -/
def Below (z : ℤ) (v u : ℕ) : Prop := ∃ (hv : v < 512) (hu : u < 512), ((binE (F := Ideal)) (ix2 (⟨v, hv⟩ : Fin 512) (⟨u, hu⟩ : Fin 512))).toInt ≤ z

/-- The kernel's sums, in the plain order of the frequencies. -/
theorem kernel_upto (f : Fin 3 → ℕ → ℕ → ℝ) (z : ℤ) :
    ∑ r : Fin 512, ∑ k : Fin 512, (if ((binE (F := Ideal)) (ix2 (placeE r) (placeE k))).toInt ≤ z then powSum (powPair fre (f 0) (f 1)) fre (f 2) r k else 0)
      = upto (binE (F := Ideal)) (spec f) z := by
  classical
  have h := kernel_sum f (Below z) (fun v u hv hu => by
    have e := bin_opp ⟨v, hv⟩ ⟨u, hu⟩
    constructor
    · rintro ⟨_, _, h⟩; refine ⟨hv, hu, ?_⟩; rw [← e]; exact h
    · rintro ⟨_, _, h⟩; refine ⟨(oppE ⟨v, hv⟩).isLt, (oppE ⟨u, hu⟩).isLt, ?_⟩; rw [← e] at h; exact h)
  refine Eq.trans (Finset.sum_congr rfl fun r _ => Finset.sum_congr rfl fun k _ => if_congr ?_ rfl rfl)
    (h.trans (Finset.sum_congr rfl fun v _ => Finset.sum_congr rfl fun u _ => if_congr ?_ rfl rfl))
  · exact ⟨fun h => ⟨(placeE r).isLt, (placeE k).isLt, h⟩, fun ⟨_, _, h⟩ => h⟩
  · exact ⟨fun ⟨_, _, h⟩ => h, fun h => ⟨v.isLt, u.isLt, h⟩⟩

theorem kernel_whole (f : Fin 3 → ℕ → ℕ → ℝ) :
    ∑ r : Fin 512, ∑ k : Fin 512, powSum (powPair fre (f 0) (f 1)) fre (f 2) r k = whole' (spec f) := by
  have h := kernel_sum f (fun _ _ => True) (fun _ _ _ _ => Iff.rfl)
  unfold whole'
  simpa using h

theorem sel_le (a : ℤ) (b : BitVec 32) (r : ℝ) :
    Scalar.select (Scalar.cmpf (F := Ideal) (φ := .f32) .ole ((a : ℝ) : EReal) (Scalar.sitofp .f32 b)) (r : EReal) (Scalar.ofBits (F := Ideal) .f32 0x00000000#32)
      = ((if a ≤ b.toInt then r else 0 : ℝ) : EReal) := by
  have e : Scalar.cmpf (F := Ideal) (φ := .f32) .ole ((a : ℝ) : EReal) (Scalar.sitofp .f32 b) = BitVec.ofBool (decide (((a : ℝ) : EReal) ≤ ((b.toInt : ℝ) : EReal))) := rfl
  have z : Scalar.ofBits (F := Ideal) .f32 0x00000000#32 = ((0 : ℝ) : EReal) := Ideal.ofBits_zero_f32
  rw [e, z]
  by_cases h : a ≤ b.toInt
  · have h' : ((a : ℝ) : EReal) ≤ ((b.toInt : ℝ) : EReal) := by exact_mod_cast h
    simp [h, h', Scalar.select]
  · have h' : ¬ ((a : ℝ) : EReal) ≤ ((b.toInt : ℝ) : EReal) := by exact_mod_cast h
    simp [h, h', Scalar.select]

section
variable {x : Vec Ideal S1x2x512x512 .f32} {E : Fin 12 → Vec Ideal S256x768 .bf16} {f : Fin 3 → ℕ → ℕ → ℝ}

/-- What is to be reached, -/
theorem pay60_real (hE : Tabs E fre) (hf : Img (chan0 x) (f 2)) :
    k0_pay60 (third (chan0 x) E).v52 (third (chan0 x) E).v55 (third (chan0 x) E).v63 (third (chan0 x) E).v71 (third (chan0 x) E).v80 (third (chan0 x) E).v88 (third (chan0 x) E).v96 (third (chan0 x) E).v98
      (c2 .f32 (powPair fre (f 0) (f 1))) = ((goal (spec f) : ℝ) : EReal) := by
  rw [pay60_at, pay59_real hE hf, total_real, kernel_whole, share_of, lit_share, lit_least, ← EReal.coe_strictMono.monotone.map_max, ← EReal.coe_mul]
  rfl

/-- and what is reached up to the middle of an interval. -/
theorem pay61_real (hE : Tabs E fre) (hf : Img (chan0 x) (f 2)) (l h : BitVec 32) :
    k0_pay61 (third (chan0 x) E).v52 (third (chan0 x) E).v55 (third (chan0 x) E).v63 (third (chan0 x) E).v71 (third (chan0 x) E).v80 (third (chan0 x) E).v88 (third (chan0 x) E).v96 (third (chan0 x) E).v98
      (c2 .f32 (powPair fre (f 0) (f 1))) (turn (clipE : FVec Ideal S512x512 .f32)) l h
      = ((∑ r : Fin 512, ∑ k : Fin 512, (if (clipI ((binE (F := Ideal)) (ix2 (placeE r) (placeE k)))).toInt ≤ (middle l h).toInt
          then powSum (powPair fre (f 0) (f 1)) fre (f 2) r k else 0) : ℝ) : EReal) := by
  rw [pay61_at, pay59_real hE hf, total_at, shapeCast_id, ← coe_sum]
  refine Finset.sum_congr rfl fun r _ => ?_
  rw [← coe_sum]
  refine Finset.sum_congr rfl fun k _ => ?_
  refine Eq.trans ?_ (sel_le _ (middle l h) _)
  rw [← clip_at, ← turn_at (clipE : FVec Ideal S512x512 .f32) r k]
  rfl

/-- The test of the search, as a function of the middle. -/
def hitF (f : Fin 3 → ℕ → ℕ → ℝ) (b : BitVec 32) : BitVec 1 :=
  BitVec.ofBool (decide (((goal (spec f) : ℝ) : EReal) ≤ ((∑ r : Fin 512, ∑ k : Fin 512, (if (clipI ((binE (F := Ideal)) (ix2 (placeE r) (placeE k)))).toInt ≤ b.toInt
          then powSum (powPair fre (f 0) (f 1)) fre (f 2) r k else 0) : ℝ) : EReal)))

theorem spec_nn (f : Fin 3 → ℕ → ℕ → ℝ) (v u : ℕ) : 0 ≤ spec f v u :=
  add_nonneg (add_nonneg (Complex.normSq_nonneg _) (Complex.normSq_nonneg _)) (Complex.normSq_nonneg _)

theorem hit_from (f : Fin 3 → ℕ → ℕ → ℝ) (b : BitVec 32) (h0 : -1 ≤ b.toInt) (h1 : b.toInt ≤ 99) :
    hitF f b = from' (firstBin (binE (F := Ideal)) (spec f)) b := by
  have key : goal (spec f) ≤ (∑ r : Fin 512, ∑ k : Fin 512, (if (clipI ((binE (F := Ideal)) (ix2 (placeE r) (placeE k)))).toInt ≤ b.toInt
          then powSum (powPair fre (f 0) (f 1)) fre (f 2) r k else 0)) ↔ (firstBin (binE (F := Ideal)) (spec f) : ℤ) ≤ b.toInt := by
    by_cases hb : b.toInt = -1
    · have e : (∑ r : Fin 512, ∑ k : Fin 512, (if (clipI ((binE (F := Ideal)) (ix2 (placeE r) (placeE k)))).toInt ≤ b.toInt
          then powSum (powPair fre (f 0) (f 1)) fre (f 2) r k else 0)) = 0 :=
        Finset.sum_eq_zero fun r _ => Finset.sum_eq_zero fun k _ => if_neg fun h => by
          have := clip_nonneg ((binE (F := Ideal)) (ix2 (placeE r) (placeE k))); omega
      rw [e]
      have := goal_pos (spec f)
      constructor
      · intro h; linarith
      · intro h; omega
    · have e : (∑ r : Fin 512, ∑ k : Fin 512, (if (clipI ((binE (F := Ideal)) (ix2 (placeE r) (placeE k)))).toInt ≤ b.toInt
          then powSum (powPair fre (f 0) (f 1)) fre (f 2) r k else 0)) = upto (binE (F := Ideal)) (spec f) b.toInt :=
        (Finset.sum_congr rfl fun r _ => Finset.sum_congr rfl fun k _ => if_congr (clip_le _ _ (by omega) h1) rfl rfl).trans (kernel_upto f _)
      rw [e]
      obtain ⟨j, hj⟩ := Int.eq_ofNat_of_zero_le (show 0 ≤ b.toInt by omega)
      rw [hj]
      refine (reached_iff (binE (F := Ideal)) (spec f) (spec_nn f) j (by omega)).trans ?_
      exact Nat.cast_le.symm
  unfold hitF from'
  by_cases h : (firstBin (binE (F := Ideal)) (spec f) : ℤ) ≤ b.toInt
  · rw [if_pos h, decide_eq_true (EReal.coe_le_coe_iff.mpr (key.mpr h))]; rfl
  · rw [if_neg h, decide_eq_false (fun h' => h (key.mp (EReal.coe_le_coe_iff.mp h')))]; rfl

theorem halve_real (hE : Tabs E fre) (hf : Img (chan0 x) (f 2)) (lh : BitVec 32 × BitVec 32) :
    halve (third (chan0 x) E) (c2 .f32 (powPair fre (f 0) (f 1))) (turn (clipE : FVec Ideal S512x512 .f32)) lh = step (hitF f) lh := by
  unfold halve
  simp only []
  rw [pay60_real hE hf, pay61_real hE hf]
  rfl

theorem last_bin : ∀ k : Fin 101, IntOp.minsi (BitVec.ofNat 32 k.val) 99#32 = BitVec.ofNat 32 (min k.val 99) := by decide +kernel

/-- The radius of a bin. -/
theorem pay6_at (k : ℕ) (hk : k ≤ 99) (w : FVec Ideal S100 .f32) (j : S1x1x1.Idx) :
    k0_pay6 (Scalar.sitofp (F := Ideal) .f32 (BitVec.ofNat 32 k)) (shapeCast S1x1x128 (padOf w : FVec Ideal S128 .f32) shapeCasts_S128_S1x1x128) j = w (ix1 ⟨k, by omega⟩) := by
  pointwise [k0_pay6, padOf]
  rw [show (((BitVec.ofNat 32 k).toInt : ℝ) : EReal) = ((k : ℝ) : EReal) from whole (by omega), Fin.sum_univ_one]
  refine (congrArg₂ (· + ·) (Finset.sum_eq_single (⟨k, by omega⟩ : Fin 100) (fun b _ hb => if_neg fun h => ?_) fun h => absurd (Finset.mem_univ _) h)
    (Finset.sum_eq_zero fun b _ => if_neg fun h => ?_)).trans ?_
  · rw [whole (by omega)] at h
    exact hb (Fin.ext (by exact_mod_cast h))
  · rw [whole (by omega)] at h
    have h2 : 100 + b.val = k := by exact_mod_cast h
    omega
  · show (if _ then _ else _) + (0 : EReal) = _
    rw [if_pos (whole (by omega)), add_zero]

/-- The cut-off radius. -/
theorem cutoff_real (hE : Tabs E fre) (hf : Img (chan0 x) (f 2)) (j : S1x1x1.Idx) :
    cutoff x E (c2 .f32 (powPair fre (f 0) (f 1))) (turn (clipE : FVec Ideal S512x512 .f32)) (shapeCast S1x1x128 (padOf midE : FVec Ideal S128 .f32) shapeCasts_S128_S1x1x128) j
      = (midE : FVec Ideal S100 .f32) (ix1 ⟨min (firstBin (binE (F := Ideal)) (spec f)) 99, by omega⟩) := by
  unfold cutoff
  simp only [halve_real hE hf]
  rw [search (hitF f) (firstBin (binE (F := Ideal)) (spec f)) (firstBin_le _ _) (hit_from f)]
  refine Eq.trans ?_ (pay6_at (min (firstBin (binE (F := Ideal)) (spec f)) 99) (by omega) midE j)
  have e := last_bin ⟨firstBin (binE (F := Ideal)) (spec f), Nat.lt_succ_of_le (firstBin_le _ _)⟩
  rw [← e]
  rfl
end

end Cert.KernelIdeal.Hand
-- ==== Proof.RefPow.lean ====
/-
  The reference's power of every frequency, over the extended reals.
-/
module

public import proofs.«01_k».proof.Proof.Ref
public import proofs.«01_k».proof.Proof.Lits
public import proofs.«01_k».proof.Proof.Fourier
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen
open Cert.KernelIdeal.Hand (ang W dft spec c2 coe_sum whole lit_256 lit_512 lit_two acos_pi quot)
open Idealize.ShloMosaic

/-- The array of the reals `f b c r k`. -/
def c4 (f : ℕ → ℕ → ℕ → ℕ → ℝ) : FVec Ideal S16x3x512x512 .f32 := fun i => ((f (i 0).val (i 1).val (i 2).val (i 3).val : ℝ) : EReal)
/-- The reals `f b r k`. -/
def c3 (f : ℕ → ℕ → ℕ → ℝ) : FVec Ideal S16x512x512 .f32 := fun i => ((f (i 0).val (i 1).val (i 2).val : ℝ) : EReal)

theorem ang_real : (angR : FVec Ideal S512x512 .f32) = c2 .f32 ang := by
  funext i
  pointwise [angR, freqR, c2]
  rw [whole (by omega), whole (by omega), acos_pi, lit_two, lit_256, lit_512, ← EReal.coe_mul, quot _ _ (by norm_num), ← EReal.coe_sub, ← EReal.coe_mul, ← EReal.coe_mul]
  congr 1

theorem along_real (f : ℕ → ℕ → ℕ → ℕ → ℝ) (t : ℕ → ℕ → ℝ) :
    alongR (c4 f) (c2 .f32 t) = c4 fun b c r k => ∑ n : Fin 512, f b c r n * t k n := by
  funext j
  pointwise [alongR, c4, c2]
  rw [← coe_sum]
  exact Finset.sum_congr rfl fun n _ => (EReal.coe_mul _ _).symm

theorem across_real (f : ℕ → ℕ → ℕ → ℕ → ℝ) (t : ℕ → ℕ → ℝ) :
    acrossR (c2 .f32 t) (c4 f) = c4 fun b c r k => ∑ n : Fin 512, t r n * f b c n k := by
  funext j
  pointwise [acrossR, c4, c2]
  rw [← coe_sum]
  exact Finset.sum_congr rfl fun n _ => (EReal.coe_mul _ _).symm

theorem add_real (f g : ℕ → ℕ → ℕ → ℕ → ℝ) : addf (c4 f) (c4 g) = c4 fun b c r k => f b c r k + g b c r k := rfl
theorem sub_real (f g : ℕ → ℕ → ℕ → ℕ → ℝ) : subf (c4 f) (c4 g) = c4 fun b c r k => f b c r k - g b c r k := rfl
theorem mul_real (f g : ℕ → ℕ → ℕ → ℕ → ℝ) : mulf (c4 f) (c4 g) = c4 fun b c r k => f b c r k * g b c r k := rfl
theorem neg_real (f : ℕ → ℕ → ℕ → ℕ → ℝ) : Host.negf (c4 f) = c4 fun b c r k => -f b c r k := by
  funext j; pointwise [c4]
  exact (EReal.coe_neg _).symm

/-- The transform of a real image by its real and imaginary parts. -/
theorem dft_parts (f : ℕ → ℕ → ℝ) (v u : ℕ) : dft f 0 v u =
    ⟨(∑ n : Fin 512, Real.cos (ang v n) * ∑ k : Fin 512, f n k * Real.cos (ang u k)) + ∑ n : Fin 512, Real.sin (ang v n) * -∑ k : Fin 512, f n k * Real.sin (ang u k),
     (∑ n : Fin 512, Real.cos (ang v n) * -∑ k : Fin 512, f n k * Real.sin (ang u k)) - ∑ n : Fin 512, Real.sin (ang v n) * ∑ k : Fin 512, f n k * Real.cos (ang u k)⟩ := by
  have h : ∀ a : ℕ, (∑ b : Fin 512, (⟨f a b, (0 : ℕ → ℕ → ℝ) a b⟩ : ℂ) * W u b) = ⟨∑ k : Fin 512, f a k * Real.cos (ang u k), -∑ k : Fin 512, f a k * Real.sin (ang u k)⟩ := fun a => by
    apply Complex.ext
    · simp [Complex.re_sum, W]
    · simp [Complex.im_sum, W]
  unfold dft
  simp only [h]
  apply Complex.ext
  · simp only [Complex.re_sum, Complex.mul_re, W, ← Finset.sum_add_distrib]
    exact Finset.sum_congr rfl fun n _ => by ring
  · simp only [Complex.im_sum, Complex.mul_im, W, ← Finset.sum_sub_distrib]
    exact Finset.sum_congr rfl fun n _ => by ring

theorem sq_real (f : ℕ → ℕ → ℕ → ℕ → ℝ) : sqR (c2 .f32 fun k n => Real.cos (ang k n)) (c2 .f32 fun k n => Real.sin (ang k n))
      (alongR (c4 f) (c2 .f32 fun k n => Real.cos (ang k n))) (Host.negf (alongR (c4 f) (c2 .f32 fun k n => Real.sin (ang k n))))
    = c4 fun b c v u => Complex.normSq (dft (f b c) 0 v u) := by
  unfold sqR
  rw [along_real, along_real, neg_real, across_real, across_real, across_real, across_real, add_real, sub_real, mul_real, mul_real, add_real]
  congr 1
  funext b c v u
  rw [dft_parts, Complex.normSq_mk]

/-- The power is that of the transform. -/
theorem pow_real (f : ℕ → ℕ → ℕ → ℕ → ℝ) :
    powR (c4 f) (Host.cos (angR : FVec Ideal S512x512 .f32)) (Host.sin (angR : FVec Ideal S512x512 .f32)) = c3 fun b => spec fun i => f b i := by
  have e : powR (c4 f) (Host.cos (angR : FVec Ideal S512x512 .f32)) (Host.sin (angR : FVec Ideal S512x512 .f32))
      = powR (c4 f) (c2 .f32 fun k n => Real.cos (ang k n)) (c2 .f32 fun k n => Real.sin (ang k n)) := by rw [ang_real]; rfl
  rw [e]
  unfold powR
  rw [sq_real]
  funext j
  pointwise [c3, c4, spec]
  rw [coe_sum, Fin.sum_univ_three]
  rfl

end Cert.ReferenceIdeal.Hand
-- ==== Proof.RefCut.lean ====
/-
  The reference's results, read at an index: the first bin that reaches its share, its radius, and the masks.
-/
module

public import proofs.«01_k».proof.Proof.RefPow
public import proofs.«01_k».proof.Proof.First
public import Idealize.ShloMosaic.Lib.Routing.OpsSet

@[expose] public section

set_option maxRecDepth 16384

noncomputable section

namespace Cert.ReferenceIdeal.Hand

open Cert.ReferenceIdeal Cert.ReferenceIdeal.Gen
open Cert.KernelIdeal.Hand (ang W dft spec c2 coe_sum whole share least lit_share lit_least whole' upto goal Reached firstBin reached_iff firstBin_le)
open Idealize.ShloMosaic

theorem sel_sle (x : BitVec 32) (j : ℕ) (hj : j < 2 ^ 31) (r : ℝ) :
    Scalar.select (IntOp.cmpi .sle x (BitVec.ofNat 32 j)) (r : EReal) 0 = ((if x.toInt ≤ (j : ℤ) then r else 0 : ℝ) : EReal) := by
  unfold Scalar.select IntOp.cmpi
  by_cases h : x.toInt ≤ (j : ℤ)
  · simp [BitVec.sle, StableHlo.Predicate.toInt_ofNat_small _ hj, h]
  · simp [BitVec.sle, StableHlo.Predicate.toInt_ofNat_small _ hj, h]

theorem cum_real (b : IVec S512x512 32) (g : ℕ → ℕ → ℕ → ℝ) (i : S16x100.Idx) : cumR (uptoR b) (c3 g) i = ((upto b (g (i 0).val) ((i 1).val : ℤ) : ℝ) : EReal) := by
  pointwise [cumR, uptoR, c3]
  have hj : (i 1).val < 2 ^ 31 := lt_trans (show (i 1).val < 100 from (i 1).isLt) (by norm_num)
  unfold upto
  rw [← coe_sum]
  refine Finset.sum_congr rfl fun v _ => ?_
  rw [← coe_sum]
  exact Finset.sum_congr rfl fun u _ => sel_sle _ _ hj _

theorem thr_real (g : ℕ → ℕ → ℕ → ℝ) (i : S16x1.Idx) : thrR (c3 g) i = ((goal (g (i 0).val) : ℝ) : EReal) := by
  pointwise [thrR, c3]
  simp only [coe_sum]
  rw [lit_share, lit_least, ← EReal.coe_strictMono.monotone.map_max, ← EReal.coe_mul]
  rfl

theorem least_from : ∀ k : Fin 101, Finset.fold IntOp.minsi (2147483647#32) (fun x : Fin 100 => if k.val ≤ x.val then BitVec.ofNat 32 x.val else 99#32) Finset.univ
    = BitVec.ofNat 32 (min k.val 99) := by decide +kernel

theorem first_real (b : IVec S512x512 32) (g : ℕ → ℕ → ℕ → ℝ) (hg : ∀ a v u, 0 ≤ g a v u) (i : S16.Idx) :
    firstR (cumR (uptoR b) (c3 g)) (thrR (c3 g)) i = BitVec.ofNat 32 (min (firstBin b (g (i 0).val)) 99) := by
  pointwise [firstR]
  simp only [cum_real, thr_real]
  refine Eq.trans ?_ (least_from ⟨firstBin b (g (i 0).val), Nat.lt_succ_of_le (firstBin_le _ _)⟩)
  refine congrArg (fun f => Finset.fold IntOp.minsi (2147483647#32) f (Finset.univ : Finset (Fin 100))) (funext fun x => ?_)
  refine if_congr ?_ rfl rfl
  refine Iff.trans ?_ (reached_iff b (g (i 0).val) (hg _) x.val (by omega))
  exact EReal.coe_le_coe_iff

theorem pick_at (r : FVec Ideal S100 .f32) (k : IVec S16 32) (i : Fin 16) (n : Fin 100) (h : k (ix1 i) = BitVec.ofNat 32 n.val) : pickR r k (ix1 i) = r (ix1 n) := by
  unfold pickR
  refine Routing.gather_take1 gather_S100_S16x1_S16_n_0_n_n_0_1_1 rfl rfl rfl rfl r _ i n ?_ (by norm_num)
  pointwise
  rw [h]
  have : IntOp.cmpi .slt (BitVec.ofNat 32 n.val) 0#32 = 0#1 := by
    unfold IntOp.cmpi; simp [BitVec.slt, StableHlo.Predicate.toInt_ofNat_small _ (show n.val < 2 ^ 31 by omega)]
    rw [decide_eq_false (by omega)]; rfl
  rw [this]; rfl

theorem spec_nonneg (f : Fin 3 → ℕ → ℕ → ℝ) (v u : ℕ) : 0 ≤ spec f v u :=
  add_nonneg (add_nonneg (Complex.normSq_nonneg _) (Complex.normSq_nonneg _)) (Complex.normSq_nonneg _)

/-- The radius of an image of reals: that of the first bin that reaches its share of the power. -/
theorem cut_real (f : ℕ → ℕ → ℕ → ℕ → ℝ) (i : Fin 16) :
    cutR (c4 f) (ix1 i) = midR (edgeR topR (constant (F := Ideal) S_ .f32 0x00000000#32))
      (ix1 ⟨min (firstBin (binR (F := Ideal)) (spec fun c => f i.val c)) 99, by omega⟩) := by
  unfold cutR
  rw [pow_real]
  exact pick_at _ _ i _ (first_real _ _ (fun a => spec_nonneg _) (ix1 i))

theorem in_at (rad : FVec Ideal S512x512 .f32) (d : FVec Ideal S16 .f32) (i : S16x1x512x512.Idx) :
    inR rad d i = FloatOps.uitofp (F := Ideal) FTy.f32 (BitVec.ofBool (decide (rad (ix2 (i 2) (i 3)) ≤ d (ix1 (i 0))))) := by
  pointwise [inR]
theorem out_at (rad : FVec Ideal S512x512 .f32) (d : FVec Ideal S16 .f32) (i : S16x1x512x512.Idx) :
    outR (inR rad d) i = 1 - FloatOps.uitofp (F := Ideal) FTy.f32 (BitVec.ofBool (decide (rad (ix2 (i 2) (i 3)) ≤ d (ix1 (i 0))))) := by
  pointwise [outR, inR]

end Cert.ReferenceIdeal.Hand
-- ==== Proof.Join.lean ====
/-
  What both programs compute alike: the radii, the bins and the masks.
-/
module

public import proofs.«01_k».proof.Proof.Cutoff
public import proofs.«01_k».proof.Proof.RefCut
public import proofs.«01_k».proof.Proof.Values
public import proofs.«01_k».proof.Proof.Host
public import Idealize.ShloMosaic.Lib.Pointwise

@[expose] public section

set_option maxRecDepth 16384

noncomputable section

namespace Cert.KernelIdeal.Hand

open Cert.KernelIdeal Cert.KernelIdeal.Gen
open Idealize.ShloMosaic

/-! The two programs scale the frequencies and cut the bins alike. -/

theorem same_rad : (Cert.ReferenceIdeal.Hand.radR : FVec Ideal S512x512 .f32) = radE := rfl
theorem same_top : (Cert.ReferenceIdeal.Hand.topR : FVec Ideal S_ .f32) = topE := by
  unfold Cert.ReferenceIdeal.Hand.topR topE; rw [same_rad]
theorem same_bin : Cert.ReferenceIdeal.Hand.binR (F := Ideal) = binE (F := Ideal) := by
  unfold Cert.ReferenceIdeal.Hand.binR binE; rw [same_rad, same_top]
theorem same_mid : (Cert.ReferenceIdeal.Hand.midR (Cert.ReferenceIdeal.Hand.edgeR Cert.ReferenceIdeal.Hand.topR (constant (F := Ideal) S_ .f32 0x00000000#32)) : FVec Ideal S100 .f32) = midE := by
  unfold midE midOf Cert.ReferenceIdeal.Hand.midR
  rw [same_top]; rfl

/-- A one-bit word as a number, read without its sign or widened first. -/
theorem bit_float (w : BitVec 1) : FloatOps.sitofp (F := Ideal) FTy.f32 (w.setWidth 32) = FloatOps.uitofp (F := Ideal) FTy.f32 w := by
  show (((w.setWidth 32).toInt : ℝ) : EReal) = ((w.toNat : ℝ) : EReal)
  have : ∀ w : BitVec 1, (w.setWidth 32).toInt = (w.toNat : ℤ) := by decide
  rw [this]; norm_cast

theorem low_at (d : FVec Ideal S1x1x1 .f32) (rr : FVec Ideal S512x512 .f32) (j : S1x1x512x512.Idx) :
    maskLow (F := Ideal) d rr j = FloatOps.uitofp (F := Ideal) FTy.f32 (BitVec.ofBool (decide (rr (ix2 (j 2) (j 3)) ≤ d (ix3 0 0 0)))) := by
  rw [← bit_float]
  pointwise [maskLow, k0_pay9, k0_pay63, k0_pay8]
theorem high_at (d : FVec Ideal S1x1x1 .f32) (rr : FVec Ideal S512x512 .f32) (j : S1x1x512x512.Idx) :
    maskHigh (F := Ideal) d rr j = (1 : EReal) - FloatOps.uitofp (F := Ideal) FTy.f32 (BitVec.ofBool (decide (rr (ix2 (j 2) (j 3)) ≤ d (ix3 0 0 0)))) := by
  rw [← bit_float]
  pointwise [maskHigh, k0_pay10, k0_pay63, k0_pay8]

end Cert.KernelIdeal.Hand
-- ==== Proof.Images.lean ====
/-
  The entries of the blocks the masked inverse transforms leave: those of the image of the kept frequencies, and of
  the image of the others.
-/
module

public import proofs.«01_k».proof.Proof.Spectrum
public import proofs.«01_k».proof.Proof.Bins
public import proofs.«01_k».proof.Proof.Join

@[expose] public section

set_option maxRecDepth 16384

noncomputable section

namespace Cert.KernelIdeal.Hand

open Cert.KernelIdeal Cert.KernelIdeal.Gen
open Idealize.ShloMosaic

/-- One at the frequencies within a radius, zero at the others. -/
def maskR (d : EReal) : ℕ → ℕ → ℝ := fun v u =>
  if h : v < 512 ∧ u < 512 then ((BitVec.ofBool (decide ((radE : FVec Ideal S512x512 .f32) (ix2 ⟨v, h.1⟩ ⟨u, h.2⟩) ≤ d))).toNat : ℝ) else 0

theorem maskR_at (d : EReal) (v u : Fin 512) : maskR d v u = ((BitVec.ofBool (decide ((radE : FVec Ideal S512x512 .f32) (ix2 v u) ≤ d))).toNat : ℝ) := by
  unfold maskR; rw [dif_pos ⟨v.isLt, u.isLt⟩]
theorem maskR_opp (d : EReal) (v u : Fin 512) : maskR d (opp v) (opp u) = maskR d v u := by
  refine (maskR_at d (oppE v) (oppE u)).trans ?_
  rw [rad_opp, maskR_at]

theorem pay64_real (d : Vec Ideal S1x1x1 .f32) : k0_pay64 d (turn (radE : FVec Ideal S512x512 .f32)) = c2 .f32 fun r k => maskR (d (ix3 0 0 0)) (place r) (place k) := by
  funext j
  obtain ⟨a, b, rfl⟩ : ∃ a b : Fin 512, j = ix2 a b := ⟨j 0, j 1, ValueIdx.eq_ix2 j⟩
  show _ = ((maskR (d (ix3 0 0 0)) (placeE a) (placeE b) : ℝ) : EReal)
  rw [maskR_at, ← turn_at (radE : FVec Ideal S512x512 .f32) a b]
  refine Eq.trans ?_ (bit_float _)
  pointwise [k0_pay64, k0_pay63]
theorem pay97_real (d : Vec Ideal S1x1x1 .f32) : k0_pay97 d (turn (radE : FVec Ideal S512x512 .f32)) = c2 .f32 fun r k => maskR (d (ix3 0 0 0)) (place r) (place k) := by
  funext j
  obtain ⟨a, b, rfl⟩ : ∃ a b : Fin 512, j = ix2 a b := ⟨j 0, j 1, ValueIdx.eq_ix2 j⟩
  show _ = ((maskR (d (ix3 0 0 0)) (placeE a) (placeE b) : ℝ) : EReal)
  rw [maskR_at, ← turn_at (radE : FVec Ideal S512x512 .f32) a b]
  refine Eq.trans ?_ (bit_float _)
  pointwise [k0_pay97, k0_pay63]

theorem lit_unit : (Scalar.ofBits .f32 0x36800000#32 : Ideal .f32) = ((1 / 262144 : ℝ) : EReal) := by
  show Ideal.ofBits .f32 0x36800000#32 = _
  simp [Ideal.ofBits, Ideal.ieee, -EReal.coe_mul]; norm_num

section
variable (p : Inv Ideal) (G : Fin 12 → Vec Ideal S768x256 .bf16) (v : Vec Ideal S1x1x512x512 .f32) (y x : Fin 512)

theorem high0_at : high0 p G v (ix4 0 0 y x) = v (ix4 0 0 y x) - low0 p G (ix4 0 0 y x) := by
  unfold high0 low0 k0_pay96 k0_pay94
  generalize k0_pay92 (F := Ideal) _ _ _ = z
  pointwise
theorem high1_at : high1 p G v (ix4 0 0 y x) = v (ix4 0 0 y x) - low1 p G (ix4 0 0 y x) := by
  unfold high1 low1 k0_pay7 k0_pay95
  generalize k0_pay93 (F := Ideal) _ _ _ _ _ _ _ = z
  pointwise
theorem high2_at : high2 p G v (ix4 0 0 y x) = v (ix4 0 0 y x) - low2 p G (ix4 0 0 y x) := by
  unfold high2 low2 k0_pay11 k0_pay117 k0_pay118
  generalize k0_pay116 (F := Ideal) _ _ _ _ _ _ _ = z
  pointwise
end

section
variable {E : Fin 12 → Vec Ideal S256x768 .bf16} {G : Fin 12 → Vec Ideal S768x256 .bf16} (hE : Tabs E fre) (hG : TabsG G gre)
  {f g : ℕ → ℕ → ℝ} (z : Vec Ideal S1x2x512x512 .f32) (d : Vec Ideal S1x1x1 .f32) (y x : Fin 512)
include hE hG

theorem low0_image (hf : Img (chan0 z) f) (hg : Img (chan1 z) g) :
    low0 (invPair d (turn (radE : FVec Ideal S512x512 .f32)) (pairRe z E) (pairIm z E) G) G (ix4 0 0 y x) = ((image (maskR (d (ix3 0 0 0))) f y x : ℝ) : EReal) := by
  rw [invPair_real hG (pay64_real d) (pairRe_real hE z hf hg) (pairIm_real hE z hf hg), low0_real hG _ lit_unit]
  have h := congrArg Complex.re (stages_pair (f := f) (g := g) (maskR_opp (d (ix3 0 0 0))) y x)
  pointwise [c2, scaled, image]
  dsimp only at h
  rw [h, mul_one_div]
theorem low1_image (hf : Img (chan0 z) f) (hg : Img (chan1 z) g) :
    low1 (invPair d (turn (radE : FVec Ideal S512x512 .f32)) (pairRe z E) (pairIm z E) G) G (ix4 0 0 y x) = ((image (maskR (d (ix3 0 0 0))) g y x : ℝ) : EReal) := by
  rw [invPair_real hG (pay64_real d) (pairRe_real hE z hf hg) (pairIm_real hE z hf hg), low1_real hG _ lit_unit]
  have h := congrArg Complex.im (stages_pair (f := f) (g := g) (maskR_opp (d (ix3 0 0 0))) y x)
  pointwise [c2, scaled, image]
  dsimp only at h
  rw [h, mul_one_div]
theorem low2_image (hf : Img (chan0 z) f) :
    low2 (invThird d (turn (radE : FVec Ideal S512x512 .f32)) (thirdRe z E) (thirdIm z E) G) G (ix4 0 0 y x) = ((image (maskR (d (ix3 0 0 0))) f y x : ℝ) : EReal) := by
  rw [invThird_real hG (pay97_real d) (thirdRe_real hE z hf) (thirdIm_real hE z hf), low2_real hG _ lit_unit]
  have h := stages_third (f := f) (maskR_opp (d (ix3 0 0 0))) y x
  pointwise [c2, scaled, image]
  rw [h, mul_one_div]
end

/-- The rest of an image, as an entry. -/
theorem rest_at (μ f : ℕ → ℕ → ℝ) (y x : Fin 512) {a b : EReal} (ha : a = ((f y x : ℝ) : EReal)) (hb : b = ((image μ f y x : ℝ) : EReal)) :
    a - b = ((image (fun v u => 1 - μ v u) f y x : ℝ) : EReal) := by
  rw [ha, hb, ← EReal.coe_sub, image_rest μ f y.isLt x.isLt]

end Cert.KernelIdeal.Hand
-- ==== Proof.Tables.lean ====
/-
  The factors of the kernel's transform over the extended reals.
-/
module

public import proofs.«01_k».proof.Proof.Lits
public import proofs.«01_k».proof.Proof.Fourier
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

/-! The factors. -/

theorem ang_at (r k : Fin 256) : (angE : FVec Ideal S256x256 .f32) (ix2 r k) = ((-ang (2 * r) k : ℝ) : EReal) := by
  pointwise [angE, piE, lineE]
  rw [whole (by omega), whole (by omega), acos_pi, lit_neg_two, lit_256, lit_128, ← EReal.coe_mul, quot _ _ (by norm_num), ← EReal.coe_sub, ← EReal.coe_mul, ← EReal.coe_mul]
  congr 1
  unfold ang; push_cast; ring

theorem odd_at (k : Fin 256) : (oddE : FVec Ideal S256 .f32) (ix1 k) = ((2 * Real.pi * k / 512 : ℝ) : EReal) := by
  pointwise [oddE, piE, lineE]
  rw [whole (by omega), acos_pi, lit_two, lit_512, ← EReal.coe_mul, ← EReal.coe_mul, quot _ _ (by norm_num)]

theorem W_odd (r k : ℕ) : W (2 * r + 1) k = ⟨Real.cos (2 * Real.pi * k / 512) * Real.cos (-ang (2 * r) k) + Real.sin (2 * Real.pi * k / 512) * Real.sin (-ang (2 * r) k),
    Real.cos (2 * Real.pi * k / 512) * Real.sin (-ang (2 * r) k) - Real.sin (2 * Real.pi * k / 512) * Real.cos (-ang (2 * r) k)⟩ := by
  have h : ang (2 * r + 1) k = 2 * Real.pi * k / 512 - (-ang (2 * r) k) := by unfold ang; push_cast; ring
  unfold W
  rw [h, Real.cos_sub, Real.sin_sub]
  congr 1
  ring

theorem base_at (j : Fin 6) (r k : Fin 256) : (baseE j : FVec Ideal S256x256 .f32) (ix2 r k) = ((fre ⟨j, by omega⟩ r k : ℝ) : EReal) := by
  have h0 : ((-ang (2 * r.val) k.val : ℝ) : EReal) = ((-ang (2 * r) k : ℝ) : EReal) := rfl
  fin_cases j
  · show Ideal.cos ((angE : FVec Ideal S256x256 .f32) (ix2 r k)) = _
    rw [ang_at, Ideal.cos_coe]; simp [fre, W]
  · show Ideal.sin ((angE : FVec Ideal S256x256 .f32) (ix2 r k)) = _
    rw [ang_at, Ideal.sin_coe]; simp [fre, W]
  · show Ideal.cos ((angE : FVec Ideal S256x256 .f32) (ix2 r k)) + Ideal.sin ((angE : FVec Ideal S256x256 .f32) (ix2 r k)) = _
    rw [ang_at, Ideal.cos_coe, Ideal.sin_coe, ← EReal.coe_add]; simp [fre, W]
  · show Ideal.cos ((oddE : FVec Ideal S256 .f32) (ix1 k)) * Ideal.cos ((angE : FVec Ideal S256x256 .f32) (ix2 r k))
      + Ideal.sin ((oddE : FVec Ideal S256 .f32) (ix1 k)) * Ideal.sin ((angE : FVec Ideal S256x256 .f32) (ix2 r k)) = _
    rw [ang_at, odd_at]; simp only [Ideal.cos_coe, Ideal.sin_coe, ← EReal.coe_mul, ← EReal.coe_add]
    show _ = (((W (2 * r + 1) k).re : ℝ) : EReal)
    rw [W_odd]
  · show Ideal.cos ((oddE : FVec Ideal S256 .f32) (ix1 k)) * Ideal.sin ((angE : FVec Ideal S256x256 .f32) (ix2 r k))
      - Ideal.sin ((oddE : FVec Ideal S256 .f32) (ix1 k)) * Ideal.cos ((angE : FVec Ideal S256x256 .f32) (ix2 r k)) = _
    rw [ang_at, odd_at]; simp only [Ideal.cos_coe, Ideal.sin_coe, ← EReal.coe_mul, ← EReal.coe_sub]
    show _ = (((W (2 * r + 1) k).im : ℝ) : EReal)
    rw [W_odd]
  · show (Ideal.cos ((oddE : FVec Ideal S256 .f32) (ix1 k)) * Ideal.cos ((angE : FVec Ideal S256x256 .f32) (ix2 r k))
      + Ideal.sin ((oddE : FVec Ideal S256 .f32) (ix1 k)) * Ideal.sin ((angE : FVec Ideal S256x256 .f32) (ix2 r k)))
      + (Ideal.cos ((oddE : FVec Ideal S256 .f32) (ix1 k)) * Ideal.sin ((angE : FVec Ideal S256x256 .f32) (ix2 r k))
      - Ideal.sin ((oddE : FVec Ideal S256 .f32) (ix1 k)) * Ideal.cos ((angE : FVec Ideal S256x256 .f32) (ix2 r k))) = _
    rw [ang_at, odd_at]; simp only [Ideal.cos_coe, Ideal.sin_coe, ← EReal.coe_mul, ← EReal.coe_sub, ← EReal.coe_add]
    show _ = (((W (2 * r + 1) k).re + (W (2 * r + 1) k).im : ℝ) : EReal)
    rw [W_odd]

theorem fst_real (x : FVec Ideal S256x256 .f32) (e : ℕ → ℕ → ℝ) (h : ∀ r k : Fin 256, x (ix2 r k) = ((e r k : ℝ) : EReal)) : fstE x = tabRow e := by
  obtain rfl : x = c2 .f32 e := funext fun i => (congrArg x (ValueIdx.eq_ix2 i)).trans (h (i 0) (i 1))
  funext i
  pointwise [fstE, restE, tabRow, c2]
  split_ifs <;> first | rfl | omega | (simp [sub_self]; done) | (congr 3; omega)

theorem snd_real (x : FVec Ideal S256x256 .f32) (e : ℕ → ℕ → ℝ) (h : ∀ r k : Fin 256, x (ix2 r k) = ((e r k : ℝ) : EReal)) : sndE x = tabCol e := by
  obtain rfl : x = c2 .f32 e := funext fun i => (congrArg x (ValueIdx.eq_ix2 i)).trans (h (i 0) (i 1))
  funext i
  pointwise [sndE, restE, tabCol, c2]
  split_ifs <;> first | rfl | omega | (simp [sub_self]; done) | (congr 3; omega)

variable (m : (ℓ : Loc nD τ sig) → Buf (Elt Ideal) ℓ) (c : Dev nD)

theorem tabs : Tabs (tabF m c) fre where
  t0 := (tabF_fst m c 0).trans (fst_real _ _ (base_at 0))
  t1 := (tabF_fst m c 1).trans (fst_real _ _ (base_at 1))
  t2 := (tabF_fst m c 2).trans (fst_real _ _ (base_at 2))
  t3 := (tabF_fst m c 3).trans (fst_real _ _ (base_at 3))
  t4 := (tabF_fst m c 4).trans (fst_real _ _ (base_at 4))
  t5 := (tabF_fst m c 5).trans (fst_real _ _ (base_at 5))
  t6 := (tabF_snd m c 0).trans (snd_real _ _ (base_at 0))
  t7 := (tabF_snd m c 1).trans (snd_real _ _ (base_at 1))
  t8 := (tabF_snd m c 2).trans (snd_real _ _ (base_at 2))
  t9 := (tabF_snd m c 3).trans (snd_real _ _ (base_at 3))
  t10 := (tabF_snd m c 4).trans (snd_real _ _ (base_at 4))
  t11 := (tabF_snd m c 5).trans (snd_real _ _ (base_at 5))

end Cert.KernelIdeal.Hand
-- ==== Proof.HostInv.lean ====
/-
  The inverse transform's tables as the host operations before the grid build them.
-/
module

public import proofs.«01_k».proof.Proof.Host

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

/-- The six tables: real part, imaginary part and their difference, conjugated for the odd frequencies. -/
def backE : Fin 6 → FVec F S256x256 .f32
  | 0 => Host.cos angE
  | 1 => Host.sin angE
  | 2 => subf (Host.cos angE) (Host.sin angE)
  | 3 => baseE 3
  | 4 => Host.negf (baseE 4)
  | 5 => subf (baseE 3) (baseE 4)
/-- A table as the first stage takes it, and as the second. -/
def fstG (x : FVec F S256x256 .f32) : FVec F S768x256 .bf16 :=
  concatenate S768x256 0 [⟨S256x256, (truncf .bf16 x bitsLt_bf16_f32 : FVec F S256x256 .bf16)⟩, ⟨S256x256, (truncf .bf16 x bitsLt_bf16_f32 : FVec F S256x256 .bf16)⟩, ⟨S256x256, restE x⟩]
    concatenates_S256x256_S256x256_S256x256_S768x256_d0
def sndG (x : FVec F S256x256 .f32) : FVec F S768x256 .bf16 :=
  concatenate S768x256 0 [⟨S256x256, (truncf .bf16 x bitsLt_bf16_f32 : FVec F S256x256 .bf16)⟩, ⟨S256x256, restE x⟩, ⟨S256x256, (truncf .bf16 x bitsLt_bf16_f32 : FVec F S256x256 .bf16)⟩]
    concatenates_S256x256_S256x256_S256x256_S768x256_d0

variable (m : (ℓ : Loc nD τ sig) → Buf (Elt F) ℓ) (c : Dev nD)

/-! What the last of the operations before the grid leave, whatever they start from. -/

section
variable (U : Valuation τ sig (Elt F))

set_option maxHeartbeats 4000000 in
theorem tab_v170 : StableHlo.after hostOps0_6 U (Proc.devRef .tc main_v170) = fstG (backE 0) := by
  unfold hostOps0_6; after_reads_simp; rfl
set_option maxHeartbeats 4000000 in
theorem tab_v175 : StableHlo.after hostOps0_6 U (Proc.devRef .tc main_v175) = fstG (backE 1) := by
  unfold hostOps0_6; after_reads_simp; rfl
set_option maxHeartbeats 4000000 in
theorem tab_v180 : StableHlo.after hostOps0_6 U (Proc.devRef .tc main_v180) = fstG (backE 2) := by
  unfold hostOps0_6; after_reads_simp; rfl
set_option maxHeartbeats 4000000 in
theorem tab_v185 : StableHlo.after hostOps0_6 U (Proc.devRef .tc main_v185) = fstG (backE 3) := by
  unfold hostOps0_6; after_reads_simp; rfl
set_option maxHeartbeats 4000000 in
theorem tab_v190 : StableHlo.after hostOps0_6 U (Proc.devRef .tc main_v190) = fstG (backE 4) := by
  unfold hostOps0_6; after_reads_simp; rfl
set_option maxHeartbeats 4000000 in
theorem tab_v195 : StableHlo.after hostOps0_6 U (Proc.devRef .tc main_v195) = fstG (backE 5) := by
  unfold hostOps0_6; after_reads_simp; rfl
set_option maxHeartbeats 4000000 in
theorem tab_v200 : StableHlo.after hostOps0_6 U (Proc.devRef .tc main_v200) = sndG (backE 0) := by
  unfold hostOps0_6; after_reads_simp; rfl
set_option maxHeartbeats 4000000 in
theorem tab_v205 : StableHlo.after hostOps0_6 U (Proc.devRef .tc main_v205) = sndG (backE 1) := by
  unfold hostOps0_6; after_reads_simp; rfl
set_option maxHeartbeats 4000000 in
theorem tab_v210 : StableHlo.after hostOps0_6 U (Proc.devRef .tc main_v210) = sndG (backE 2) := by
  unfold hostOps0_6; after_reads_simp; rfl
set_option maxHeartbeats 4000000 in
theorem tab_v215 : StableHlo.after hostOps0_6 U (Proc.devRef .tc main_v215) = sndG (backE 3) := by
  unfold hostOps0_6; after_reads_simp; rfl
set_option maxHeartbeats 4000000 in
theorem tab_v220 : StableHlo.after hostOps0_6 U (Proc.devRef .tc main_v220) = sndG (backE 4) := by
  unfold hostOps0_6; after_reads_simp; rfl
set_option maxHeartbeats 4000000 in
theorem tab_v225 : StableHlo.after hostOps0_6 U (Proc.devRef .tc main_v225) = sndG (backE 5) := by
  unfold hostOps0_6; after_reads_simp; rfl
end

theorem V_last (r : Ref sig .tc) (x : r.ty.Contents (Elt F)) (h : ∀ U : Valuation τ sig (Elt F), StableHlo.after hostOps0_6 U (Proc.devRef .tc r) = x) : V m c r = x := by
  unfold V V0
  simp only [List.flatten_cons, List.flatten_nil, List.append_nil, after_join]
  exact h _

theorem tabG_fst (k : Fin 6) : tabG m c ⟨k, by omega⟩ = fstG (backE k) := by
  fin_cases k
  exacts [(arr_eq m c 17).trans (V_last m c _ _ tab_v170), (arr_eq m c 18).trans (V_last m c _ _ tab_v175), (arr_eq m c 19).trans (V_last m c _ _ tab_v180),
    (arr_eq m c 20).trans (V_last m c _ _ tab_v185), (arr_eq m c 21).trans (V_last m c _ _ tab_v190), (arr_eq m c 22).trans (V_last m c _ _ tab_v195)]
theorem tabG_snd (k : Fin 6) : tabG m c ⟨6 + k, by omega⟩ = sndG (backE k) := by
  fin_cases k
  exacts [(arr_eq m c 23).trans (V_last m c _ _ tab_v200), (arr_eq m c 24).trans (V_last m c _ _ tab_v205), (arr_eq m c 25).trans (V_last m c _ _ tab_v210),
    (arr_eq m c 26).trans (V_last m c _ _ tab_v215), (arr_eq m c 27).trans (V_last m c _ _ tab_v220), (arr_eq m c 28).trans (V_last m c _ _ tab_v225)]

end Cert.KernelIdeal.Hand
-- ==== Proof.TablesInv.lean ====
/-
  The factors of the kernel's inverse transform over the extended reals.
-/
module

public import proofs.«01_k».proof.Proof.Tables
public import proofs.«01_k».proof.Proof.HostInv
public import proofs.«01_k».proof.Proof.Inverse

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

theorem back_at (j : Fin 6) (r k : Fin 256) : (backE j : FVec Ideal S256x256 .f32) (ix2 r k) = ((gre ⟨j, by omega⟩ r k : ℝ) : EReal) := by
  have h3 : (baseE 3 : FVec Ideal S256x256 .f32) (ix2 r k) = (((W (2 * r + 1) k).re : ℝ) : EReal) := base_at 3 r k
  have h4 : (baseE 4 : FVec Ideal S256x256 .f32) (ix2 r k) = (((W (2 * r + 1) k).im : ℝ) : EReal) := base_at 4 r k
  fin_cases j
  · show Ideal.cos ((angE : FVec Ideal S256x256 .f32) (ix2 r k)) = _
    rw [ang_at, Ideal.cos_coe]; simp [gre, W]
  · show Ideal.sin ((angE : FVec Ideal S256x256 .f32) (ix2 r k)) = _
    rw [ang_at, Ideal.sin_coe]; simp [gre, W]
  · show Ideal.cos ((angE : FVec Ideal S256x256 .f32) (ix2 r k)) - Ideal.sin ((angE : FVec Ideal S256x256 .f32) (ix2 r k)) = _
    rw [ang_at, Ideal.cos_coe, Ideal.sin_coe, ← EReal.coe_sub]; simp [gre, W]
  · exact h3
  · show -((baseE 4 : FVec Ideal S256x256 .f32) (ix2 r k)) = _
    rw [h4]; exact (EReal.coe_neg _).symm
  · show (baseE 3 : FVec Ideal S256x256 .f32) (ix2 r k) - (baseE 4 : FVec Ideal S256x256 .f32) (ix2 r k) = _
    rw [h3, h4]; exact (EReal.coe_sub _ _).symm

theorem fstG_real (x : FVec Ideal S256x256 .f32) (e : ℕ → ℕ → ℝ) (h : ∀ r k : Fin 256, x (ix2 r k) = ((e r k : ℝ) : EReal)) : fstG x = tabA e := by
  obtain rfl : x = c2 .f32 e := funext fun i => (congrArg x (ValueIdx.eq_ix2 i)).trans (h (i 0) (i 1))
  funext i
  pointwise [fstG, restE, tabA, c2]
  split_ifs <;> first | rfl | omega | (simp [sub_self]; done) | (congr 3; omega)

theorem sndG_real (x : FVec Ideal S256x256 .f32) (e : ℕ → ℕ → ℝ) (h : ∀ r k : Fin 256, x (ix2 r k) = ((e r k : ℝ) : EReal)) : sndG x = tabB e := by
  obtain rfl : x = c2 .f32 e := funext fun i => (congrArg x (ValueIdx.eq_ix2 i)).trans (h (i 0) (i 1))
  funext i
  pointwise [sndG, restE, tabB, c2]
  split_ifs <;> first | rfl | omega | (simp [sub_self]; done) | (congr 3; omega)

variable (m : (ℓ : Loc nD τ sig) → Buf (Elt Ideal) ℓ) (c : Dev nD)

theorem tabsG : TabsG (tabG m c) gre where
  t0 := (tabG_fst m c 0).trans (fstG_real _ _ (back_at 0))
  t1 := (tabG_fst m c 1).trans (fstG_real _ _ (back_at 1))
  t2 := (tabG_fst m c 2).trans (fstG_real _ _ (back_at 2))
  t3 := (tabG_fst m c 3).trans (fstG_real _ _ (back_at 3))
  t4 := (tabG_fst m c 4).trans (fstG_real _ _ (back_at 4))
  t5 := (tabG_fst m c 5).trans (fstG_real _ _ (back_at 5))
  t6 := (tabG_snd m c 0).trans (sndG_real _ _ (back_at 0))
  t7 := (tabG_snd m c 1).trans (sndG_real _ _ (back_at 1))
  t8 := (tabG_snd m c 2).trans (sndG_real _ _ (back_at 2))
  t9 := (tabG_snd m c 3).trans (sndG_real _ _ (back_at 3))
  t10 := (tabG_snd m c 4).trans (sndG_real _ _ (back_at 4))
  t11 := (tabG_snd m c 5).trans (sndG_real _ _ (back_at 5))

end Cert.KernelIdeal.Hand
-- ==== Proof.Final.lean ====
/-
  The arrays the program ends with: the images' radii and their two masks, each as the last of its image's four steps
  leaves it.
-/
module

public import proofs.«01_k».proof.Proof.Run
public import Idealize.ShloMosaic.Lib.Pipeline.ValueKit.Geometry
public import proofs.«01_k».proof.Proof.Host
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL Idealize.SL.Sem

variable {F : FTy → Type} [FloatOps F]
variable (m : (ℓ : Loc nD τ sig) → Buf (Elt F) ℓ) (ρ : Dev nD → PrngReg) (c : Dev nD)

theorem index_31 : ∀ (t : Fin cfg0.N) (a : Fin 3), (cfg0.win 31).index t a = (![t.val / 4, 0, 0] : Fin 3 → ℕ) a := by decide +kernel
theorem index_32 : ∀ (t : Fin cfg0.N) (a : Fin 4), (cfg0.win 32).index t a = (![t.val / 4, 0, 0, 0] : Fin 4 → ℕ) a := by decide +kernel
theorem index_33 : ∀ (t : Fin cfg0.N) (a : Fin 4), (cfg0.win 33).index t a = (![t.val / 4, 0, 0, 0] : Fin 4 → ℕ) a := by decide +kernel

/-- The radii, an image each, -/
def endRad : Vec F S16x1x1 .f32 := fun i => d0Of m c (4 * (i 0).val + 3) (ix3 0 0 0)
/-- and the masks. -/
def endLow : Vec F S16x1x512x512 .f32 := fun i => maskLow (d0Of m c (4 * (i 0).val + 3)) (rrTab m c) (ix4 0 0 (i 2) (i 3))
def endHigh : Vec F S16x1x512x512 .f32 := fun i => maskHigh (d0Of m c (4 * (i 0).val + 3)) (rrTab m c) (ix4 0 0 (i 2) (i 3))

theorem place_31 (t : Fin cfg0.N) (y : ((cfg0.win 31).xblock (cfg0.grid.coords t)).Idx) (a : Fin 3) :
    ((((cfg0.win 31).blk t).view.emb y) a : ℕ) = (![t.val / 4, 0, 0] : Fin 3 → ℕ) a * (cfg0.win 31).size a + y a := by
  rw [← index_31 t a]; exact (cfg0.win 31).rect_emb_val t y a
theorem final_31 : (dats m 0 c).arrAt 31 cfg0.N = endRad m c := by
  refine (dats m 0 c).arrAt_eq_of_covers 31 _ (by decide +kernel) fun t hf y => ?_
  blk_simp
  rw [after_31]
  have h3 := (flush0_31 t).mp hf
  have e0 := place_31 t y 0
  have y0 : (y 0 : ℕ) < 1 := (y 0).isLt
  have y1 : (y 1 : ℕ) < 1 := (y 1).isLt
  have y2 : (y 2 : ℕ) < 1 := (y 2).isLt
  change _ = t.val / 4 * 1 + (y 0 : ℕ) at e0
  unfold endRad
  refine congr (congrArg (d0Of m c) (show t.val = 4 * ((((cfg0.win 31).blk t).view.emb y) 0 : ℕ) + 3 by omega)) (funext fun a => Fin.ext ?_)
  fin_cases a
  · show (y 0 : ℕ) = 0; omega
  · show (y 1 : ℕ) = 0; omega
  · show (y 2 : ℕ) = 0; omega
theorem place_32 (t : Fin cfg0.N) (y : ((cfg0.win 32).xblock (cfg0.grid.coords t)).Idx) (a : Fin 4) :
    ((((cfg0.win 32).blk t).view.emb y) a : ℕ) = (![t.val / 4, 0, 0, 0] : Fin 4 → ℕ) a * (cfg0.win 32).size a + y a := by
  rw [← index_32 t a]; exact (cfg0.win 32).rect_emb_val t y a
theorem final_32 : (dats m 0 c).arrAt 32 cfg0.N = endLow m c := by
  refine (dats m 0 c).arrAt_eq_of_covers 32 _ (by decide +kernel) fun t hf y => ?_
  blk_simp
  rw [after_32]
  have h3 := (flush0_32 t).mp hf
  have e0 := place_32 t y 0
  have e2 := place_32 t y 2
  have e3 := place_32 t y 3
  have y0 : (y 0 : ℕ) < 1 := (y 0).isLt
  have y1 : (y 1 : ℕ) < 1 := (y 1).isLt
  change _ = t.val / 4 * 1 + (y 0 : ℕ) at e0
  change _ = 0 * 512 + (y 2 : ℕ) at e2
  change _ = 0 * 512 + (y 3 : ℕ) at e3
  unfold endLow
  refine congr (congrArg (fun n => maskLow (d0Of m c n) (rrTab m c)) (show t.val = 4 * ((((cfg0.win 32).blk t).view.emb y) 0 : ℕ) + 3 by omega)) (funext fun a => Fin.ext ?_)
  fin_cases a
  · show (y 0 : ℕ) = 0; omega
  · show (y 1 : ℕ) = 0; omega
  · refine Eq.trans ?_ e2.symm; show (y 2 : ℕ) = _; omega
  · refine Eq.trans ?_ e3.symm; show (y 3 : ℕ) = _; omega
theorem place_33 (t : Fin cfg0.N) (y : ((cfg0.win 33).xblock (cfg0.grid.coords t)).Idx) (a : Fin 4) :
    ((((cfg0.win 33).blk t).view.emb y) a : ℕ) = (![t.val / 4, 0, 0, 0] : Fin 4 → ℕ) a * (cfg0.win 33).size a + y a := by
  rw [← index_33 t a]; exact (cfg0.win 33).rect_emb_val t y a
theorem final_33 : (dats m 0 c).arrAt 33 cfg0.N = endHigh m c := by
  refine (dats m 0 c).arrAt_eq_of_covers 33 _ (by decide +kernel) fun t hf y => ?_
  blk_simp
  rw [after_33]
  have h3 := (flush0_33 t).mp hf
  have e0 := place_33 t y 0
  have e2 := place_33 t y 2
  have e3 := place_33 t y 3
  have y0 : (y 0 : ℕ) < 1 := (y 0).isLt
  have y1 : (y 1 : ℕ) < 1 := (y 1).isLt
  change _ = t.val / 4 * 1 + (y 0 : ℕ) at e0
  change _ = 0 * 512 + (y 2 : ℕ) at e2
  change _ = 0 * 512 + (y 3 : ℕ) at e3
  unfold endHigh
  refine congr (congrArg (fun n => maskHigh (d0Of m c n) (rrTab m c)) (show t.val = 4 * ((((cfg0.win 33).blk t).view.emb y) 0 : ℕ) + 3 by omega)) (funext fun a => Fin.ext ?_)
  fin_cases a
  · show (y 0 : ℕ) = 0; omega
  · show (y 1 : ℕ) = 0; omega
  · refine Eq.trans ?_ e2.symm; show (y 2 : ℕ) = _; omega
  · refine Eq.trans ?_ e3.symm; show (y 3 : ℕ) = _; omega

/-- The operation after the grid gives the radii their own shape. -/
theorem tail_read (U : Valuation τ sig (Elt F)) :
    StableHlo.after hostOps1 U (Proc.devRef .tc main_v227) = shapeCast S16 (U (Proc.devRef .tc main_v226_2)) shapeCasts_S16x1x1_S16 := by
  unfold hostOps1
  after_reads_simp
  rfl

end Cert.KernelIdeal.Hand
-- ==== Proof.FinalImages.lean ====
/-
  The two arrays of images the program ends with: of each image two channels as its third step leaves them, and the
  last as its fourth does.
-/
module

public import proofs.«01_k».proof.Proof.Final

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL Idealize.SL.Sem

variable {F : FTy → Type} [FloatOps F]
variable (m : (ℓ : Loc nD τ sig) → Buf (Elt F) ℓ) (ρ : Dev nD → PrngReg) (c : Dev nD)

/-- The point that leaves a channel of an image, and the channel's place in what it leaves. -/
def whenC (b d : ℕ) : Fin cfg0.N := pt (4 * b + if d < 2 then 2 else 3)
def whereC (d : ℕ) : Fin 2 := if d = 1 then 1 else 0

theorem index_29 : ∀ (t : Fin cfg0.N) (a : Fin 4), (cfg0.win 29).index t a = (![t.val / 4, t.val % 4 - 2, 0, 0] : Fin 4 → ℕ) a := by decide +kernel
theorem index_30 : ∀ (t : Fin cfg0.N) (a : Fin 4), (cfg0.win 30).index t a = (![t.val / 4, t.val % 4 - 2, 0, 0] : Fin 4 → ℕ) a := by decide +kernel

/-- The images of the frequencies outside, and of those inside. -/
def endHighImage : Vec F S16x3x512x512 .f32 := fun i => highAt m c (whenC (i 0).val (i 1).val) (ix4 0 (whereC (i 1).val) (i 2) (i 3))
def endLowImage : Vec F S16x3x512x512 .f32 := fun i => lowAt m c (whenC (i 0).val (i 1).val) (ix4 0 (whereC (i 1).val) (i 2) (i 3))

theorem when_eq (t : Fin cfg0.N) (h : 2 ≤ t.val % 4) (b d y : ℕ) (hb : b = t.val / 4) (hd : d = (t.val % 4 - 2) * 2 + y) (hy : y < if t.val % 4 = 3 then 1 else 2) :
    t = whenC b d ∧ y = (whereC d : ℕ) := by
  have hN : cfg0.N = 64 := N_0
  have ht := t.isLt
  unfold whenC whereC pt
  by_cases h3 : t.val % 4 = 3
  · rw [if_pos h3] at hy
    have : d = 2 := by omega
    subst this
    refine ⟨Fin.ext ?_, ?_⟩
    · show t.val = (4 * b + 3) % 64; omega
    · show y = 0; omega
  · rw [if_neg h3] at hy
    have : d = y := by omega
    subst this
    refine ⟨Fin.ext ?_, ?_⟩
    · show t.val = (4 * b + if d < 2 then 2 else 3) % 64
      rw [if_pos (by omega)]; omega
    · by_cases h1 : d = 1
      · rw [if_pos h1, h1]; rfl
      · rw [if_neg h1]; show d = 0; omega

theorem place_29 (t : Fin cfg0.N) (y : ((cfg0.win 29).xblock (cfg0.grid.coords t)).Idx) (a : Fin 4) :
    ((((cfg0.win 29).blk t).view.emb y) a : ℕ) = (![t.val / 4, t.val % 4 - 2, 0, 0] : Fin 4 → ℕ) a * (cfg0.win 29).size a + y a := by
  rw [← index_29 t a]; exact (cfg0.win 29).rect_emb_val t y a
theorem final_29 : (dats m 0 c).arrAt 29 cfg0.N = endHighImage m c := by
  refine (dats m 0 c).arrAt_eq_of_covers 29 _ (by decide +kernel) fun t hf y => ?_
  blk_simp
  rw [after_29]
  rw [flush_29, decide_eq_true_iff] at hf
  have e0 := place_29 t y 0
  have e1 := place_29 t y 1
  have e2 := place_29 t y 2
  have e3 := place_29 t y 3
  have y0 : (y 0 : ℕ) < 1 := lt_of_lt_of_eq (y 0).isLt (xsize_29 t 0)
  have y1 : (y 1 : ℕ) < if t.val % 4 = 3 then 1 else 2 := lt_of_lt_of_eq (y 1).isLt (xsize_29 t 1)
  change _ = t.val / 4 * 1 + (y 0 : ℕ) at e0
  change _ = (t.val % 4 - 2) * 2 + (y 1 : ℕ) at e1
  change _ = 0 * 512 + (y 2 : ℕ) at e2
  change _ = 0 * 512 + (y 3 : ℕ) at e3
  obtain ⟨h1, h2⟩ := when_eq t hf _ _ _ (show ((((cfg0.win 29).blk t).view.emb y) 0 : ℕ) = t.val / 4 by omega) e1 y1
  unfold endHighImage
  refine congr (congrArg (highAt m c) h1) (funext fun a => Fin.ext ?_)
  fin_cases a
  · show (y 0 : ℕ) = 0; omega
  · exact h2
  · refine Eq.trans ?_ e2.symm; show (y 2 : ℕ) = _; omega
  · refine Eq.trans ?_ e3.symm; show (y 3 : ℕ) = _; omega
theorem place_30 (t : Fin cfg0.N) (y : ((cfg0.win 30).xblock (cfg0.grid.coords t)).Idx) (a : Fin 4) :
    ((((cfg0.win 30).blk t).view.emb y) a : ℕ) = (![t.val / 4, t.val % 4 - 2, 0, 0] : Fin 4 → ℕ) a * (cfg0.win 30).size a + y a := by
  rw [← index_30 t a]; exact (cfg0.win 30).rect_emb_val t y a
theorem final_30 : (dats m 0 c).arrAt 30 cfg0.N = endLowImage m c := by
  refine (dats m 0 c).arrAt_eq_of_covers 30 _ (by decide +kernel) fun t hf y => ?_
  blk_simp
  rw [after_30]
  rw [flush_30, decide_eq_true_iff] at hf
  have e0 := place_30 t y 0
  have e1 := place_30 t y 1
  have e2 := place_30 t y 2
  have e3 := place_30 t y 3
  have y0 : (y 0 : ℕ) < 1 := lt_of_lt_of_eq (y 0).isLt (xsize_30 t 0)
  have y1 : (y 1 : ℕ) < if t.val % 4 = 3 then 1 else 2 := lt_of_lt_of_eq (y 1).isLt (xsize_30 t 1)
  change _ = t.val / 4 * 1 + (y 0 : ℕ) at e0
  change _ = (t.val % 4 - 2) * 2 + (y 1 : ℕ) at e1
  change _ = 0 * 512 + (y 2 : ℕ) at e2
  change _ = 0 * 512 + (y 3 : ℕ) at e3
  obtain ⟨h1, h2⟩ := when_eq t hf _ _ _ (show ((((cfg0.win 30).blk t).view.emb y) 0 : ℕ) = t.val / 4 by omega) e1 y1
  unfold endLowImage
  refine congr (congrArg (lowAt m c) h1) (funext fun a => Fin.ext ?_)
  fin_cases a
  · show (y 0 : ℕ) = 0; omega
  · exact h2
  · refine Eq.trans ?_ e2.symm; show (y 2 : ℕ) = _; omega
  · refine Eq.trans ?_ e3.symm; show (y 3 : ℕ) = _; omega

/-- The program ends with the images, the radii and the masks. -/
theorem ends : θ_run defs (onTc (τ := τ) (main (F := F))) ⟨m, fun _ => 0, ρ⟩ (fun r => ∀ c : Dev nD,
      r.2.mem ((c.tc : Thread nD τ).loc main_v226_0) = endHighImage m c
      ∧ r.2.mem ((c.tc : Thread nD τ).loc main_v226_1) = endLowImage m c
      ∧ r.2.mem ((c.tc : Thread nD τ).loc main_v227) = shapeCast S16 (endRad m c) shapeCasts_S16x1x1_S16
      ∧ r.2.mem ((c.tc : Thread nD τ).loc main_v226_3) = endLow m c
      ∧ r.2.mem ((c.tc : Thread nD τ).loc main_v226_4) = endHigh m c
      ∧ r.2.mem ((c.tc : Thread nD τ).loc main_arg0) = m ((c.tc : Thread nD τ).loc main_arg0)) := by
  refine (θ_run defs _ _).mono (fun r h c => ⟨?_, ?_, ?_, ?_, ?_, ?_⟩) (runs m ρ)
  · exact ((h c).1 29).trans (final_29 m c)
  · exact ((h c).1 30).trans (final_30 m c)
  · refine ((h c).2 main_v227 (by decide)).trans ?_
    unfold Pipeline.afterTail₀
    simp only [List.flatten_cons, List.flatten_nil, List.append_nil]
    rw [tail_read]
    refine congrArg (fun v => shapeCast S16 v shapeCasts_S16x1x1_S16) ?_
    exact (Pipeline.withArrays_arr spec0 launch0.win.arr_inj c _ _ 31).trans (final_31 m c)
  · exact ((h c).1 32).trans (final_32 m c)
  · exact ((h c).1 33).trans (final_33 m c)
  · exact ((h c).1 0).trans (((dats m 0 c).arrAt_in 0 rfl _).trans ((A_eq m c 0).trans (V_main_arg0 m c)))

end Cert.KernelIdeal.Hand
-- ==== Proof.Operand.lean ====
/-
  The image blocks that the launch reads, channel by channel, where the images are real numbers.
-/
module

public import proofs.«01_k».proof.Proof.Dats
public import proofs.«01_k».proof.Proof.BodyBase
public import proofs.«01_k».proof.Proof.Power
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

theorem img0 (x : Vec Ideal S1x2x512x512 .f32) (f : ℕ → ℕ → ℝ) (h : ∀ r k : Fin 512, x (ix4 0 0 r k) = ((f r.val k.val : ℝ) : EReal)) :
    Img (chan0 x) f := by
  unfold Img chan0; funext j; pointwise [c2]; exact h _ _
theorem img1 (x : Vec Ideal S1x2x512x512 .f32) (f : ℕ → ℕ → ℝ) (h : ∀ r k : Fin 512, x (ix4 0 1 r k) = ((f r.val k.val : ℝ) : EReal)) :
    Img (chan1 x) f := by
  unfold Img chan1; funext j; pointwise [c2]; exact h _ _

theorem index_0 : ∀ (t : Fin cfg0.N) (a : Fin 4), (cfg0.win 0).index t a = (![t.val / 4, t.val % 2, 0, 0] : Fin 4 → ℕ) a := by decide +kernel

section Any
variable {F : FTy → Type} [FloatOps F]
variable (m : (ℓ : Loc nD τ sig) → Buf (Elt F) ℓ) (c : Dev nD)

theorem read_0 (t : Fin cfg0.N) (X : Vec F S16x3x512x512 .f32) (j : ((cfg0.win 0).xblock (cfg0.grid.coords t)).Idx) (i : S16x3x512x512.Idx)
    (h : ∀ a : Fin 4, (cfg0.win 0).index t a * (cfg0.win 0).size a + (j a : ℕ) = (i a : ℕ)) : ((cfg0.win 0).blk t).view.read (Elt F) X j = X i :=
  congrArg X (funext fun a => Fin.ext (((cfg0.win 0).rect_emb_val t j a).trans (h a)))
theorem iblk_at (t : Fin cfg0.N) (j : ((cfg0.win 0).xblock (cfg0.grid.coords t)).Idx) (i : S16x3x512x512.Idx)
    (h : ∀ a : Fin 4, (cfg0.win 0).index t a * (cfg0.win 0).size a + (j a : ℕ) = (i a : ℕ)) : iblk m c 0 t j = m ((c.tc : Thread nD τ).loc main_arg0) i := by
  have e := read_0 t (V m c main_arg0) j i h
  rw [V_main_arg0] at e
  rw [← e, ← V_main_arg0 m c]
  rfl

/-- A point's block holds, where the array has it, the channels `2 (t % 2)` and `2 (t % 2) + 1` of image `t / 4`. -/
theorem xblk_at (t : Fin cfg0.N) (ch : Fin 2) (r k : Fin 512) (b : Fin 16) (d : Fin 3) (hb : b.val = t.val / 4) (hd : d.val = 2 * (t.val % 2) + ch.val) :
    xblk m c t (ix4 0 ch r k) = m ((c.tc : Thread nD τ).loc main_arg0) (ix4 b d r k) := by
  have hm : (cfg0.win 0).moved (cfg0.grid.coords t) (ix4 0 ch r k : S1x2x512x512.Idx) = true :=
    ((cfg0.win 0).moved_iff _ _).mpr fun a => by
      rw [xsize_0 t a]
      have h2 := r.isLt; have h3 := k.isLt; have h1 := ch.isLt; have h4 := d.isLt
      fin_cases a
      · show 0 < 1; omega
      · show ch.val < if t.val % 2 = 0 then 2 else 1; split <;> omega
      · exact h2
      · exact h3
  unfold xblk Pipeline.Window.fill
  refine (dif_pos hm).trans (iblk_at m c t _ (ix4 b d r k) fun a => ?_)
  rw [index_0 t a]
  fin_cases a
  · show t.val / 4 * 1 + 0 = b.val; omega
  · show t.val % 2 * 2 + ch.val = d.val; omega
  · show 0 * 512 + r.val = r.val; omega
  · show 0 * 512 + k.val = k.val; omega

end Any

variable (m : (ℓ : Loc nD τ sig) → Buf (Elt Ideal) ℓ) (c : Dev nD) (b : Fin 16)

/-! The channels the pair's and the third's points of image `b` hold. -/

theorem pair_0 (r k : Fin 512) : xpair m c (4 * b.val + 3) (ix4 (n0 := 1) (n1 := 2) 0 0 r k) = m ((c.tc : Thread nD τ).loc main_arg0) (ix4 (n0 := 16) (n1 := 3) b 0 r k) := by
  unfold xpair
  refine xblk_at m c _ 0 r k b 0 ?_ ?_
  · show b.val = 4 * ((4 * b.val + 3) / 4) % 64 / 4; omega
  · show 0 = 2 * (4 * ((4 * b.val + 3) / 4) % 64 % 2) + 0; omega
theorem pair_1 (r k : Fin 512) : xpair m c (4 * b.val + 3) (ix4 (n0 := 1) (n1 := 2) 0 1 r k) = m ((c.tc : Thread nD τ).loc main_arg0) (ix4 (n0 := 16) (n1 := 3) b 1 r k) := by
  unfold xpair
  refine xblk_at m c _ 1 r k b 1 ?_ ?_
  · show b.val = 4 * ((4 * b.val + 3) / 4) % 64 / 4; omega
  · show 1 = 2 * (4 * ((4 * b.val + 3) / 4) % 64 % 2) + 1; omega
theorem third_0 (r k : Fin 512) : xthird m c (4 * b.val + 3) (ix4 (n0 := 1) (n1 := 2) 0 0 r k) = m ((c.tc : Thread nD τ).loc main_arg0) (ix4 (n0 := 16) (n1 := 3) b 2 r k) := by
  unfold xthird
  refine xblk_at m c _ 0 r k b 2 ?_ ?_
  · show b.val = (4 * ((4 * b.val + 3) / 4) + 1) % 64 / 4; omega
  · show 2 = 2 * ((4 * ((4 * b.val + 3) / 4) + 1) % 64 % 2) + 0; omega

variable (f : ℕ → ℕ → ℕ → ℕ → ℝ)
variable (hx : ∀ d r k, m ((c.tc : Thread nD τ).loc main_arg0) (ix4 (n0 := 16) (n1 := 3) (n2 := 512) (n3 := 512) b d r k) = ((f b.val d.val r.val k.val : ℝ) : EReal))
include hx

theorem pair_img0 : Img (chan0 (xpair m c (4 * b.val + 3))) (f b.val 0) := img0 _ _ fun r k => (pair_0 m c b r k).trans (hx 0 r k)
theorem pair_img1 : Img (chan1 (xpair m c (4 * b.val + 3))) (f b.val 1) := img1 _ _ fun r k => (pair_1 m c b r k).trans (hx 1 r k)
theorem third_img0 : Img (chan0 (xthird m c (4 * b.val + 3))) (f b.val 2) := img0 _ _ fun r k => (third_0 m c b r k).trans (hx 2 r k)

end Cert.KernelIdeal.Hand
-- ==== Proof.Far.lean ====
/-
  Infinite values: what sums and products make of them.
-/
module

public import proofs.«01_k».proof.Proof.First

@[expose] public section

noncomputable section

namespace Cert.KernelIdeal.Hand

open Idealize.ShloMosaic

/-- A value that is no real number. -/
def Far (v : EReal) : Prop := v = ⊤ ∨ v = ⊥

theorem real_of_near {v : EReal} (h : ¬ Far v) : v = ((v.toReal : ℝ) : EReal) :=
  (EReal.coe_toReal (fun e => h (Or.inl e)) (fun e => h (Or.inr e))).symm

theorem Far.add {a : EReal} (h : Far a) (b : EReal) : Far (a + b) := by
  rcases h with rfl | rfl
  · by_cases hb : b = ⊥
    · right; rw [hb, EReal.add_bot]
    · left; exact EReal.top_add_of_ne_bot hb
  · right; exact EReal.bot_add b
theorem Far.add' {b : EReal} (h : Far b) (a : EReal) : Far (a + b) := by rw [add_comm]; exact h.add a
theorem Far.neg {a : EReal} (h : Far a) : Far (-a) := by
  rcases h with rfl | rfl
  · right; rfl
  · left; rfl
theorem Far.sub {a : EReal} (h : Far a) (b : EReal) : Far (a - b) := by rw [sub_eq_add_neg]; exact h.add _
theorem Far.sub' {b : EReal} (h : Far b) (a : EReal) : Far (a - b) := by rw [sub_eq_add_neg]; exact h.neg.add' _
theorem Far.mul {a : EReal} (h : Far a) {r : ℝ} (hr : r ≠ 0) : Far (a * (r : EReal)) := by
  rcases h with rfl | rfl <;> rcases lt_or_gt_of_ne hr with h' | h'
  · right; exact EReal.top_mul_coe_of_neg h'
  · left; exact EReal.top_mul_coe_of_pos h'
  · left; exact EReal.bot_mul_coe_of_neg h'
  · right; exact EReal.bot_mul_coe_of_pos h'
theorem Far.mul' {a : EReal} (h : Far a) {r : ℝ} (hr : r ≠ 0) : Far ((r : EReal) * a) := by rw [mul_comm]; exact h.mul hr
theorem Far.sum {ι : Type} {s : Finset ι} (t : ι → EReal) {i : ι} (hi : i ∈ s) (h : Far (t i)) : Far (∑ k ∈ s, t k) := by
  classical
  rw [← Finset.add_sum_erase s t hi]; exact h.add _
theorem Far.sq {a : EReal} (h : Far a) : a * a = ⊤ := by
  rcases h with rfl | rfl
  · exact EReal.top_mul_top
  · exact EReal.bot_mul_bot
theorem sq_nn (a : EReal) : 0 ≤ a * a := by
  by_cases h : Far a
  · rw [h.sq]; exact le_top
  · rw [real_of_near h, ← EReal.coe_mul]; exact_mod_cast mul_self_nonneg _
theorem top_plus {b : EReal} (h : 0 ≤ b) : ⊤ + b = (⊤ : EReal) :=
  EReal.top_add_of_ne_bot fun e => by rw [e] at h; exact absurd h (by decide)
theorem plus_top {b : EReal} (h : 0 ≤ b) : b + ⊤ = (⊤ : EReal) := by rw [add_comm]; exact top_plus h

/-- The real and the imaginary part by three products: one infinite product makes one of them infinite. -/
theorem three {p q s : EReal} (h : Far p ∨ Far q ∨ Far s) : Far (p - q) ∨ Far (s - p - q) := by
  rcases h with h | h | h
  · exact Or.inl (h.sub _)
  · exact Or.inl (h.sub' _)
  · exact Or.inr ((h.sub _).sub _)

/-- The squares of the two parts. -/
theorem square_top {p q : EReal} (h : Far p ∨ Far q) : p * p + q * q = ⊤ := by
  rcases h with h | h
  · rw [h.sq]; exact top_plus (sq_nn _)
  · rw [h.sq]; exact plus_top (sq_nn _)

/-- A sum of infinities over the places a condition holds of. -/
theorem sum_top {a b : ℕ} (c : Fin a → Fin b → Prop) [∀ r k, Decidable (c r k)] :
    (⊤ : EReal) ≤ (∑ r, ∑ k, if c r k then ⊤ else 0) ↔ ∃ r k, c r k := by
  have nn : ∀ r k, (0 : EReal) ≤ if c r k then ⊤ else 0 := fun r k => by split_ifs <;> simp
  constructor
  · intro h
    by_contra hn
    rw [Finset.sum_eq_zero fun r _ => Finset.sum_eq_zero fun k _ => if_neg fun hc => hn ⟨r, k, hc⟩] at h
    exact absurd h (by simp)
  · rintro ⟨r, k, h⟩
    calc (⊤ : EReal) = if c r k then ⊤ else 0 := (if_pos h).symm
      _ ≤ ∑ k, if c r k then ⊤ else 0 := Finset.single_le_sum (f := fun k => if c r k then (⊤ : EReal) else 0) (fun k _ => nn r k) (Finset.mem_univ k)
      _ ≤ _ := Finset.single_le_sum (f := fun r => ∑ k, if c r k then (⊤ : EReal) else 0) (fun r _ => Finset.sum_nonneg fun k _ => nn r k) (Finset.mem_univ r)

theorem sum_all_top {a b : ℕ} (r : Fin a) (k : Fin b) : (∑ r : Fin a, ∑ k : Fin b, (⊤ : EReal)) = ⊤ := by
  refine top_le_iff.mp ?_
  have h := (sum_top (fun (_ : Fin a) (_ : Fin b) => True)).mpr ⟨r, k, trivial⟩
  simpa only [if_true] using h

open Classical in
/-- The first bin with a frequency up to it, 100 if there is none before. -/
def firstOcc (b : (⟨2, ![512, 512]⟩ : Shape).Idx → BitVec 32) : ℕ :=
  Nat.find (p := fun k => k = 100 ∨ ∃ v u : Fin 512, (b (ix2 v u)).toInt ≤ (k : ℤ)) ⟨100, Or.inl rfl⟩
theorem firstOcc_le (b : (⟨2, ![512, 512]⟩ : Shape).Idx → BitVec 32) : firstOcc b ≤ 100 := by
  classical
  exact Nat.find_min' _ (Or.inl rfl)
theorem occ_iff (b : (⟨2, ![512, 512]⟩ : Shape).Idx → BitVec 32) (j : ℕ) (hj : j < 100) : (∃ v u : Fin 512, (b (ix2 v u)).toInt ≤ (j : ℤ)) ↔ firstOcc b ≤ j := by
  classical
  constructor
  · intro h; exact Nat.find_min' _ (Or.inr h)
  · intro h
    have hs : firstOcc b = 100 ∨ ∃ v u : Fin 512, (b (ix2 v u)).toInt ≤ ((firstOcc b : ℕ) : ℤ) :=
      Nat.find_spec (p := fun k => k = 100 ∨ ∃ v u : Fin 512, (b (ix2 v u)).toInt ≤ (k : ℤ)) ⟨100, Or.inl rfl⟩
    rcases hs with h' | ⟨v, u, h'⟩
    · omega
    · exact ⟨v, u, by omega⟩

/-- What is to be reached of an infinite power. -/
theorem goal_top : Ideal.ofBits .f32 1064514355#32 * max ⊤ (Ideal.ofBits .f32 730643660#32) = (⊤ : EReal) := by
  rw [lit_share, max_eq_left le_top]; exact EReal.coe_mul_top_of_pos share_pos

end Cert.KernelIdeal.Hand
-- ==== Proof.FarPower.lean ====
/-
  The kernel's power of an image with an infinite entry: infinite at every frequency.
-/
module

public import proofs.«01_k».proof.Proof.Far
public import proofs.«01_k».proof.Proof.Power
public import proofs.«01_k».proof.Proof.Fourier

@[expose] public section

set_option maxRecDepth 16384

noncomputable section

namespace Cert.KernelIdeal.Hand

open Cert.KernelIdeal Cert.KernelIdeal.Gen
open Idealize.ShloMosaic

/-- The product of the rows by a table, and of a table by the columns. -/
def mmR (A : FVec Ideal S512x256 .f32) (T : Vec Ideal S256x768 .bf16) : FVec Ideal S512x256 .f32 :=
  matmul (φ₂ := .bf16) dot_S512x768_S256x768_S512x256_1_1_0_0_n_n none
    (concatenate S512x768 1 [⟨S512x256, truncf .bf16 A bitsLt_bf16_f32⟩, ⟨S512x256, truncf .bf16 A bitsLt_bf16_f32⟩,
      ⟨S512x256, truncf .bf16 (subf A (extf .f32 (truncf .bf16 A bitsLt_bf16_f32) bitsLt_bf16_f32)) bitsLt_bf16_f32⟩] concatenates_S512x256_S512x256_S512x256_S512x768_d1)
    (shapeCast S256x768 T shapeCasts_S256x768_S256x768) (constant S512x256 .f32 0x00000000#32)
def mmC (T : Vec Ideal S256x768 .bf16) (A : FVec Ideal S256x512 .f32) : FVec Ideal S256x512 .f32 :=
  matmul (φ₁ := .bf16) dot_S256x768_S768x512_S256x512_1_0_0_1_n_n none (shapeCast S256x768 T shapeCasts_S256x768_S256x768)
    (concatenate S768x512 0 [⟨S256x512, truncf .bf16 A bitsLt_bf16_f32⟩,
      ⟨S256x512, truncf .bf16 (subf A (extf .f32 (truncf .bf16 A bitsLt_bf16_f32) bitsLt_bf16_f32)) bitsLt_bf16_f32⟩, ⟨S256x512, truncf .bf16 A bitsLt_bf16_f32⟩] concatenates_S256x512_S256x512_S256x512_S768x512_d0)
    (constant S256x512 .f32 0x00000000#32)

set_option maxHeartbeats 1000000 in
theorem mmR_far (A : FVec Ideal S512x256 .f32) (e : ℕ → ℕ → ℝ) (r : Fin 512) (k n : Fin 256) (h : Far (A (ix2 r n))) (he : e k n ≠ 0) :
    Far (mmR A (tabRow e) (ix2 r k)) := by
  unfold mmR
  rw [shapeCast_id]; pointwise [tabRow, c2]
  refine Far.sum _ (Finset.mem_univ (⟨n.val, by omega⟩ : Fin 768)) ?_
  have hn := n.isLt
  simpa using h.mul he
set_option maxHeartbeats 1000000 in
theorem mmC_far (A : FVec Ideal S256x512 .f32) (e : ℕ → ℕ → ℝ) (r n : Fin 256) (k : Fin 512) (h : Far (A (ix2 n k))) (he : e r n ≠ 0) :
    Far (mmC (tabCol e) A (ix2 r k)) := by
  unfold mmC
  rw [shapeCast_id]; pointwise [tabCol, c2]
  refine Far.sum _ (Finset.mem_univ (⟨n.val, by omega⟩ : Fin 768)) ?_
  have hn := n.isLt
  simpa using h.mul' he

/-- The sums and the differences of a matrix's halves. -/
def sumL (X : FVec Ideal S512x512 .f32) : FVec Ideal S512x256 .f32 :=
  addf (extractStridedSlice S512x256 ![0, 0] X slices_S512x512_o0_0_S512x256) (extractStridedSlice S512x256 ![0, 256] X slices_S512x512_o0_256_S512x256)
def difL (X : FVec Ideal S512x512 .f32) : FVec Ideal S512x256 .f32 :=
  subf (extractStridedSlice S512x256 ![0, 0] X slices_S512x512_o0_0_S512x256) (extractStridedSlice S512x256 ![0, 256] X slices_S512x512_o0_256_S512x256)
def sumT (X : FVec Ideal S512x512 .f32) : FVec Ideal S256x512 .f32 :=
  addf (extractStridedSlice S256x512 ![0, 0] X slices_S512x512_o0_0_S256x512) (extractStridedSlice S256x512 ![256, 0] X slices_S512x512_o256_0_S256x512)
def difT (X : FVec Ideal S512x512 .f32) : FVec Ideal S256x512 .f32 :=
  subf (extractStridedSlice S256x512 ![0, 0] X slices_S512x512_o0_0_S256x512) (extractStridedSlice S256x512 ![256, 0] X slices_S512x512_o256_0_S256x512)

theorem sumL_at (X : FVec Ideal S512x512 .f32) (r : Fin 512) (n : Fin 256) : sumL X (ix2 r n) = X (ix2 r (⟨n.val, by omega⟩ : Fin 512)) + X (ix2 r (⟨256 + n.val, by omega⟩ : Fin 512)) := by
  pointwise [sumL]
theorem difL_at (X : FVec Ideal S512x512 .f32) (r : Fin 512) (n : Fin 256) : difL X (ix2 r n) = X (ix2 r (⟨n.val, by omega⟩ : Fin 512)) - X (ix2 r (⟨256 + n.val, by omega⟩ : Fin 512)) := by
  pointwise [difL]
theorem sumT_at (X : FVec Ideal S512x512 .f32) (n : Fin 256) (k : Fin 512) : sumT X (ix2 n k) = X (ix2 (⟨n.val, by omega⟩ : Fin 512) k) + X (ix2 (⟨256 + n.val, by omega⟩ : Fin 512) k) := by
  pointwise [sumT]
theorem difT_at (X : FVec Ideal S512x512 .f32) (n : Fin 256) (k : Fin 512) : difT X (ix2 n k) = X (ix2 (⟨n.val, by omega⟩ : Fin 512) k) - X (ix2 (⟨256 + n.val, by omega⟩ : Fin 512) k) := by
  pointwise [difT]

/-- An index of the whole is one of the first or of the second half. -/
theorem half_of (n : Fin 512) : (∃ a : Fin 256, n = (⟨a.val, by omega⟩ : Fin 512)) ∨ ∃ a : Fin 256, n = (⟨256 + a.val, by omega⟩ : Fin 512) := by
  by_cases h : n.val < 256
  · exact Or.inl ⟨⟨n.val, h⟩, rfl⟩
  · exact Or.inr ⟨⟨n.val - 256, by omega⟩, Fin.ext (show n.val = 256 + (n.val - 256) by omega)⟩

theorem halfL_far (X : FVec Ideal S512x512 .f32) (r n : Fin 512) (h : Far (X (ix2 r n))) : ∃ a : Fin 256, Far (sumL X (ix2 r a)) ∧ Far (difL X (ix2 r a)) := by
  rcases half_of n with ⟨a, rfl⟩ | ⟨a, rfl⟩
  · exact ⟨a, by rw [sumL_at]; exact h.add _, by rw [difL_at]; exact h.sub _⟩
  · exact ⟨a, by rw [sumL_at]; exact h.add' _, by rw [difL_at]; exact h.sub' _⟩
theorem halfT_far (X : FVec Ideal S512x512 .f32) (n k : Fin 512) (h : Far (X (ix2 n k))) : ∃ a : Fin 256, Far (sumT X (ix2 a k)) ∧ Far (difT X (ix2 a k)) := by
  rcases half_of n with ⟨a, rfl⟩ | ⟨a, rfl⟩
  · exact ⟨a, by rw [sumT_at]; exact h.add _, by rw [difT_at]; exact h.sub _⟩
  · exact ⟨a, by rw [sumT_at]; exact h.add' _, by rw [difT_at]; exact h.sub' _⟩

/-- Tables of three products: the third is the sum of the two others, which are nowhere both zero. -/
structure Trio (p q s : ℕ → ℕ → ℝ) : Prop where
  sum : ∀ k n, s k n = p k n + q k n
  nz : ∀ k n, p k n ≠ 0 ∨ q k n ≠ 0

theorem W_trio (h : ℕ → ℕ) : Trio (fun k n => (W (h k) n).re) (fun k n => (W (h k) n).im) (fun k n => (W (h k) n).re + (W (h k) n).im) := by
  refine ⟨fun _ _ => rfl, fun k n => ?_⟩
  by_contra hc
  push Not at hc
  have h1 : Real.cos (ang (h k) n) = 0 := hc.1
  have h2 : -Real.sin (ang (h k) n) = 0 := hc.2
  have := Real.cos_sq_add_sin_sq (ang (h k) n)
  rw [h1, neg_eq_zero.mp h2] at this
  norm_num at this
theorem trio_0 : Trio (fre 0) (fre 1) (fre 2) := W_trio fun k => 2 * k
theorem trio_3 : Trio (fre 3) (fre 4) (fre 5) := W_trio fun k => 2 * k + 1
theorem trio_6 : Trio (fre 6) (fre 7) (fre 8) := W_trio fun k => 2 * k
theorem trio_9 : Trio (fre 9) (fre 10) (fre 11) := W_trio fun k => 2 * k + 1

theorem mmR_trio {p q s : ℕ → ℕ → ℝ} (t : Trio p q s) (A B : FVec Ideal S512x256 .f32) (r : Fin 512) (k n : Fin 256) (h : Far (A (ix2 r n)) ∨ Far (B (ix2 r n))) :
    Far (mmR A (tabRow p) (ix2 r k)) ∨ Far (mmR B (tabRow q) (ix2 r k)) ∨ Far (mmR (addf A B) (tabRow s) (ix2 r k)) := by
  have hs := t.sum k n
  rcases h with h | h
  · by_cases hp : p k n = 0
    · refine Or.inr (Or.inr (mmR_far _ s r k n (h.add _) ?_))
      rcases t.nz k n with hz | hz
      · exact absurd hp hz
      · rw [hs, hp, zero_add]; exact hz
    · exact Or.inl (mmR_far _ p r k n h hp)
  · by_cases hq : q k n = 0
    · refine Or.inr (Or.inr (mmR_far _ s r k n (h.add' _) ?_))
      rcases t.nz k n with hz | hz
      · rw [hs, hq, add_zero]; exact hz
      · exact absurd hq hz
    · exact Or.inr (Or.inl (mmR_far _ q r k n h hq))
theorem mmC_trio {p q s : ℕ → ℕ → ℝ} (t : Trio p q s) (A B : FVec Ideal S256x512 .f32) (r n : Fin 256) (k : Fin 512) (h : Far (A (ix2 n k)) ∨ Far (B (ix2 n k))) :
    Far (mmC (tabCol p) A (ix2 r k)) ∨ Far (mmC (tabCol q) B (ix2 r k)) ∨ Far (mmC (tabCol s) (addf A B) (ix2 r k)) := by
  have hs := t.sum r n
  rcases h with h | h
  · by_cases hp : p r n = 0
    · refine Or.inr (Or.inr (mmC_far _ s r n k (h.add _) ?_))
      rcases t.nz r n with hz | hz
      · exact absurd hp hz
      · rw [hs, hp, zero_add]; exact hz
    · exact Or.inl (mmC_far _ p r n k h hp)
  · by_cases hq : q r n = 0
    · refine Or.inr (Or.inr (mmC_far _ s r n k (h.add' _) ?_))
      rcases t.nz r n with hz | hz
      · rw [hs, hq, add_zero]; exact hz
      · exact absurd hq hz
    · exact Or.inr (Or.inl (mmC_far _ q r n k h hq))

/-- Two matrices side by side, and one above the other. -/
def besideI (A B : FVec Ideal S512x256 .f32) : FVec Ideal S512x512 .f32 := concatenate S512x512 1 [⟨S512x256, A⟩, ⟨S512x256, B⟩] concatenates_S512x256_S512x256_S512x512_d1
def aboveI (A B : FVec Ideal S256x512 .f32) : FVec Ideal S512x512 .f32 := concatenate S512x512 0 [⟨S256x512, A⟩, ⟨S256x512, B⟩] concatenates_S256x512_S256x512_S512x512_d0
theorem beside_l (A B : FVec Ideal S512x256 .f32) (r : Fin 512) (k : Fin 256) : besideI A B (ix2 r (⟨k.val, by omega⟩ : Fin 512)) = A (ix2 r k) := by
  pointwise [besideI]
theorem beside_r (A B : FVec Ideal S512x256 .f32) (r : Fin 512) (k : Fin 256) : besideI A B (ix2 r (⟨256 + k.val, by omega⟩ : Fin 512)) = B (ix2 r k) := by
  pointwise [besideI]
theorem above_t (A B : FVec Ideal S256x512 .f32) (r : Fin 256) (k : Fin 512) : aboveI A B (ix2 (⟨r.val, by omega⟩ : Fin 512) k) = A (ix2 r k) := by
  pointwise [aboveI]
theorem above_b (A B : FVec Ideal S256x512 .f32) (r : Fin 256) (k : Fin 512) : aboveI A B (ix2 (⟨256 + r.val, by omega⟩ : Fin 512) k) = B (ix2 r k) := by
  pointwise [aboveI]

/-- The two stages of the transform: of the rows of a pair, of the rows of one image, of the columns. -/
def pairR (E : Fin 12 → Vec Ideal S256x768 .bf16) (X Y : FVec Ideal S512x512 .f32) : FVec Ideal S512x512 .f32 :=
  besideI (subf (mmR (sumL X) (E 0)) (mmR (sumL Y) (E 1))) (subf (mmR (difL X) (E 3)) (mmR (difL Y) (E 4)))
def pairI (E : Fin 12 → Vec Ideal S256x768 .bf16) (X Y : FVec Ideal S512x512 .f32) : FVec Ideal S512x512 .f32 :=
  besideI (subf (subf (mmR (addf (sumL X) (sumL Y)) (E 2)) (mmR (sumL X) (E 0))) (mmR (sumL Y) (E 1)))
    (subf (subf (mmR (addf (difL X) (difL Y)) (E 5)) (mmR (difL X) (E 3))) (mmR (difL Y) (E 4)))
def oneR (E : Fin 12 → Vec Ideal S256x768 .bf16) (X : FVec Ideal S512x512 .f32) : FVec Ideal S512x512 .f32 := besideI (mmR (sumL X) (E 0)) (mmR (difL X) (E 3))
def oneI (E : Fin 12 → Vec Ideal S256x768 .bf16) (X : FVec Ideal S512x512 .f32) : FVec Ideal S512x512 .f32 := besideI (mmR (sumL X) (E 1)) (mmR (difL X) (E 4))
def colR (E : Fin 12 → Vec Ideal S256x768 .bf16) (X Y : FVec Ideal S512x512 .f32) : FVec Ideal S512x512 .f32 :=
  aboveI (subf (mmC (E 6) (sumT X)) (mmC (E 7) (sumT Y))) (subf (mmC (E 9) (difT X)) (mmC (E 10) (difT Y)))
def colI (E : Fin 12 → Vec Ideal S256x768 .bf16) (X Y : FVec Ideal S512x512 .f32) : FVec Ideal S512x512 .f32 :=
  aboveI (subf (subf (mmC (E 8) (addf (sumT X) (sumT Y))) (mmC (E 6) (sumT X))) (mmC (E 7) (sumT Y)))
    (subf (subf (mmC (E 11) (addf (difT X) (difT Y))) (mmC (E 9) (difT X))) (mmC (E 10) (difT Y)))

section
variable {E : Fin 12 → Vec Ideal S256x768 .bf16} (hE : Tabs E fre) (X Y : FVec Ideal S512x512 .f32)
include hE

theorem pair_far (r n : Fin 512) (h : Far (X (ix2 r n)) ∨ Far (Y (ix2 r n))) (k : Fin 512) : Far (pairR E X Y (ix2 r k)) ∨ Far (pairI E X Y (ix2 r k)) := by
  have hh : ∃ a : Fin 256, (Far (sumL X (ix2 r a)) ∨ Far (sumL Y (ix2 r a))) ∧ (Far (difL X (ix2 r a)) ∨ Far (difL Y (ix2 r a))) := by
    rcases h with h | h
    · obtain ⟨a, h1, h2⟩ := halfL_far X r n h; exact ⟨a, Or.inl h1, Or.inl h2⟩
    · obtain ⟨a, h1, h2⟩ := halfL_far Y r n h; exact ⟨a, Or.inr h1, Or.inr h2⟩
  obtain ⟨a, h1, h2⟩ := hh
  unfold pairR pairI
  rw [hE.t0, hE.t1, hE.t2, hE.t3, hE.t4, hE.t5]
  rcases half_of k with ⟨b, rfl⟩ | ⟨b, rfl⟩
  · rw [beside_l, beside_l]; exact three (mmR_trio trio_0 _ _ r b a h1)
  · rw [beside_r, beside_r]; exact three (mmR_trio trio_3 _ _ r b a h2)

theorem one_far (r n : Fin 512) (h : Far (X (ix2 r n))) (k : Fin 512) : Far (oneR E X (ix2 r k)) ∨ Far (oneI E X (ix2 r k)) := by
  obtain ⟨a, h1, h2⟩ := halfL_far X r n h
  unfold oneR oneI
  rw [hE.t0, hE.t1, hE.t3, hE.t4]
  rcases half_of k with ⟨b, rfl⟩ | ⟨b, rfl⟩
  · rw [beside_l, beside_l]
    exact (trio_0.nz b a).imp (mmR_far _ _ r b a h1) (mmR_far _ _ r b a h1)
  · rw [beside_r, beside_r]
    exact (trio_3.nz b a).imp (mmR_far _ _ r b a h2) (mmR_far _ _ r b a h2)

theorem col_far (n k : Fin 512) (h : Far (X (ix2 n k)) ∨ Far (Y (ix2 n k))) (r : Fin 512) : Far (colR E X Y (ix2 r k)) ∨ Far (colI E X Y (ix2 r k)) := by
  have hh : ∃ a : Fin 256, (Far (sumT X (ix2 a k)) ∨ Far (sumT Y (ix2 a k))) ∧ (Far (difT X (ix2 a k)) ∨ Far (difT Y (ix2 a k))) := by
    rcases h with h | h
    · obtain ⟨a, h1, h2⟩ := halfT_far X n k h; exact ⟨a, Or.inl h1, Or.inl h2⟩
    · obtain ⟨a, h1, h2⟩ := halfT_far Y n k h; exact ⟨a, Or.inr h1, Or.inr h2⟩
  obtain ⟨a, h1, h2⟩ := hh
  unfold colR colI
  rw [hE.t6, hE.t7, hE.t8, hE.t9, hE.t10, hE.t11]
  rcases half_of r with ⟨b, rfl⟩ | ⟨b, rfl⟩
  · rw [above_t, above_t]; exact three (mmC_trio trio_6 _ _ b a k h1)
  · rw [above_b, above_b]; exact three (mmC_trio trio_9 _ _ b a k h2)
end

/-- A channel as a matrix. -/
def matI (v : Vec Ideal S1x1x512x512 .f32) : FVec Ideal S512x512 .f32 := shapeCast S512x512 v shapeCasts_S1x1x512x512_S512x512

/-- The sum of two matrices' squares. -/
def squares (A B : FVec Ideal S512x512 .f32) : FVec Ideal S512x512 .f32 := addf (mulf A A) (mulf B B)
theorem squares_at (A B : FVec Ideal S512x512 .f32) (i : S512x512.Idx) : squares A B i = A i * A i + B i * B i := rfl

theorem pairPow_parts (x : Vec Ideal S1x2x512x512 .f32) (E : Fin 12 → Vec Ideal S256x768 .bf16) : pairPow x E = squares
    (colR E (pairR E (matI (chan0 x)) (matI (chan1 x))) (pairI E (matI (chan0 x)) (matI (chan1 x))))
    (colI E (pairR E (matI (chan0 x)) (matI (chan1 x))) (pairI E (matI (chan0 x)) (matI (chan1 x)))) :=
  (show pairPow x E = shapeCast S512x512 (squares
    (colR E (pairR E (matI (chan0 x)) (matI (chan1 x))) (pairI E (matI (chan0 x)) (matI (chan1 x))))
    (colI E (pairR E (matI (chan0 x)) (matI (chan1 x))) (pairI E (matI (chan0 x)) (matI (chan1 x))))) shapeCasts_S512x512_S512x512 from rfl).trans (shapeCast_id _ _)

theorem pay59_parts (v : Vec Ideal S1x1x512x512 .f32) (E : Fin 12 → Vec Ideal S256x768 .bf16) (P : FVec Ideal S512x512 .f32) :
    k0_pay59 (third v E).v52 (third v E).v55 (third v E).v63 (third v E).v71 (third v E).v80 (third v E).v88 (third v E).v96 (third v E).v98 P
      = addf (addf P (mulf (colR E (oneR E (matI v)) (oneI E (matI v))) (colR E (oneR E (matI v)) (oneI E (matI v)))))
          (mulf (colI E (oneR E (matI v)) (oneI E (matI v))) (colI E (oneR E (matI v)) (oneI E (matI v)))) := rfl

section
variable {E : Fin 12 → Vec Ideal S256x768 .bf16} (hE : Tabs E fre)

theorem pairPow_nn (x : Vec Ideal S1x2x512x512 .f32) (i : S512x512.Idx) : (0 : EReal) ≤ pairPow x E i := by
  rw [pairPow_parts, squares_at]; exact add_nonneg (sq_nn _) (sq_nn _)

include hE
theorem pairPow_far (x : Vec Ideal S1x2x512x512 .f32) (r n : Fin 512) (h : Far (matI (chan0 x) (ix2 r n)) ∨ Far (matI (chan1 x) (ix2 r n))) (v u : Fin 512) :
    pairPow x E (ix2 v u) = (⊤ : EReal) := by
  rw [pairPow_parts, squares_at]
  exact square_top (col_far hE _ _ r u (pair_far hE _ _ r n h u) v)

/-- The power the search adds up, where the pair's is infinite or the third channel has an infinite entry. -/
theorem pay59_top (v : Vec Ideal S1x1x512x512 .f32) (P : FVec Ideal S512x512 .f32) (hP : ∀ i, (0 : EReal) ≤ P i)
    (h : (∀ r k : Fin 512, P (ix2 r k) = (⊤ : EReal)) ∨ ∃ r n : Fin 512, Far (matI v (ix2 r n))) (r k : Fin 512) :
    k0_pay59 (third v E).v52 (third v E).v55 (third v E).v63 (third v E).v71 (third v E).v80 (third v E).v88 (third v E).v96 (third v E).v98 P (ix2 r k) = (⊤ : EReal) := by
  rw [pay59_parts]
  have e : ∀ A B : FVec Ideal S512x512 .f32, addf (addf P (mulf A A)) (mulf B B) (ix2 r k) = (P (ix2 r k) + A (ix2 r k) * A (ix2 r k) + B (ix2 r k) * B (ix2 r k) : EReal) := fun _ _ => rfl
  rw [e, add_assoc]
  rcases h with h | ⟨a, n, h⟩
  · rw [h]; exact top_plus (add_nonneg (sq_nn _) (sq_nn _))
  · rw [square_top (col_far hE _ _ a k (one_far hE _ a n h k) r)]; exact plus_top (hP _)
end

end Cert.KernelIdeal.Hand
-- ==== Proof.FarCutoff.lean ====
/-
  The kernel's cut-off radius where the power is infinite: that of the first bin with a frequency up to it.
-/
module

public import proofs.«01_k».proof.Proof.FarPower
public import proofs.«01_k».proof.Proof.Cutoff

@[expose] public section

set_option maxRecDepth 16384

noncomputable section

namespace Cert.KernelIdeal.Hand

open Cert.KernelIdeal Cert.KernelIdeal.Gen
open Idealize.ShloMosaic

theorem sel_top (a : ℤ) (b : BitVec 32) :
    Scalar.select (Scalar.cmpf (F := Ideal) (φ := .f32) .ole ((a : ℝ) : EReal) (Scalar.sitofp .f32 b)) (⊤ : EReal) (Scalar.ofBits (F := Ideal) .f32 0x00000000#32)
      = if a ≤ b.toInt then ⊤ else 0 := by
  have e : Scalar.cmpf (F := Ideal) (φ := .f32) .ole ((a : ℝ) : EReal) (Scalar.sitofp .f32 b) = BitVec.ofBool (decide (((a : ℝ) : EReal) ≤ ((b.toInt : ℝ) : EReal))) := rfl
  have z : Scalar.ofBits (F := Ideal) .f32 0x00000000#32 = (0 : EReal) := Ideal.ofBits_zero_f32
  rw [e, z]
  by_cases h : a ≤ b.toInt
  · have h' : ((a : ℝ) : EReal) ≤ ((b.toInt : ℝ) : EReal) := by exact_mod_cast h
    simp [h, h', Scalar.select]
  · have h' : ¬ ((a : ℝ) : EReal) ≤ ((b.toInt : ℝ) : EReal) := by exact_mod_cast h
    simp [h, h', Scalar.select]

/-- The test of the search, as a function of the middle. -/
def hitT (b : BitVec 32) : BitVec 1 :=
  BitVec.ofBool (decide ((⊤ : EReal) ≤ ∑ r : Fin 512, ∑ k : Fin 512, (if (clipI ((binE (F := Ideal)) (ix2 (placeE r) (placeE k)))).toInt ≤ b.toInt then (⊤ : EReal) else 0)))

theorem hitT_from (b : BitVec 32) (h0 : -1 ≤ b.toInt) (h1 : b.toInt ≤ 99) : hitT b = from' (firstOcc (binE (F := Ideal))) b := by
  have key : (∃ r k : Fin 512, (clipI ((binE (F := Ideal)) (ix2 (placeE r) (placeE k)))).toInt ≤ b.toInt) ↔ (firstOcc (binE (F := Ideal)) : ℤ) ≤ b.toInt := by
    by_cases hb : b.toInt = -1
    · constructor
      · rintro ⟨r, k, h⟩
        have := clip_nonneg ((binE (F := Ideal)) (ix2 (placeE r) (placeE k)))
        omega
      · intro h; omega
    · obtain ⟨j, hj⟩ := Int.eq_ofNat_of_zero_le (show 0 ≤ b.toInt by omega)
      have hocc := occ_iff (binE (F := Ideal)) j (by omega)
      constructor
      · rintro ⟨r, k, h⟩
        have h' := (clip_le _ _ (by omega) h1).mp h
        have := hocc.mp ⟨placeE r, placeE k, by omega⟩
        omega
      · intro h
        obtain ⟨v, u, hv⟩ := hocc.mpr (by omega)
        refine ⟨placeE.symm v, placeE.symm u, (clip_le _ _ (by omega) h1).mpr ?_⟩
        rw [Equiv.apply_symm_apply, Equiv.apply_symm_apply, hj]
        exact hv
  have top := sum_top fun r k : Fin 512 => (clipI ((binE (F := Ideal)) (ix2 (placeE r) (placeE k)))).toInt ≤ b.toInt
  unfold hitT from'
  by_cases h : (firstOcc (binE (F := Ideal)) : ℤ) ≤ b.toInt
  · rw [if_pos h, decide_eq_true (top.mpr (key.mpr h))]; rfl
  · rw [if_neg h, decide_eq_false (fun h' => h (key.mp (top.mp h')))]; rfl

section
variable {x : Vec Ideal S1x2x512x512 .f32} {E : Fin 12 → Vec Ideal S256x768 .bf16} {P : FVec Ideal S512x512 .f32}
variable (hp : ∀ r k : Fin 512, k0_pay59 (third (chan0 x) E).v52 (third (chan0 x) E).v55 (third (chan0 x) E).v63 (third (chan0 x) E).v71 (third (chan0 x) E).v80 (third (chan0 x) E).v88
  (third (chan0 x) E).v96 (third (chan0 x) E).v98 P (ix2 r k) = (⊤ : EReal))
include hp

theorem pay60_top : k0_pay60 (third (chan0 x) E).v52 (third (chan0 x) E).v55 (third (chan0 x) E).v63 (third (chan0 x) E).v71 (third (chan0 x) E).v80 (third (chan0 x) E).v88
    (third (chan0 x) E).v96 (third (chan0 x) E).v98 P = (⊤ : EReal) := by
  rw [pay60_at, total_at, share_of]
  simp only [hp]
  rw [sum_all_top (0 : Fin 512) (0 : Fin 512), goal_top]

theorem pay61_top (l h : BitVec 32) : k0_pay61 (third (chan0 x) E).v52 (third (chan0 x) E).v55 (third (chan0 x) E).v63 (third (chan0 x) E).v71 (third (chan0 x) E).v80 (third (chan0 x) E).v88
    (third (chan0 x) E).v96 (third (chan0 x) E).v98 P (turn (clipE : FVec Ideal S512x512 .f32)) l h
      = (∑ r : Fin 512, ∑ k : Fin 512, (if (clipI ((binE (F := Ideal)) (ix2 (placeE r) (placeE k)))).toInt ≤ (middle l h).toInt then (⊤ : EReal) else 0)) := by
  rw [pay61_at, total_at, shapeCast_id]
  refine Finset.sum_congr rfl fun r _ => Finset.sum_congr rfl fun k _ => ?_
  refine Eq.trans ?_ (sel_top _ (middle l h))
  rw [← clip_at, ← turn_at (clipE : FVec Ideal S512x512 .f32) r k, ← hp r k]
  rfl

theorem halve_top (lh : BitVec 32 × BitVec 32) : halve (third (chan0 x) E) P (turn (clipE : FVec Ideal S512x512 .f32)) lh = step hitT lh := by
  unfold halve
  simp only []
  rw [pay60_top hp, pay61_top hp]
  rfl

/-- The cut-off radius. -/
theorem cutoff_top (j : S1x1x1.Idx) :
    cutoff x E P (turn (clipE : FVec Ideal S512x512 .f32)) (shapeCast S1x1x128 (padOf midE : FVec Ideal S128 .f32) shapeCasts_S128_S1x1x128) j
      = (midE : FVec Ideal S100 .f32) (ix1 ⟨min (firstOcc (binE (F := Ideal))) 99, by omega⟩) := by
  unfold cutoff
  simp only [halve_top hp]
  rw [search hitT (firstOcc (binE (F := Ideal))) (firstOcc_le _) hitT_from]
  refine Eq.trans ?_ (pay6_at (min (firstOcc (binE (F := Ideal))) 99) (by omega) midE j)
  have e := last_bin ⟨firstOcc (binE (F := Ideal)), Nat.lt_succ_of_le (firstOcc_le _)⟩
  rw [← e]
  rfl
end

end Cert.KernelIdeal.Hand
-- ==== Proof.FarRef.lean ====
/-
  The reference's power and radius of one image: what they depend on, and what an infinite entry makes of them.
-/
module

public import proofs.«01_k».proof.Proof.Far
public import proofs.«01_k».proof.Proof.RefCut

@[expose] public section

set_option maxRecDepth 16384

noncomputable section

namespace Cert.ReferenceIdeal.Hand

open Cert.ReferenceIdeal Cert.ReferenceIdeal.Gen
open Cert.KernelIdeal.Hand (ang W dft spec c2 coe_sum whole share least lit_share lit_least Far Far.sum Far.mul Far.mul' Far.add Far.add' Far.sub Far.sub' Far.neg square_top top_plus plus_top sq_nn
  sum_top sum_all_top firstOcc firstOcc_le occ_iff goal_top firstBin)
open Idealize.ShloMosaic

theorem along_at (x : FVec Ideal S16x3x512x512 .f32) (t : FVec Ideal S512x512 .f32) (b : Fin 16) (c : Fin 3) (r k : Fin 512) :
    alongR x t (ix4 b c r k) = (∑ n : Fin 512, x (ix4 b c r n) * t (ix2 k n) : EReal) := by
  pointwise [alongR]
theorem across_at (t : FVec Ideal S512x512 .f32) (x : FVec Ideal S16x3x512x512 .f32) (b : Fin 16) (c : Fin 3) (r k : Fin 512) :
    acrossR t x (ix4 b c r k) = (∑ n : Fin 512, t (ix2 r n) * x (ix4 b c n k) : EReal) := by
  pointwise [acrossR]
theorem neg_at (x : FVec Ideal S16x3x512x512 .f32) (i : S16x3x512x512.Idx) : Host.negf x i = (-(x i) : EReal) := rfl
theorem sq_at (s t : FVec Ideal S512x512 .f32) (p q : FVec Ideal S16x3x512x512 .f32) (i : S16x3x512x512.Idx) :
    sqR s t p q i = ((acrossR s p i + acrossR t q i) * (acrossR s p i + acrossR t q i) + (acrossR s q i - acrossR t p i) * (acrossR s q i - acrossR t p i) : EReal) := rfl
theorem pow_at (x : FVec Ideal S16x3x512x512 .f32) (s t : FVec Ideal S512x512 .f32) (b : Fin 16) (v u : Fin 512) :
    powR x s t (ix3 b v u) = (∑ c : Fin 3, sqR s t (alongR x s) (Host.negf (alongR x t)) (ix4 b c v u) : EReal) := by
  pointwise [powR]
theorem cum_at (b : IVec S512x512 32) (p : FVec Ideal S16x512x512 .f32) (i : Fin 16) (j : Fin 100) :
    cumR (uptoR b) p (ix2 i j) = (∑ v : Fin 512, ∑ u : Fin 512, Scalar.select (IntOp.cmpi .sle (b (ix2 v u)) (BitVec.ofNat 32 j.val)) (p (ix3 i v u)) 0 : EReal) := by
  pointwise [cumR, uptoR]
theorem thr_at (p : FVec Ideal S16x512x512 .f32) (i : Fin 16) :
    thrR p (ix2 i (0 : Fin 1)) = (Ideal.ofBits .f32 1064514355#32 * max (∑ v : Fin 512, ∑ u : Fin 512, p (ix3 i v u)) (Ideal.ofBits .f32 730643660#32) : EReal) := by
  pointwise [thrR]
theorem first_at (s : FVec Ideal S16x100 .f32) (t : FVec Ideal S16x1 .f32) (i : Fin 16) :
    firstR s t (ix1 i) = Finset.fold IntOp.minsi (2147483647#32) (fun x : Fin 100 => if (t (ix2 i (0 : Fin 1)) : EReal) ≤ s (ix2 i x) then BitVec.ofNat 32 x.val else 99#32) Finset.univ := by
  pointwise [firstR]

/-! The radius of an image depends on that image alone. -/

theorem pow_own (x y : FVec Ideal S16x3x512x512 .f32) (s t : FVec Ideal S512x512 .f32) (b : Fin 16) (h : ∀ c r k, x (ix4 b c r k) = y (ix4 b c r k)) (v u : Fin 512) :
    powR x s t (ix3 b v u) = powR y s t (ix3 b v u) := by
  simp only [pow_at, sq_at, across_at, neg_at, along_at, h]
theorem first_own (bins : IVec S512x512 32) (p q : FVec Ideal S16x512x512 .f32) (i : Fin 16) (h : ∀ v u, p (ix3 i v u) = q (ix3 i v u)) :
    firstR (cumR (uptoR bins) p) (thrR p) (ix1 i) = firstR (cumR (uptoR bins) q) (thrR q) (ix1 i) := by
  simp only [first_at, thr_at, cum_at, h]

/-! The power of an image with an infinite entry. -/

section
variable (x : FVec Ideal S16x3x512x512 .f32) (e d : ℕ → ℕ → ℝ) (nz : ∀ k n, e k n ≠ 0 ∨ d k n ≠ 0) (b : Fin 16) (c : Fin 3) (r n : Fin 512)
  (h : Far (x (ix4 b c r n)))
include nz h

theorem along_far (k : Fin 512) : Far (alongR x (c2 .f32 e) (ix4 b c r k)) ∨ Far (Host.negf (alongR x (c2 .f32 d)) (ix4 b c r k)) := by
  rw [neg_at, along_at, along_at]
  rcases nz k n with hz | hz
  · exact Or.inl (Far.sum _ (Finset.mem_univ n) (h.mul hz))
  · exact Or.inr (Far.sum _ (Finset.mem_univ n) (h.mul hz)).neg

theorem sq_far (v u : Fin 512) : sqR (c2 .f32 e) (c2 .f32 d) (alongR x (c2 .f32 e)) (Host.negf (alongR x (c2 .f32 d))) (ix4 b c v u) = (⊤ : EReal) := by
  rw [sq_at]
  refine square_top ?_
  have far : ∀ (p : FVec Ideal S16x3x512x512 .f32) (t : ℕ → ℕ → ℝ), Far (p (ix4 b c r u)) → t v r ≠ 0 → Far (acrossR (c2 .f32 t) p (ix4 b c v u)) := fun p t hp ht => by
    rw [across_at]; exact Far.sum _ (Finset.mem_univ r) (hp.mul' ht)
  rcases along_far x e d nz b c r n h u with hp | hp
  · rcases nz v r with hz | hz
    · exact Or.inl ((far _ _ hp hz).add _)
    · exact Or.inr ((far _ _ hp hz).sub' _)
  · rcases nz v r with hz | hz
    · exact Or.inr ((far _ _ hp hz).sub _)
    · exact Or.inl ((far _ _ hp hz).add' _)

theorem pow_far (v u : Fin 512) : powR x (c2 .f32 e) (c2 .f32 d) (ix3 b v u) = (⊤ : EReal) := by
  classical
  rw [pow_at, ← Finset.add_sum_erase _ _ (Finset.mem_univ c), sq_far x e d nz b c r n h v u]
  refine top_plus (Finset.sum_nonneg fun a _ => ?_)
  rw [sq_at]; exact add_nonneg (sq_nn _) (sq_nn _)
end

theorem ang_nz (k n : ℕ) : Real.cos (ang k n) ≠ 0 ∨ Real.sin (ang k n) ≠ 0 := by
  by_contra hc
  push Not at hc
  have := Real.cos_sq_add_sin_sq (ang k n)
  rw [hc.1, hc.2] at this
  norm_num at this

theorem first_top (bins : IVec S512x512 32) (p : FVec Ideal S16x512x512 .f32) (i : Fin 16) (h : ∀ v u, p (ix3 i v u) = (⊤ : EReal)) :
    firstR (cumR (uptoR bins) p) (thrR p) (ix1 i) = BitVec.ofNat 32 (min (firstOcc bins) 99) := by
  simp only [first_at, thr_at, cum_at, h]
  refine Eq.trans ?_ (least_from ⟨firstOcc bins, Nat.lt_succ_of_le (firstOcc_le bins)⟩)
  refine congrArg (fun f => Finset.fold IntOp.minsi (2147483647#32) f (Finset.univ : Finset (Fin 100))) (funext fun j => ?_)
  refine if_congr ?_ rfl rfl
  rw [sum_all_top (0 : Fin 512) (0 : Fin 512), goal_top]
  refine Iff.trans ?_ (occ_iff bins j.val j.isLt)
  refine Iff.trans (Eq.to_iff ?_) (sum_top fun v u : Fin 512 => (bins (ix2 v u)).toInt ≤ (j.val : ℤ))
  congr 1
  refine Finset.sum_congr rfl fun v _ => Finset.sum_congr rfl fun u _ => ?_
  have hj : j.val < 2 ^ 31 := lt_trans j.isLt (by norm_num)
  unfold Scalar.select IntOp.cmpi
  by_cases hb : (bins (ix2 v u)).toInt ≤ (j.val : ℤ)
  · simp [BitVec.sle, StableHlo.Predicate.toInt_ofNat_small _ hj, hb]
  · simp [BitVec.sle, StableHlo.Predicate.toInt_ofNat_small _ hj, hb]

/-- The radius of an image with an infinite entry: that of the first bin with a frequency up to it. -/
theorem cut_far (x : FVec Ideal S16x3x512x512 .f32) (b : Fin 16) (c : Fin 3) (r n : Fin 512) (h : Far (x (ix4 b c r n))) :
    cutR x (ix1 b) = midR (edgeR topR (constant (F := Ideal) S_ .f32 0x00000000#32)) (ix1 ⟨min (firstOcc (binR (F := Ideal))) 99, by omega⟩) := by
  have e : powR x (Host.cos (angR : FVec Ideal S512x512 .f32)) (Host.sin (angR : FVec Ideal S512x512 .f32))
      = powR x (c2 .f32 fun k n => Real.cos (ang k n)) (c2 .f32 fun k n => Real.sin (ang k n)) := by rw [ang_real]; rfl
  unfold cutR
  rw [e]
  exact pick_at _ _ b ⟨min (firstOcc (binR (F := Ideal))) 99, by omega⟩ (first_top _ _ b (pow_far x _ _ ang_nz b c r n h))

/-- The radius of an image of reals, whatever the others are. -/
theorem cut_near (x : FVec Ideal S16x3x512x512 .f32) (f : ℕ → ℕ → ℕ → ℕ → ℝ) (b : Fin 16)
    (h : ∀ c r k, x (ix4 (n0 := 16) (n1 := 3) (n2 := 512) (n3 := 512) b c r k) = ((f b.val c.val r.val k.val : ℝ) : EReal)) :
    cutR x (ix1 b) = midR (edgeR topR (constant (F := Ideal) S_ .f32 0x00000000#32)) (ix1 ⟨min (firstBin (binR (F := Ideal)) (spec fun c => f b.val c)) 99, by omega⟩) := by
  unfold cutR
  have hp := fun v u => pow_own x (c4 f) (Host.cos (angR : FVec Ideal S512x512 .f32)) (Host.sin (angR : FVec Ideal S512x512 .f32)) b (fun c r k => h c r k) v u
  refine pick_at _ _ b ⟨min (firstBin (binR (F := Ideal)) (spec fun c => f b.val c)) 99, by omega⟩ ((first_own _ _ _ b hp).trans ?_)
  rw [pow_real]
  exact first_real _ _ (fun a => spec_nonneg _) (ix1 b)

end Cert.ReferenceIdeal.Hand
-- ==== Proof.Value.lean ====
/-
  The program's radii and masks are the reference's, of every image.
-/
module

public import proofs.«01_k».proof.Proof.Final
public import proofs.«01_k».proof.Proof.Operand
public import proofs.«01_k».proof.Proof.Tables
public import proofs.«01_k».proof.Proof.Join
public import proofs.«01_k».proof.Proof.FarCutoff
public import proofs.«01_k».proof.Proof.FarRef

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

/-- The middles of one bin, over equal bins and equal middles. -/
theorem pick_congr (n : IVec S512x512 32 → ℕ) {B B' : IVec S512x512 32} {M M' : FVec Ideal S100 .f32} (hB : B = B') (hM : M = M') :
    M (ix1 ⟨min (n B) 99, by omega⟩) = M' (ix1 ⟨min (n B') 99, by omega⟩) := by
  subst hB; subst hM; rfl

theorem mat0_at (x : Vec Ideal S1x2x512x512 .f32) (r k : Fin 512) : matI (chan0 x) (ix2 r k) = x (ix4 0 0 r k) := by
  pointwise [matI, chan0]
theorem mat1_at (x : Vec Ideal S1x2x512x512 .f32) (r k : Fin 512) : matI (chan1 x) (ix2 r k) = x (ix4 0 1 r k) := by
  pointwise [matI, chan1]

variable (m : (ℓ : Loc nD τ sig) → Buf (Elt Ideal) ℓ) (c : Dev nD)

/-- The entries of the argument. -/
def entry (b : Fin 16) (d : Fin 3) (r k : Fin 512) : EReal := m ((c.tc : Thread nD τ).loc main_arg0) (ix4 (n0 := 16) (n1 := 3) (n2 := 512) (n3 := 512) b d r k)

/-- The entries as reals. -/
def entryR (b d r k : ℕ) : ℝ := if h : b < 16 ∧ d < 3 ∧ r < 512 ∧ k < 512 then (entry m c ⟨b, h.1⟩ ⟨d, h.2.1⟩ ⟨r, h.2.2.1⟩ ⟨k, h.2.2.2⟩).toReal else 0

/-- The radius of an image of reals, -/
theorem rad_real (b : Fin 16) (f : ℕ → ℕ → ℕ → ℕ → ℝ) (hv : ∀ d r k, entry m c b d r k = ((f b.val d.val r.val k.val : ℝ) : EReal)) : d0Of m c (4 * b.val + 3) (ix3 0 0 0)
    = (midE : FVec Ideal S100 .f32) (ix1 ⟨min (firstBin (binE (F := Ideal)) (spec fun d => f b.val d)) 99, by omega⟩) := by
  unfold d0Of binTab radTab
  rw [pairPow_real (tabs m c) _ (pair_img0 m c b f hv) (pair_img1 m c b f hv), arr_3, arr_4]
  exact cutoff_real (f := fun d : Fin 3 => f b.val d) (tabs m c) (third_img0 m c b f hv) _

/-- and of an image with an infinite entry. -/
theorem rad_far (b : Fin 16) (h : ∃ d r k, Far (entry m c b d r k)) : d0Of m c (4 * b.val + 3) (ix3 0 0 0)
    = (midE : FVec Ideal S100 .f32) (ix1 ⟨min (firstOcc (binE (F := Ideal))) 99, by omega⟩) := by
  unfold d0Of binTab radTab
  rw [arr_3, arr_4]
  refine cutoff_top (pay59_top (tabs m c) _ _ (pairPow_nn _) ?_) _
  obtain ⟨d, r, k, h⟩ := h
  fin_cases d
  · exact Or.inl (pairPow_far (tabs m c) _ r k (Or.inl (by rw [mat0_at, pair_0]; exact h)))
  · exact Or.inl (pairPow_far (tabs m c) _ r k (Or.inr (by rw [mat1_at, pair_1]; exact h)))
  · exact Or.inr ⟨r, k, by rw [mat0_at, third_0]; exact h⟩

theorem rad_same (b : Fin 16) : d0Of m c (4 * b.val + 3) (ix3 0 0 0) = Cert.ReferenceIdeal.Hand.cutR (F := Ideal) (m ((c.tc : Thread nD τ).loc main_arg0)) (ix1 b) := by
  by_cases h : ∃ d r k, Far (entry m c b d r k)
  · refine (rad_far m c b h).trans (Eq.trans ?_ (Eq.symm (by obtain ⟨d, r, k, h⟩ := h; exact Cert.ReferenceIdeal.Hand.cut_far _ b d r k h)))
    exact pick_congr firstOcc same_bin.symm same_mid.symm
  · have hv : ∀ d r k, entry m c b d r k = ((entryR m c b.val d.val r.val k.val : ℝ) : EReal) := fun d r k => by
      unfold entryR
      rw [dif_pos ⟨b.isLt, d.isLt, r.isLt, k.isLt⟩]
      exact real_of_near fun hf => h ⟨d, r, k, hf⟩
    refine (rad_real m c b (entryR m c) hv).trans (Eq.trans ?_ (Cert.ReferenceIdeal.Hand.cut_near (m ((c.tc : Thread nD τ).loc main_arg0)) (entryR m c) b hv).symm)
    exact pick_congr (fun B => firstBin B _) same_bin.symm same_mid.symm

theorem out_rad : (shapeCast S16 (endRad m c) shapeCasts_S16x1x1_S16 : FVec Ideal S16 .f32) = Cert.ReferenceIdeal.Hand.cutR (m ((c.tc : Thread nD τ).loc main_arg0)) := by
  funext i
  obtain ⟨b, rfl⟩ : ∃ b : Fin 16, i = ix1 b := ⟨i 0, by funext a; fin_cases a; rfl⟩
  refine Eq.trans ?_ (rad_same m c b)
  pointwise [endRad]

theorem out_low : endLow m c
    = Cert.ReferenceIdeal.Hand.inR (F := Ideal) Cert.ReferenceIdeal.Hand.radR (Cert.ReferenceIdeal.Hand.cutR (m ((c.tc : Thread nD τ).loc main_arg0))) := by
  funext i
  rw [Cert.ReferenceIdeal.Hand.in_at, same_rad, ← rad_same m c (i 0)]
  unfold endLow rrTab
  rw [arr_1, low_at]; rfl
theorem out_high : endHigh m c
    = Cert.ReferenceIdeal.Hand.outR (F := Ideal) (Cert.ReferenceIdeal.Hand.inR (F := Ideal) Cert.ReferenceIdeal.Hand.radR (Cert.ReferenceIdeal.Hand.cutR (m ((c.tc : Thread nD τ).loc main_arg0)))) := by
  funext i
  rw [Cert.ReferenceIdeal.Hand.out_at, same_rad, ← rad_same m c (i 0)]
  unfold endHigh rrTab
  rw [arr_1, high_at]; rfl

end Cert.KernelIdeal.Hand
-- ==== Proof.KernelImage.lean ====
/-
  The program's images, where the entries of its argument are real numbers: those of the frequencies within the
  image's radius and of the others, of every channel.
-/
module

public import proofs.«01_k».proof.Proof.Images
public import proofs.«01_k».proof.Proof.TablesInv
public import proofs.«01_k».proof.Proof.FinalImages
public import proofs.«01_k».proof.Proof.Value

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

theorem glue_at0 (u v : Vec Ideal S1x1x512x512 .f32) (y x : Fin 512) : glue u v (ix4 0 0 y x) = u (ix4 0 0 y x) :=
  congrArg u (funext fun a => by fin_cases a <;> rfl)
theorem glue_at1 (u v : Vec Ideal S1x1x512x512 .f32) (y x : Fin 512) : glue u v (ix4 0 1 y x) = v (ix4 0 0 y x) :=
  congrArg v (funext fun a => by fin_cases a <;> rfl)
theorem chan0_at (z : Vec Ideal S1x2x512x512 .f32) (y x : Fin 512) : chan0 z (ix4 0 0 y x) = z (ix4 0 0 y x) := by
  pointwise [chan0]
theorem chan1_at (z : Vec Ideal S1x2x512x512 .f32) (y x : Fin 512) : chan1 z (ix4 0 0 y x) = z (ix4 0 1 y x) := by
  pointwise [chan1]

variable (m : (ℓ : Loc nD τ sig) → Buf (Elt Ideal) ℓ) (c : Dev nD) (b : Fin 16) (y x : Fin 512)

theorem pt_two : (pt (4 * b.val + 2)).val = 4 * b.val + 2 := by show (4 * b.val + 2) % 64 = _; omega
theorem pt_three : (pt (4 * b.val + 3)).val = 4 * b.val + 3 := by show (4 * b.val + 3) % 64 = _; omega

theorem invP_two : invP m c (4 * b.val + 2) = invP m c (4 * b.val + 3) := by
  have h : (4 * b.val + 2) / 4 = (4 * b.val + 3) / 4 := by omega
  unfold invP; rw [d0Of_congr m c h, xpair_congr m c h]

/-! Where each channel's entry comes from. -/

theorem lowAt_0 : lowAt m c (pt (4 * b.val + 2)) (ix4 0 0 y x) = low0 (invP m c (4 * b.val + 3)) (tabG m c) (ix4 0 0 y x) := by
  unfold lowAt; rw [pt_two, if_pos (by omega), glue_at0, invP_two]
theorem lowAt_1 : lowAt m c (pt (4 * b.val + 2)) (ix4 0 1 y x) = low1 (invP m c (4 * b.val + 3)) (tabG m c) (ix4 0 0 y x) := by
  unfold lowAt; rw [pt_two, if_pos (by omega), glue_at1, invP_two]
theorem lowAt_2 : lowAt m c (pt (4 * b.val + 3)) (ix4 0 0 y x) = low2 (invT m c (4 * b.val + 3)) (tabG m c) (ix4 0 0 y x) := by
  unfold lowAt; rw [pt_three, if_neg (by omega), glue_at0]
theorem highAt_0 : highAt m c (pt (4 * b.val + 2)) (ix4 0 0 y x)
    = entry m c b 0 y x - low0 (invP m c (4 * b.val + 3)) (tabG m c) (ix4 0 0 y x) := by
  unfold highAt; rw [pt_two, if_pos (by omega), glue_at0, invP_two, high0_at, chan0_at]
  rw [xblk_at m c _ 0 y x b 0 (by rw [pt_two]; omega) (by rw [pt_two]; show 0 = 2 * ((4 * b.val + 2) % 2) + 0; omega)]; rfl
theorem highAt_1 : highAt m c (pt (4 * b.val + 2)) (ix4 0 1 y x)
    = entry m c b 1 y x - low1 (invP m c (4 * b.val + 3)) (tabG m c) (ix4 0 0 y x) := by
  unfold highAt; rw [pt_two, if_pos (by omega), glue_at1, invP_two, high1_at, chan1_at]
  rw [xblk_at m c _ 1 y x b 1 (by rw [pt_two]; omega) (by rw [pt_two]; show 1 = 2 * ((4 * b.val + 2) % 2) + 1; omega)]; rfl
theorem highAt_2 : highAt m c (pt (4 * b.val + 3)) (ix4 0 0 y x)
    = entry m c b 2 y x - low2 (invT m c (4 * b.val + 3)) (tabG m c) (ix4 0 0 y x) := by
  unfold highAt; rw [pt_three, if_neg (by omega), glue_at0, high2_at, chan0_at]
  rw [xblk_at m c _ 0 y x b 2 (by rw [pt_three]; omega) (by rw [pt_three]; show 2 = 2 * ((4 * b.val + 3) % 2) + 0; omega)]; rfl

variable (f : ℕ → ℕ → ℕ → ℕ → ℝ)
variable (hx : ∀ d r k, m ((c.tc : Thread nD τ).loc main_arg0) (ix4 (n0 := 16) (n1 := 3) (n2 := 512) (n3 := 512) b d r k) = ((f b.val d.val r.val k.val : ℝ) : EReal))
include hx

theorem low_0 : low0 (invP m c (4 * b.val + 3)) (tabG m c) (ix4 0 0 y x) = ((image (maskR (d0Of m c (4 * b.val + 3) (ix3 0 0 0))) (f b.val 0) y x : ℝ) : EReal) := by
  unfold invP rrpTab; rw [arr_2]
  exact low0_image (tabs m c) (tabsG m c) _ _ y x (pair_img0 m c b f hx) (pair_img1 m c b f hx)
theorem low_1 : low1 (invP m c (4 * b.val + 3)) (tabG m c) (ix4 0 0 y x) = ((image (maskR (d0Of m c (4 * b.val + 3) (ix3 0 0 0))) (f b.val 1) y x : ℝ) : EReal) := by
  unfold invP rrpTab; rw [arr_2]
  exact low1_image (tabs m c) (tabsG m c) _ _ y x (pair_img0 m c b f hx) (pair_img1 m c b f hx)
theorem low_2 : low2 (invT m c (4 * b.val + 3)) (tabG m c) (ix4 0 0 y x) = ((image (maskR (d0Of m c (4 * b.val + 3) (ix3 0 0 0))) (f b.val 2) y x : ℝ) : EReal) := by
  unfold invT rrpTab; rw [arr_2]
  exact low2_image (tabs m c) (tabsG m c) _ _ y x (third_img0 m c b f hx)

/-- The images of the frequencies within the radius, and of the others. -/
theorem endLow_at (d : Fin 3) : endLowImage m c (ix4 b d y x) = ((image (maskR (d0Of m c (4 * b.val + 3) (ix3 0 0 0))) (f b.val d.val) y x : ℝ) : EReal) := by
  fin_cases d
  · exact (lowAt_0 m c b y x).trans (low_0 m c b y x f hx)
  · exact (lowAt_1 m c b y x).trans (low_1 m c b y x f hx)
  · exact (lowAt_2 m c b y x).trans (low_2 m c b y x f hx)
theorem endHigh_at (d : Fin 3) :
    endHighImage m c (ix4 b d y x) = ((image (fun v u => 1 - maskR (d0Of m c (4 * b.val + 3) (ix3 0 0 0)) v u) (f b.val d.val) y x : ℝ) : EReal) := by
  fin_cases d
  · exact (highAt_0 m c b y x).trans (rest_at _ _ y x (hx 0 y x) (low_0 m c b y x f hx))
  · exact (highAt_1 m c b y x).trans (rest_at _ _ y x (hx 1 y x) (low_1 m c b y x f hx))
  · exact (highAt_2 m c b y x).trans (rest_at _ _ y x (hx 2 y x) (low_2 m c b y x f hx))

end Cert.KernelIdeal.Hand
-- ==== Proof.RefImage.lean ====
/-
  The reference's images, over the extended reals.
-/
module

public import proofs.«01_k».proof.Proof.RefPow
public import proofs.«01_k».proof.Proof.Inverse

@[expose] public section

set_option maxRecDepth 16384

noncomputable section

namespace Cert.ReferenceIdeal.Hand

open Cert.ReferenceIdeal Cert.ReferenceIdeal.Gen
open Cert.KernelIdeal.Hand (ang W dft c2 coe_sum quot idft masked image)
open Idealize.ShloMosaic

/-- The tables of the cosines and of the sines. -/
def cosT (k n : ℕ) : ℝ := Real.cos (ang k n)
def sinT (k n : ℕ) : ℝ := Real.sin (ang k n)
theorem cos_real : Host.cos (angR : FVec Ideal S512x512 .f32) = c2 .f32 cosT := by rw [ang_real]; rfl
theorem sin_real : Host.sin (angR : FVec Ideal S512x512 .f32) = c2 .f32 sinT := by rw [ang_real]; rfl

theorem lit_count : Ideal.ofBits .f32 0x48800000#32 = ((262144 : ℝ) : EReal) := by
  simp [Ideal.ofBits, Ideal.ieee, -EReal.coe_mul]; norm_num

variable (f g : ℕ → ℕ → ℕ → ℕ → ℝ)

theorem re_real : reR (c4 f) (c2 .f32 cosT) (c2 .f32 sinT) = c4 fun b d v u => (dft (f b d) 0 v u).re := by
  unfold reR
  rw [along_real, along_real, neg_real, across_real, across_real, add_real]
  congr 1
  funext b d v u
  rw [dft_parts]; rfl
theorem im_real : imR (c4 f) (c2 .f32 cosT) (c2 .f32 sinT) = c4 fun b d v u => (dft (f b d) 0 v u).im := by
  unfold imR
  rw [along_real, along_real, neg_real, across_real, across_real, sub_real]
  congr 1
  funext b d v u
  rw [dft_parts]; rfl

theorem back_real (t : ℕ → ℕ → ℝ) : backR (c4 f) (c2 .f32 t) = c4 fun b d r k => ∑ n : Fin 512, f b d r n * t n k := by
  funext j
  pointwise [backR, c4, c2]
  rw [← coe_sum]
  exact Finset.sum_congr rfl fun n _ => (EReal.coe_mul _ _).symm
theorem down_real (t : ℕ → ℕ → ℝ) : downR (c2 .f32 t) (c4 f) = c4 fun b d r k => ∑ n : Fin 512, t n r * f b d n k := by
  funext j
  pointwise [downR, c4, c2]
  rw [← coe_sum]
  exact Finset.sum_congr rfl fun n _ => (EReal.coe_mul _ _).symm
theorem every_real (μ : ℕ → ℕ → ℕ → ℝ) (p : FVec Ideal S16x1x512x512 .f32) (hp : ∀ i, p i = ((μ (i 0).val (i 2).val (i 3).val : ℝ) : EReal)) :
    everyR p = c4 fun b d v u => μ b v u := by
  funext j
  pointwise [everyR, c4]
  rw [hp]
  rfl
theorem scale_real : Host.divf (c4 f) (broadcastInDim S16x3x512x512 ![] bcast_S_S16x3x512x512 (constant S_ .f32 0x48800000#32)) = c4 fun b d y x => f b d y x / 262144 := by
  funext j
  pointwise [c4]
  rw [lit_count, quot _ _ (by norm_num)]

/-- The real part of an inverse transform. -/
theorem idft_re (P Q : ℕ → ℕ → ℝ) (y x : ℕ) : (idft (fun v u => ⟨P v u, Q v u⟩) y x).re
    = (∑ v : Fin 512, cosT v y * ((∑ u : Fin 512, P v u * cosT u x) - ∑ u : Fin 512, Q v u * sinT u x))
      - ∑ v : Fin 512, sinT v y * ((∑ u : Fin 512, P v u * sinT u x) + ∑ u : Fin 512, Q v u * cosT u x) := by
  have h : ∀ v : ℕ, (∑ u : Fin 512, (⟨P v u, Q v u⟩ : ℂ) * (starRingEnd ℂ) (W u x))
      = ⟨(∑ u : Fin 512, P v u * cosT u x) - ∑ u : Fin 512, Q v u * sinT u x, (∑ u : Fin 512, P v u * sinT u x) + ∑ u : Fin 512, Q v u * cosT u x⟩ := fun v => by
    apply Complex.ext
    · simp [Complex.re_sum, W, cosT, sinT, ← Finset.sum_sub_distrib]
    · simp [Complex.im_sum, W, cosT, sinT, ← Finset.sum_add_distrib]
  unfold idft
  simp only [h]
  simp only [Complex.re_sum, Complex.mul_re, Complex.conj_re, Complex.conj_im, W, ← Finset.sum_sub_distrib, cosT, sinT]
  exact Finset.sum_congr rfl fun v _ => by ring

theorem inv_real : invR (c4 f) (c4 g) (c2 .f32 cosT) (c2 .f32 sinT) = c4 fun b d y x => (idft (fun v u => ⟨f b d v u, g b d v u⟩) y x).re / 262144 := by
  unfold invR
  rw [back_real, back_real, back_real, back_real, sub_real, add_real, down_real, down_real, sub_real, scale_real]
  congr 1
  funext b d y x
  rw [idft_re]

/-- The image a mask of reals keeps. -/
theorem image_real (μ : ℕ → ℕ → ℕ → ℝ) (p : FVec Ideal S16x1x512x512 .f32) (hp : ∀ i, p i = ((μ (i 0).val (i 2).val (i 3).val : ℝ) : EReal)) :
    imageR (c4 f) p = c4 fun b d => image (μ b) (f b d) := by
  unfold imageR
  rw [cos_real, sin_real, re_real, im_real, every_real μ p hp, mul_real, mul_real, inv_real]
  congr 1
  funext b d y x
  unfold image
  congr 2
  refine congrFun (congrFun (congrArg idft ?_) y) x
  funext v u
  unfold masked
  apply Complex.ext
  · simp [mul_comm]
  · simp [mul_comm]

end Cert.ReferenceIdeal.Hand
-- ==== Proof.ValueImages.lean ====
/-
  The program's images are the reference's, of every image of real numbers.
-/
module

public import proofs.«01_k».proof.Proof.KernelImage
public import proofs.«01_k».proof.Proof.RefImage
public import proofs.«01_k».proof.Proof.Gen.Pre_finite

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

/-- Where every entry is less than infinity in size, the array holds real numbers. -/
theorem reals (x : FVec Ideal S16x3x512x512 .f32) (h : Cert.Pre_finite.fn (F := Ideal) x = fun _ => 1#1) :
    ∃ f : ℕ → ℕ → ℕ → ℕ → ℝ, x = Cert.ReferenceIdeal.Hand.c4 f := by
  refine ⟨fun b d r k => if h : b < 16 ∧ d < 3 ∧ r < 512 ∧ k < 512 then (x (ix4 ⟨b, h.1⟩ ⟨d, h.2.1⟩ ⟨r, h.2.2.1⟩ ⟨k, h.2.2.2⟩)).toReal else 0, ?_⟩
  funext i
  have hi := congrFun h i
  have hf : x i ≠ ⊤ ∧ x i ≠ ⊥ := by
    pointwise [Cert.Pre_finite.fn] at hi
    have hlt : max (x i) (-(x i)) < (⊤ : EReal) := by
      have ht : decide (FloatOps.absf (x i) < Ideal.ofBits FTy.f32 2139095040#32) = true := by
        cases hd : decide (FloatOps.absf (x i) < Ideal.ofBits FTy.f32 2139095040#32) with
        | true => rfl
        | false => rw [hd] at hi; exact absurd hi (by decide)
      exact lt_of_lt_of_le (of_decide_eq_true ht) le_top
    refine ⟨fun e => ?_, fun e => ?_⟩
    · rw [e] at hlt; exact absurd (lt_of_le_of_lt (le_max_left _ _) hlt) (lt_irrefl _)
    · rw [e, EReal.neg_bot] at hlt; exact absurd (lt_of_le_of_lt (le_max_right _ _) hlt) (lt_irrefl _)
  unfold Cert.ReferenceIdeal.Hand.c4
  beta_reduce
  rw [dif_pos ⟨(i 0).isLt, (i 1).isLt, (i 2).isLt, (i 3).isLt⟩]
  refine (EReal.coe_toReal hf.1 hf.2).symm.trans ?_
  refine congrArg (fun v => ((EReal.toReal v : ℝ) : EReal)) (congrArg x ?_)
  funext a; fin_cases a <;> rfl

/-- The masks of all images, by their radii. -/
def masksR (r : FVec Ideal S16 .f32) (b : ℕ) : ℕ → ℕ → ℝ := maskR (r (ix1 ⟨b % 16, Nat.mod_lt _ (by norm_num)⟩))

theorem masksR_at (r : FVec Ideal S16 .f32) (b : Fin 16) : masksR r b.val = maskR (r (ix1 b)) := by
  unfold masksR
  rw [show (⟨b.val % 16, Nat.mod_lt _ (by norm_num)⟩ : Fin 16) = b from Fin.ext (Nat.mod_eq_of_lt b.isLt)]

theorem in_real (r : FVec Ideal S16 .f32) (i : S16x1x512x512.Idx) :
    Cert.ReferenceIdeal.Hand.inR (F := Ideal) Cert.ReferenceIdeal.Hand.radR r i = ((masksR r (i 0).val (i 2).val (i 3).val : ℝ) : EReal) := by
  refine (Cert.ReferenceIdeal.Hand.in_at _ r i).trans ?_
  rw [same_rad]
  refine Eq.trans ?_ (congrArg (fun z : ℝ => (z : EReal)) ((congrFun (congrFun (masksR_at r (i 0)) _) _).trans (maskR_at (r (ix1 (i 0))) (i 2) (i 3))).symm)
  rfl
theorem out_real (r : FVec Ideal S16 .f32) (i : S16x1x512x512.Idx) :
    Cert.ReferenceIdeal.Hand.outR (Cert.ReferenceIdeal.Hand.inR (F := Ideal) Cert.ReferenceIdeal.Hand.radR r) i = ((1 - masksR r (i 0).val (i 2).val (i 3).val : ℝ) : EReal) := by
  refine (Cert.ReferenceIdeal.Hand.out_at _ r i).trans ?_
  rw [← Cert.ReferenceIdeal.Hand.in_at, in_real, EReal.coe_sub, EReal.coe_one]

variable (m : (ℓ : Loc nD τ sig) → Buf (Elt Ideal) ℓ) (c : Dev nD)
variable (f : ℕ → ℕ → ℕ → ℕ → ℝ) (hf : m ((c.tc : Thread nD τ).loc main_arg0) = Cert.ReferenceIdeal.Hand.c4 f)
include hf

theorem out_low_image : endLowImage m c = Cert.ReferenceIdeal.Hand.imageR (F := Ideal) (m ((c.tc : Thread nD τ).loc main_arg0))
    (Cert.ReferenceIdeal.Hand.inR Cert.ReferenceIdeal.Hand.radR (Cert.ReferenceIdeal.Hand.cutR (m ((c.tc : Thread nD τ).loc main_arg0)))) := by
  have e := Cert.ReferenceIdeal.Hand.image_real f _ _ (in_real (Cert.ReferenceIdeal.Hand.cutR (F := Ideal) (m ((c.tc : Thread nD τ).loc main_arg0))))
  rw [← hf] at e
  rw [e]
  funext i
  obtain ⟨b, d, y, x, rfl⟩ : ∃ (b : Fin 16) (d : Fin 3) (y x : Fin 512), i = ix4 b d y x := ⟨i 0, i 1, i 2, i 3, ValueIdx.eq_ix4 i⟩
  rw [endLow_at m c b y x f (fun d r k => congrFun hf (ix4 b d r k)) d, rad_same m c b, ← masksR_at]
  rfl
theorem out_high_image : endHighImage m c = Cert.ReferenceIdeal.Hand.imageR (F := Ideal) (m ((c.tc : Thread nD τ).loc main_arg0))
    (Cert.ReferenceIdeal.Hand.outR (Cert.ReferenceIdeal.Hand.inR Cert.ReferenceIdeal.Hand.radR (Cert.ReferenceIdeal.Hand.cutR (m ((c.tc : Thread nD τ).loc main_arg0))))) := by
  have e := Cert.ReferenceIdeal.Hand.image_real f (fun b v u => 1 - masksR _ b v u) _ (out_real (Cert.ReferenceIdeal.Hand.cutR (F := Ideal) (m ((c.tc : Thread nD τ).loc main_arg0))))
  rw [← hf] at e
  rw [e]
  funext i
  obtain ⟨b, d, y, x, rfl⟩ : ∃ (b : Fin 16) (d : Fin 3) (y x : Fin 512), i = ix4 b d y x := ⟨i 0, i 1, i 2, i 3, ValueIdx.eq_ix4 i⟩
  rw [endHigh_at m c b y x f (fun d r k => congrFun hf (ix4 b d r k)) d, rad_same m c b, ← masksR_at]
  rfl

end Cert.KernelIdeal.Hand
-- ==== Proof.lean ====
/-
  The proof of `Cert.Claim` (proofs.«01_k».proof.Defs): the kernel as printed and its ideal reading end with
  their argument unchanged and every semaphore counter at zero (Proof/Bits/Run.lean, Proof/Run.lean), and so does
  the reference; and on images of real numbers the ideal readings end with equal results (Proof/Value.lean, Proof/ValueImages.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Run
public import proofs.«01_k».proof.Proof.Ref
public import proofs.«01_k».proof.Proof.ValueImages
public import proofs.«01_k».proof.Proof.Bits.Run
public import Idealize.ShloMosaic.Lib.Quiescent

@[expose] public section

noncomputable section

namespace Cert.Proof

open Idealize.ShloMosaic Idealize.SL.Sem

/-- The reference ends with its argument unchanged; it declares no semaphore. -/
theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2.2.2.2.2, sem_eq_zero_of_no_sems (by decide) r.2⟩) (Cert.ReferenceIdeal.Value.run m g)

/-- Both end with the reference's images, radii and masks of the argument they were given. -/
theorem same_results : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m g m' g' hpre hargs
  refine ⟨_, _, _, _, _, ?_, Cert.ReferenceIdeal.Hand.ends m' g'⟩
  refine (θ_run _ _ _).mono (fun r h c => ?_) (Cert.KernelIdeal.Hand.ends m g)
  obtain ⟨f, hf⟩ := Cert.KernelIdeal.Hand.reals _ (hpre c)
  obtain ⟨h0, h1, h2, h3, h4, h5⟩ := h c
  rw [hargs c]
  exact ⟨h0.trans (Cert.KernelIdeal.Hand.out_high_image m c f hf), h1.trans (Cert.KernelIdeal.Hand.out_low_image m c f hf),
    h2.trans (Cert.KernelIdeal.Hand.out_rad m c), h3.trans (Cert.KernelIdeal.Hand.out_low m c), h4.trans (Cert.KernelIdeal.Hand.out_high m c), h5⟩

theorem claim : Cert.Claim := ⟨Cert.Kernel.Gen.facts, Cert.KernelIdeal.Gen.facts, Cert.ReferenceIdeal.Gen.facts, Cert.Pre_finite.Gen.facts,
  fun m g _ => Cert.Kernel.Hand.quiet m g, fun m g _ => Cert.KernelIdeal.Hand.quiet m g, fun m g _ => Cert.KernelIdeal.Hand.quiet m g,
  fun m g _ => reference_quiet m g, fun m g _ => reference_quiet m g, trivial, same_results⟩

end Cert.Proof

end
